-- ==== Defs.lean ====
def Pre_Kernel [hPre_maps_named : Cert.Pre_maps_named.Facts] (m : (ℓ : Loc Cert.Kernel.nD Cert.Kernel.τ Cert.Kernel.sig) → Buf (Elt Bits) ℓ) : Prop :=
  ∀ c : Dev Cert.Kernel.nD,
    (Cert.Pre_maps_named.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_maps_named : Cert.Pre_maps_named.Facts] (m : (ℓ : Loc Cert.KernelIdeal.nD Cert.KernelIdeal.τ Cert.KernelIdeal.sig) → Buf (Elt Ideal) ℓ) : Prop :=
  ∀ c : Dev Cert.KernelIdeal.nD,
    (Cert.Pre_maps_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_boxes_fit [hPre_boxes_fit : Cert.Pre_boxes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_fit [hPre_boxes_fit : Cert.Pre_boxes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_maps_named : Cert.Pre_maps_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_maps_named : Cert.Pre_maps_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_fit [hKernelIdeal : Cert.KernelIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_fit [hReferenceIdeal : Cert.ReferenceIdeal.Facts] [hPre_boxes_fit : Cert.Pre_boxes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_fit [hKernelIdeal : Cert.KernelIdeal.Facts] [hReferenceIdeal : Cert.ReferenceIdeal.Facts] [hPre_boxes_fit : Cert.Pre_boxes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v365) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_maps_named : Cert.Pre_maps_named.Facts) (hPre_boxes_fit : Cert.Pre_boxes_fit.Facts),
    quiescent_Kernel (hKernel := hKernel) (hPre_maps_named := hPre_maps_named)
    ∧ quiescent_KernelIdeal (hKernelIdeal := hKernelIdeal) (hPre_maps_named := hPre_maps_named)
    ∧ quiescent_KernelIdeal_pre_boxes_fit (hKernelIdeal := hKernelIdeal) (hPre_boxes_fit := hPre_boxes_fit)
    ∧ quiescent_ReferenceIdeal (hReferenceIdeal := hReferenceIdeal)
    ∧ quiescent_ReferenceIdeal_pre_boxes_fit (hReferenceIdeal := hReferenceIdeal) (hPre_boxes_fit := hPre_boxes_fit)
    ∧ preserves_Kernel_KernelIdeal
    ∧ algebraic_KernelIdeal_ReferenceIdeal_pre_boxes_fit (hKernelIdeal := hKernelIdeal) (hReferenceIdeal := hReferenceIdeal) (hPre_boxes_fit := hPre_boxes_fit)
-- ==== Pre_boxes_fit.lean ====
abbrev S4x256x200x200 : Shape := ⟨4, ![4, 256, 200, 200]⟩
abbrev S256x2x5 : Shape := ⟨3, ![256, 2, 5]⟩
abbrev S256x1x1 : Shape := ⟨3, ![256, 1, 1]⟩
abbrev S256 : Shape := ⟨1, ![256]⟩
abbrev S256x2x1 : Shape := ⟨3, ![256, 2, 1]⟩
abbrev S256x2 : Shape := ⟨2, ![256, 2]⟩
abbrev S_ : Shape := ⟨0, ![]⟩

class Facts : Prop where
  slices_S256x2x5_S256x1x1_0_0_0 : S256x2x5.Slices ![0, 0, 0] S256x1x1
  shapeCasts_S256x1x1_S256 : S256x1x1.ShapeCasts S256
  slices_S256x2x5_S256x2x1_0_0_3 : S256x2x5.Slices ![0, 0, 3] S256x2x1
  shapeCasts_S256x2x1_S256x2 : S256x2x1.ShapeCasts S256x2
  reducesTo_S256x2_S256_d1 : S256x2.ReducesTo [1] S256
  h_S_ : 0 < S_.numel
  slices_S256x2x5_S256x2x1_0_0_1 : S256x2x5.Slices ![0, 0, 1] S256x2x1
  slices_S256x2x5_S256x2x1_0_0_4 : S256x2x5.Slices ![0, 0, 4] S256x2x1
  slices_S256x2x5_S256x2x1_0_0_2 : S256x2x5.Slices ![0, 0, 2] S256x2x1
  bcast_S_S256 : S_.BroadcastsInDim S256 (![] : Fin 0 → Fin S256.rank)
  reducesTo_S256_S_d0 : S256.ReducesTo [0] S_

variable [Facts]

def fn_part1 {F : FTy → Type} [FloatOps F] (main_v2 : IVec S256 32) (main_v9 : FVec F S256 .f32) (main_v16 : FVec F S256 .f32) (main_v18 : IVec S256 1) : IVec S_ 1 :=
  let main_c_3 : IVec S_ 32 := constantI S_ 32 4#32
  let main_v19 : IVec S256 32 := broadcastInDim S256 ![] bcast_S_S256 main_c_3
  let main_v20 : IVec S256 1 := cmpi .slt main_v2 main_v19
  let main_v21 : IVec S256 1 := andi main_v18 main_v20
  let main_cst_4 : FVec F S_ .f32 := constant S_ .f32 0x437C0000#32
  let main_v22 : FVec F S256 .f32 := broadcastInDim S256 ![] bcast_S_S256 main_cst_4
  let main_v23 : IVec S256 1 := cmpf .ole main_v9 main_v22
  let main_v24 : IVec S256 1 := andi main_v21 main_v23
  let main_cst_5 : FVec F S_ .f32 := constant S_ .f32 0x437C0000#32
  let main_v25 : FVec F S256 .f32 := broadcastInDim S256 ![] bcast_S_S256 main_cst_5
  let main_v26 : IVec S256 1 := cmpf .ole main_v16 main_v25
  let main_v27 : IVec S256 1 := andi main_v24 main_v26
  let main_c_6 : IVec S_ 1 := constantI S_ 1 1#1
  let main_v28 : IVec S_ 1 := (fun x v => Host.reduce IntOp.andi x v reducesTo_S256_S_d0 h_S_) main_v27 main_c_6
  main_v28

def fn {F : FTy → Type} [FloatOps F] (main_arg0 : FVec F S4x256x200x200 .f32) (main_arg1 : FVec F S256x2x5 .f32) : IVec S_ 1 :=
  let main_v0 : FVec F S256x1x1 .f32 := (extractStridedSlice S256x1x1 ![0, 0, 0] · slices_S256x2x5_S256x1x1_0_0_0) main_arg1
  let main_v1 : FVec F S256 .f32 := shapeCast S256 main_v0 shapeCasts_S256x1x1_S256
  let main_v2 : IVec S256 32 := fptosi 32 main_v1
  let main_v3 : FVec F S256x2x1 .f32 := (extractStridedSlice S256x2x1 ![0, 0, 3] · slices_S256x2x5_S256x2x1_0_0_3) main_arg1
  let main_v4 : FVec F S256x2 .f32 := shapeCast S256x2 main_v3 shapeCasts_S256x2x1_S256x2
  let main_cst : FVec F S_ .f32 := constant S_ .f32 0xFF800000#32
  let main_v5 : FVec F S256 .f32 := (fun x v => Host.reduce FloatOps.maximumf x v reducesTo_S256x2_S256_d1 h_S_) main_v4 main_cst
  let main_v6 : FVec F S256x2x1 .f32 := (extractStridedSlice S256x2x1 ![0, 0, 1] · slices_S256x2x5_S256x2x1_0_0_1) main_arg1
  let main_v7 : FVec F S256x2 .f32 := shapeCast S256x2 main_v6 shapeCasts_S256x2x1_S256x2
  let main_cst_0 : FVec F S_ .f32 := constant S_ .f32 0x7F800000#32
  let main_v8 : FVec F S256 .f32 := (fun x v => Host.reduce FloatOps.minimumf x v reducesTo_S256x2_S256_d1 h_S_) main_v7 main_cst_0
  let main_v9 : FVec F S256 .f32 := subf main_v5 main_v8
  let main_v10 : FVec F S256x2x1 .f32 := (extractStridedSlice S256x2x1 ![0, 0, 4] · slices_S256x2x5_S256x2x1_0_0_4) main_arg1
  let main_v11 : FVec F S256x2 .f32 := shapeCast S256x2 main_v10 shapeCasts_S256x2x1_S256x2
  let main_cst_1 : FVec F S_ .f32 := constant S_ .f32 0xFF800000#32
  let main_v12 : FVec F S256 .f32 := (fun x v => Host.reduce FloatOps.maximumf x v reducesTo_S256x2_S256_d1 h_S_) main_v11 main_cst_1
  let main_v13 : FVec F S256x2x1 .f32 := (extractStridedSlice S256x2x1 ![0, 0, 2] · slices_S256x2x5_S256x2x1_0_0_2) main_arg1
  let main_v14 : FVec F S256x2 .f32 := shapeCast S256x2 main_v13 shapeCasts_S256x2x1_S256x2
  let main_cst_2 : FVec F S_ .f32 := constant S_ .f32 0x7F800000#32
  let main_v15 : FVec F S256 .f32 := (fun x v => Host.reduce FloatOps.minimumf x v reducesTo_S256x2_S256_d1 h_S_) main_v14 main_cst_2
  let main_v16 : FVec F S256 .f32 := subf main_v12 main_v15
  let main_c : IVec S_ 32 := constantI S_ 32 0#32
  let main_v17 : IVec S256 32 := broadcastInDim S256 ![] bcast_S_S256 main_c
  let main_v18 : IVec S256 1 := cmpi .sge main_v2 main_v17
  fn_part1 (F := F) main_v2 main_v9 main_v16 main_v18
-- ==== Pre_maps_named.lean ====
abbrev S4x256x200x200 : Shape := ⟨4, ![4, 256, 200, 200]⟩
abbrev S256x2x5 : Shape := ⟨3, ![256, 2, 5]⟩
abbrev S256x1x1 : Shape := ⟨3, ![256, 1, 1]⟩
abbrev S256 : Shape := ⟨1, ![256]⟩
abbrev S_ : Shape := ⟨0, ![]⟩

class Facts : Prop where
  slices_S256x2x5_S256x1x1_0_0_0 : S256x2x5.Slices ![0, 0, 0] S256x1x1
  shapeCasts_S256x1x1_S256 : S256x1x1.ShapeCasts S256
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S4x256x200x200 .f32) (main_arg1 : FVec F S256x2x5 .f32) : IVec S_ 1 :=
  let main_v0 : FVec F S256x1x1 .f32 := (extractStridedSlice S256x1x1 ![0, 0, 0] · slices_S256x2x5_S256x1x1_0_0_0) main_arg1
  let main_v1 : FVec F S256 .f32 := shapeCast S256 main_v0 shapeCasts_S256x1x1_S256
  let main_v2 : IVec S256 32 := fptosi 32 main_v1
  let main_c : IVec S_ 32 := constantI S_ 32 0#32
  let main_v3 : IVec S256 32 := broadcastInDim S256 ![] bcast_S_S256 main_c
  let main_v4 : IVec S256 1 := cmpi .sge main_v2 main_v3
  let main_c_0 : IVec S_ 32 := constantI S_ 32 4#32
  let main_v5 : IVec S256 32 := broadcastInDim S256 ![] bcast_S_S256 main_c_0
  let main_v6 : IVec S256 1 := cmpi .slt main_v2 main_v5
  let main_v7 : IVec S256 1 := andi main_v4 main_v6
  let main_c_1 : IVec S_ 1 := constantI S_ 1 1#1
  let main_v8 : IVec S_ 1 := (fun x v => Host.reduce IntOp.andi x v reducesTo_S256_S_d0 h_S_) main_v7 main_c_1
  main_v8
-- ==== Kernel.lean ====
abbrev S4x256x200x200 : Shape := ⟨4, ![4, 256, 200, 200]⟩
abbrev S256x2x5 : Shape := ⟨3, ![256, 2, 5]⟩
abbrev S256x10 : Shape := ⟨2, ![256, 10]⟩
abbrev S4x200x200x256 : Shape := ⟨4, ![4, 200, 200, 256]⟩
abbrev S4x200x51200 : Shape := ⟨3, ![4, 200, 51200]⟩
abbrev S256x14x14x512 : Shape := ⟨4, ![256, 14, 14, 512]⟩
abbrev S4x14x14x512 : Shape := ⟨4, ![4, 14, 14, 512]⟩
abbrev S2x4x80x16384 : Shape := ⟨4, ![2, 4, 80, 16384]⟩
abbrev S2x4 : Shape := ⟨2, ![2, 4]⟩
abbrev S1x1 : Shape := ⟨2, ![1, 1]⟩
abbrev S_ : Shape := ⟨0, ![]⟩
abbrev S1x1x80x16384 : Shape := ⟨4, ![1, 1, 80, 16384]⟩
abbrev S80x16384 : Shape := ⟨2, ![80, 16384]⟩
abbrev S1x80x16384 : Shape := ⟨3, ![1, 80, 16384]⟩
abbrev S14x14 : Shape := ⟨2, ![14, 14]⟩
abbrev S14x80 : Shape := ⟨2, ![14, 80]⟩
abbrev S14x64 : Shape := ⟨2, ![14, 64]⟩
abbrev S14x16384 : Shape := ⟨2, ![14, 16384]⟩
abbrev S14x64x256 : Shape := ⟨3, ![14, 64, 256]⟩
abbrev S1x64x256 : Shape := ⟨3, ![1, 64, 256]⟩
abbrev S64x256 : Shape := ⟨2, ![64, 256]⟩
abbrev S14x256 : Shape := ⟨2, ![14, 256]⟩
abbrev S1x14x256 : Shape := ⟨3, ![1, 14, 256]⟩
abbrev S14x14x256 : Shape := ⟨3, ![14, 14, 256]⟩
abbrev S14x14x1 : Shape := ⟨3, ![14, 14, 1]⟩
abbrev S1x14x14x256 : Shape := ⟨4, ![1, 14, 14, 256]⟩
abbrev S256x512x14x14 : Shape := ⟨4, ![256, 512, 14, 14]⟩

abbrev nBuf : Space → Nat
  | .hbm => 8
  | .vmem => 3
  | .smem => 1
  | _ => 0

abbrev bufTy : (tb : Table) → Fin (tcTables nBuf tb) → BufTy
  | .hbm, ⟨0, _⟩ => ⟨S4x256x200x200, .f32⟩
  | .hbm, ⟨1, _⟩ => ⟨S256x2x5, .f32⟩
  | .hbm, ⟨2, _⟩ => ⟨S256x10, .f32⟩
  | .hbm, ⟨3, _⟩ => ⟨S4x200x200x256, .f32⟩
  | .hbm, ⟨4, _⟩ => ⟨S4x200x200x256, .bf16⟩
  | .hbm, ⟨5, _⟩ => ⟨S4x200x51200, .bf16⟩
  | .hbm, ⟨6, _⟩ => ⟨S256x14x14x512, .f32⟩
  | .hbm, ⟨7, _⟩ => ⟨S256x512x14x14, .f32⟩
  | .local _ .vmem, ⟨0, _⟩ => ⟨S4x14x14x512, .f32⟩
  | .local _ .vmem, ⟨1, _⟩ => ⟨S4x14x14x512, .f32⟩
  | .local _ .vmem, ⟨2, _⟩ => ⟨S2x4x80x16384, .bf16⟩
  | .local _ .smem, ⟨0, _⟩ => ⟨S256x10, .f32⟩
  | _, _ => ⟨S4x256x200x200, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v1727 : BitVec 32) : BitVec 32 :=
  let c120_i32_517 : BitVec 32 := 120#32
  let c0_i32_516 : BitVec 32 := 0#32
  let c_m16_i32_515 : BitVec 32 := 4294967280#32
  let v1728 : BitVec 32 := Scalar.andi v1727 c_m16_i32_515
  let v1729 : BitVec 32 := Scalar.maxsi c0_i32_516 v1728
  let v1730 : BitVec 32 := Scalar.minsi c120_i32_517 v1729
  v1730

def k0_chk1 (i : grid0.Coords) (v1727 : BitVec 32) : Prop :=
  (∀ (k0_h1 : k0_cond1 i = 1#1), 8 ∣ (k0_mult1 v1727).toNat)
theorem k0_mult1_dvd : ∀ (i : grid0.Coords) (v1727 : BitVec 32) (k0_hw1 : k0_chk1 i v1727), ∀ (k0_h1 : k0_cond1 i = 1#1), 8 ∣ (k0_mult1 v1727).toNat := fun i v1727 k0_hw1 k0_h1 => k0_hw1 k0_h1

def k0_off1 (v1718 : BitVec 32) (v1727 : BitVec 32) (v1734 : BitVec 32) : Fin 3 → Nat :=
  let c120_i32_517 : BitVec 32 := 120#32
  let c0_i32_516 : BitVec 32 := 0#32
  let c_m16_i32_515 : BitVec 32 := 4294967280#32
  let v1728 : BitVec 32 := Scalar.andi v1727 c_m16_i32_515
  let v1729 : BitVec 32 := Scalar.maxsi c0_i32_516 v1728
  let v1730 : BitVec 32 := Scalar.minsi c120_i32_517 v1729
  let v1731 : BitVec 32 := v1730
  let c136_i32_520 : BitVec 32 := 136#32
  let c0_i32_519 : BitVec 32 := 0#32
  let v1735 : BitVec 32 := Scalar.maxsi c0_i32_519 v1734
  let v1736 : BitVec 32 := Scalar.minsi c136_i32_520 v1735
  let c256_i32_521 : BitVec 32 := 256#32
  let v1737 : BitVec 32 := Scalar.muli v1736 c256_i32_521
  ![v1718.toNat, v1731.toNat, v1737.toNat]

def k0_chk2 (i : grid0.Coords) (v1718 : BitVec 32) (v1727 : BitVec 32) (v1734 : BitVec 32) : Prop :=
  (∀ (k0_h1 : k0_cond1 i = 1#1), ∀ a, (k0_off1 v1718 v1727 v1734) a + S1x80x16384.size a ≤ S4x200x51200.size a) ∧
  (∀ (k0_h1 : k0_cond1 i = 1#1), ∀ (hinb : ∀ a, (k0_off1 v1718 v1727 v1734) a + S1x80x16384.size a ≤ S4x200x51200.size a), (Rect.unit (s := S4x200x51200) (k0_off1 v1718 v1727 v1734) S1x80x16384.size hinb).WholeWords (EltTy.packing .bf16))
theorem k0_off1_inb : ∀ (i : grid0.Coords) (v1718 : BitVec 32) (v1727 : BitVec 32) (v1734 : BitVec 32) (k0_hw2 : k0_chk2 i v1718 v1727 v1734), ∀ (k0_h1 : k0_cond1 i = 1#1), ∀ a, (k0_off1 v1718 v1727 v1734) a + S1x80x16384.size a ≤ S4x200x51200.size a := fun i v1718 v1727 v1734 k0_hw2 k0_h1 => k0_hw2.1 k0_h1
theorem k0_off1_wordsbf16 : ∀ (i : grid0.Coords) (v1718 : BitVec 32) (v1727 : BitVec 32) (v1734 : BitVec 32) (k0_hw2 : k0_chk2 i v1718 v1727 v1734), ∀ (k0_h1 : k0_cond1 i = 1#1), (Rect.unit (s := S4x200x51200) (k0_off1 v1718 v1727 v1734) S1x80x16384.size (k0_off1_inb i v1718 v1727 v1734 k0_hw2 k0_h1)).WholeWords (EltTy.packing .bf16) := fun i v1718 v1727 v1734 k0_hw2 k0_h1 => k0_hw2.2 k0_h1 (k0_off1_inb i v1718 v1727 v1734 k0_hw2 k0_h1)

def k0_mult2 (v1754 : BitVec 32) : BitVec 32 :=
  let c120_i32_541 : BitVec 32 := 120#32
  let c0_i32_540 : BitVec 32 := 0#32
  let c_m16_i32_539 : BitVec 32 := 4294967280#32
  let v1755 : BitVec 32 := Scalar.andi v1754 c_m16_i32_539
  let v1756 : BitVec 32 := Scalar.maxsi c0_i32_540 v1755
  let v1757 : BitVec 32 := Scalar.minsi c120_i32_541 v1756
  v1757

def k0_chk3 (i : grid0.Coords) (v1754 : BitVec 32) : Prop :=
  (∀ (k0_h1 : k0_cond1 i = 1#1), 8 ∣ (k0_mult2 v1754).toNat)
theorem k0_mult2_dvd : ∀ (i : grid0.Coords) (v1754 : BitVec 32) (k0_hw3 : k0_chk3 i v1754), ∀ (k0_h1 : k0_cond1 i = 1#1), 8 ∣ (k0_mult2 v1754).toNat := fun i v1754 k0_hw3 k0_h1 => k0_hw3 k0_h1

def k0_off2 (v1745 : BitVec 32) (v1754 : BitVec 32) (v1761 : BitVec 32) : Fin 3 → Nat :=
  let c120_i32_541 : BitVec 32 := 120#32
  let c0_i32_540 : BitVec 32 := 0#32
  let c_m16_i32_539 : BitVec 32 := 4294967280#32
  let v1755 : BitVec 32 := Scalar.andi v1754 c_m16_i32_539
  let v1756 : BitVec 32 := Scalar.maxsi c0_i32_540 v1755
  let v1757 : BitVec 32 := Scalar.minsi c120_i32_541 v1756
  let v1758 : BitVec 32 := v1757
  let c136_i32_544 : BitVec 32 := 136#32
  let c0_i32_543 : BitVec 32 := 0#32
  let v1762 : BitVec 32 := Scalar.maxsi c0_i32_543 v1761
  let v1763 : BitVec 32 := Scalar.minsi c136_i32_544 v1762
  let c256_i32_545 : BitVec 32 := 256#32
  let v1764 : BitVec 32 := Scalar.muli v1763 c256_i32_545
  ![v1745.toNat, v1758.toNat, v1764.toNat]

def k0_chk4 (i : grid0.Coords) (v1745 : BitVec 32) (v1754 : BitVec 32) (v1761 : BitVec 32) : Prop :=
  (∀ (k0_h1 : k0_cond1 i = 1#1), ∀ a, (k0_off2 v1745 v1754 v1761) a + S1x80x16384.size a ≤ S4x200x51200.size a) ∧
  (∀ (k0_h1 : k0_cond1 i = 1#1), ∀ (hinb : ∀ a, (k0_off2 v1745 v1754 v1761) a + S1x80x16384.size a ≤ S4x200x51200.size a), (Rect.unit (s := S4x200x51200) (k0_off2 v1745 v1754 v1761) S1x80x16384.size hinb).WholeWords (EltTy.packing .bf16))
theorem k0_off2_inb : ∀ (i : grid0.Coords) (v1745 : BitVec 32) (v1754 : BitVec 32) (v1761 : BitVec 32) (k0_hw4 : k0_chk4 i v1745 v1754 v1761), ∀ (k0_h1 : k0_cond1 i = 1#1), ∀ a, (k0_off2 v1745 v1754 v1761) a + S1x80x16384.size a ≤ S4x200x51200.size a := fun i v1745 v1754 v1761 k0_hw4 k0_h1 => k0_hw4.1 k0_h1
theorem k0_off2_wordsbf16 : ∀ (i : grid0.Coords) (v1745 : BitVec 32) (v1754 : BitVec 32) (v1761 : BitVec 32) (k0_hw4 : k0_chk4 i v1745 v1754 v1761), ∀ (k0_h1 : k0_cond1 i = 1#1), (Rect.unit (s := S4x200x51200) (k0_off2 v1745 v1754 v1761) S1x80x16384.size (k0_off2_inb i v1745 v1754 v1761 k0_hw4 k0_h1)).WholeWords (EltTy.packing .bf16) := fun i v1745 v1754 v1761 k0_hw4 k0_h1 => k0_hw4.2 k0_h1 (k0_off2_inb i v1745 v1754 v1761 k0_hw4 k0_h1)

def k0_mult3 (v1781 : BitVec 32) : BitVec 32 :=
  let c120_i32_565 : BitVec 32 := 120#32
  let c0_i32_564 : BitVec 32 := 0#32
  let c_m16_i32_563 : BitVec 32 := 4294967280#32
  let v1782 : BitVec 32 := Scalar.andi v1781 c_m16_i32_563
  let v1783 : BitVec 32 := Scalar.maxsi c0_i32_564 v1782
  let v1784 : BitVec 32 := Scalar.minsi c120_i32_565 v1783
  v1784

def k0_chk5 (i : grid0.Coords) (v1781 : BitVec 32) : Prop :=
  (∀ (k0_h1 : k0_cond1 i = 1#1), 8 ∣ (k0_mult3 v1781).toNat)
theorem k0_mult3_dvd : ∀ (i : grid0.Coords) (v1781 : BitVec 32) (k0_hw5 : k0_chk5 i v1781), ∀ (k0_h1 : k0_cond1 i = 1#1), 8 ∣ (k0_mult3 v1781).toNat := fun i v1781 k0_hw5 k0_h1 => k0_hw5 k0_h1

def k0_off3 (v1772 : BitVec 32) (v1781 : BitVec 32) (v1788 : BitVec 32) : Fin 3 → Nat :=
  let c120_i32_565 : BitVec 32 := 120#32
  let c0_i32_564 : BitVec 32 := 0#32
  let c_m16_i32_563 : BitVec 32 := 4294967280#32
  let v1782 : BitVec 32 := Scalar.andi v1781 c_m16_i32_563
  let v1783 : BitVec 32 := Scalar.maxsi c0_i32_564 v1782
  let v1784 : BitVec 32 := Scalar.minsi c120_i32_565 v1783
  let v1785 : BitVec 32 := v1784
  let c136_i32_568 : BitVec 32 := 136#32
  let c0_i32_567 : BitVec 32 := 0#32
  let v1789 : BitVec 32 := Scalar.maxsi c0_i32_567 v1788
  let v1790 : BitVec 32 := Scalar.minsi c136_i32_568 v1789
  let c256_i32_569 : BitVec 32 := 256#32
  let v1791 : BitVec 32 := Scalar.muli v1790 c256_i32_569
  ![v1772.toNat, v1785.toNat, v1791.toNat]

def k0_chk6 (i : grid0.Coords) (v1772 : BitVec 32) (v1781 : BitVec 32) (v1788 : BitVec 32) : Prop :=
  (∀ (k0_h1 : k0_cond1 i = 1#1), ∀ a, (k0_off3 v1772 v1781 v1788) a + S1x80x16384.size a ≤ S4x200x51200.size a) ∧
  (∀ (k0_h1 : k0_cond1 i = 1#1), ∀ (hinb : ∀ a, (k0_off3 v1772 v1781 v1788) a + S1x80x16384.size a ≤ S4x200x51200.size a), (Rect.unit (s := S4x200x51200) (k0_off3 v1772 v1781 v1788) S1x80x16384.size hinb).WholeWords (EltTy.packing .bf16))
theorem k0_off3_inb : ∀ (i : grid0.Coords) (v1772 : BitVec 32) (v1781 : BitVec 32) (v1788 : BitVec 32) (k0_hw6 : k0_chk6 i v1772 v1781 v1788), ∀ (k0_h1 : k0_cond1 i = 1#1), ∀ a, (k0_off3 v1772 v1781 v1788) a + S1x80x16384.size a ≤ S4x200x51200.size a := fun i v1772 v1781 v1788 k0_hw6 k0_h1 => k0_hw6.1 k0_h1
theorem k0_off3_wordsbf16 : ∀ (i : grid0.Coords) (v1772 : BitVec 32) (v1781 : BitVec 32) (v1788 : BitVec 32) (k0_hw6 : k0_chk6 i v1772 v1781 v1788), ∀ (k0_h1 : k0_cond1 i = 1#1), (Rect.unit (s := S4x200x51200) (k0_off3 v1772 v1781 v1788) S1x80x16384.size (k0_off3_inb i v1772 v1781 v1788 k0_hw6 k0_h1)).WholeWords (EltTy.packing .bf16) := fun i v1772 v1781 v1788 k0_hw6 k0_h1 => k0_hw6.2 k0_h1 (k0_off3_inb i v1772 v1781 v1788 k0_hw6 k0_h1)

def k0_mult4 (v1808 : BitVec 32) : BitVec 32 :=
  let c120_i32_589 : BitVec 32 := 120#32
  let c0_i32_588 : BitVec 32 := 0#32
  let c_m16_i32_587 : BitVec 32 := 4294967280#32
  let v1809 : BitVec 32 := Scalar.andi v1808 c_m16_i32_587
  let v1810 : BitVec 32 := Scalar.maxsi c0_i32_588 v1809
  let v1811 : BitVec 32 := Scalar.minsi c120_i32_589 v1810
  v1811

def k0_chk7 (i : grid0.Coords) (v1808 : BitVec 32) : Prop :=
  (∀ (k0_h1 : k0_cond1 i = 1#1), 8 ∣ (k0_mult4 v1808).toNat)
theorem k0_mult4_dvd : ∀ (i : grid0.Coords) (v1808 : BitVec 32) (k0_hw7 : k0_chk7 i v1808), ∀ (k0_h1 : k0_cond1 i = 1#1), 8 ∣ (k0_mult4 v1808).toNat := fun i v1808 k0_hw7 k0_h1 => k0_hw7 k0_h1

def k0_off4 (v1799 : BitVec 32) (v1808 : BitVec 32) (v1815 : BitVec 32) : Fin 3 → Nat :=
  let c120_i32_589 : BitVec 32 := 120#32
  let c0_i32_588 : BitVec 32 := 0#32
  let c_m16_i32_587 : BitVec 32 := 4294967280#32
  let v1809 : BitVec 32 := Scalar.andi v1808 c_m16_i32_587
  let v1810 : BitVec 32 := Scalar.maxsi c0_i32_588 v1809
  let v1811 : BitVec 32 := Scalar.minsi c120_i32_589 v1810
  let v1812 : BitVec 32 := v1811
  let c136_i32_592 : BitVec 32 := 136#32
  let c0_i32_591 : BitVec 32 := 0#32
  let v1816 : BitVec 32 := Scalar.maxsi c0_i32_591 v1815
  let v1817 : BitVec 32 := Scalar.minsi c136_i32_592 v1816
  let c256_i32_593 : BitVec 32 := 256#32
  let v1818 : BitVec 32 := Scalar.muli v1817 c256_i32_593
  ![v1799.toNat, v1812.toNat, v1818.toNat]

def k0_chk8 (i : grid0.Coords) (v1799 : BitVec 32) (v1808 : BitVec 32) (v1815 : BitVec 32) : Prop :=
  (∀ (k0_h1 : k0_cond1 i = 1#1), ∀ a, (k0_off4 v1799 v1808 v1815) a + S1x80x16384.size a ≤ S4x200x51200.size a) ∧
  (∀ (k0_h1 : k0_cond1 i = 1#1), ∀ (hinb : ∀ a, (k0_off4 v1799 v1808 v1815) a + S1x80x16384.size a ≤ S4x200x51200.size a), (Rect.unit (s := S4x200x51200) (k0_off4 v1799 v1808 v1815) S1x80x16384.size hinb).WholeWords (EltTy.packing .bf16))
theorem k0_off4_inb : ∀ (i : grid0.Coords) (v1799 : BitVec 32) (v1808 : BitVec 32) (v1815 : BitVec 32) (k0_hw8 : k0_chk8 i v1799 v1808 v1815), ∀ (k0_h1 : k0_cond1 i = 1#1), ∀ a, (k0_off4 v1799 v1808 v1815) a + S1x80x16384.size a ≤ S4x200x51200.size a := fun i v1799 v1808 v1815 k0_hw8 k0_h1 => k0_hw8.1 k0_h1
theorem k0_off4_wordsbf16 : ∀ (i : grid0.Coords) (v1799 : BitVec 32) (v1808 : BitVec 32) (v1815 : BitVec 32) (k0_hw8 : k0_chk8 i v1799 v1808 v1815), ∀ (k0_h1 : k0_cond1 i = 1#1), (Rect.unit (s := S4x200x51200) (k0_off4 v1799 v1808 v1815) S1x80x16384.size (k0_off4_inb i v1799 v1808 v1815 k0_hw8 k0_h1)).WholeWords (EltTy.packing .bf16) := fun i v1799 v1808 v1815 k0_hw8 k0_h1 => k0_hw8.2 k0_h1 (k0_off4_inb i v1799 v1808 v1815 k0_hw8 k0_h1)

def k0_cond2 (i : grid0.Coords) : BitVec 1 :=
  let arg0 : BitVec 32 := BitVec.ofNat 32 (i 0).val
  let c1_i32 : BitVec 32 := 1#32
  let v3 : BitVec 32 := Scalar.addi arg0 c1_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

def k0_off5 (i : grid0.Coords) : Fin 2 → Nat :=
  let arg0 : BitVec 32 := BitVec.ofNat 32 (i 0).val
  let c1_i32_504 : BitVec 32 := 1#32
  let v1717 : BitVec 32 := Scalar.addi arg0 c1_i32_504
  let c4_i32_505 : BitVec 32 := 4#32
  let v1718 : BitVec 32 := Scalar.muli v1717 c4_i32_505
  let c0_i32_506 : BitVec 32 := 0#32
  let v1719 : BitVec 32 := Scalar.addi v1718 c0_i32_506
  let v1731 : Index := Scalar.indexCast v1719
  let c0_514 : Index := 0#32
  ![v1731.toNat, 0]
def k0_off6 (i : grid0.Coords) : Fin 2 → Nat :=
  let arg0 : BitVec 32 := BitVec.ofNat 32 (i 0).val
  let c1_i32_504 : BitVec 32 := 1#32
  let v1717 : BitVec 32 := Scalar.addi arg0 c1_i32_504
  let c4_i32_505 : BitVec 32 := 4#32
  let v1718 : BitVec 32 := Scalar.muli v1717 c4_i32_505
  let c0_i32_506 : BitVec 32 := 0#32
  let v1719 : BitVec 32 := Scalar.addi v1718 c0_i32_506
  let v1734 : Index := Scalar.indexCast v1719
  let c1_515 : Index := 1#32
  ![v1734.toNat, 1]
def k0_off7 (i : grid0.Coords) : Fin 2 → Nat :=
  let arg0 : BitVec 32 := BitVec.ofNat 32 (i 0).val
  let c1_i32_504 : BitVec 32 := 1#32
  let v1717 : BitVec 32 := Scalar.addi arg0 c1_i32_504
  let c4_i32_505 : BitVec 32 := 4#32
  let v1718 : BitVec 32 := Scalar.muli v1717 c4_i32_505
  let c0_i32_506 : BitVec 32 := 0#32
  let v1719 : BitVec 32 := Scalar.addi v1718 c0_i32_506
  let v1736 : Index := Scalar.indexCast v1719
  let c6_516 : Index := 6#32
  ![v1736.toNat, 6]
def k0_off8 (i : grid0.Coords) : Fin 2 → Nat :=
  let arg0 : BitVec 32 := BitVec.ofNat 32 (i 0).val
  let c1_i32_504 : BitVec 32 := 1#32
  let v1717 : BitVec 32 := Scalar.addi arg0 c1_i32_504
  let c4_i32_505 : BitVec 32 := 4#32
  let v1718 : BitVec 32 := Scalar.muli v1717 c4_i32_505
  let c0_i32_506 : BitVec 32 := 0#32
  let v1719 : BitVec 32 := Scalar.addi v1718 c0_i32_506
  let v1739 : Index := Scalar.indexCast v1719
  let c2_517 : Index := 2#32
  ![v1739.toNat, 2]
def k0_off9 (i : grid0.Coords) : Fin 2 → Nat :=
  let arg0 : BitVec 32 := BitVec.ofNat 32 (i 0).val
  let c1_i32_504 : BitVec 32 := 1#32
  let v1717 : BitVec 32 := Scalar.addi arg0 c1_i32_504
  let c4_i32_505 : BitVec 32 := 4#32
  let v1718 : BitVec 32 := Scalar.muli v1717 c4_i32_505
  let c0_i32_506 : BitVec 32 := 0#32
  let v1719 : BitVec 32 := Scalar.addi v1718 c0_i32_506
  let v1741 : Index := Scalar.indexCast v1719
  let c7_518 : Index := 7#32
  ![v1741.toNat, 7]
def k0_mult5 (v1746 : BitVec 32) : BitVec 32 :=
  let c120_i32_522 : BitVec 32 := 120#32
  let c0_i32_521 : BitVec 32 := 0#32
  let c_m16_i32_520 : BitVec 32 := 4294967280#32
  let v1747 : BitVec 32 := Scalar.andi v1746 c_m16_i32_520
  let v1748 : BitVec 32 := Scalar.maxsi c0_i32_521 v1747
  let v1749 : BitVec 32 := Scalar.minsi c120_i32_522 v1748
  v1749

def k0_chk9 (i : grid0.Coords) (v1746 : BitVec 32) : Prop :=
  (∀ (k0_h2 : k0_cond2 i = 1#1), 8 ∣ (k0_mult5 v1746).toNat)
theorem k0_mult5_dvd : ∀ (i : grid0.Coords) (v1746 : BitVec 32) (k0_hw9 : k0_chk9 i v1746), ∀ (k0_h2 : k0_cond2 i = 1#1), 8 ∣ (k0_mult5 v1746).toNat := fun i v1746 k0_hw9 k0_h2 => k0_hw9 k0_h2

def k0_off10 (i : grid0.Coords) : Fin 2 → Nat :=
  let arg0 : BitVec 32 := BitVec.ofNat 32 (i 0).val
  let c1_i32_507 : BitVec 32 := 1#32
  let v1720 : BitVec 32 := Scalar.addi arg0 c1_i32_507
  let c2_i32_508 : BitVec 32 := 2#32
  let c0_i32_509 : BitVec 32 := 0#32
  let v1721 : BitVec 1 := Scalar.cmpi .eq c2_i32_508 c0_i32_509
  let c1_i32_510 : BitVec 32 := 1#32
  let v1722 : BitVec 32 := Scalar.select v1721 c1_i32_510 c2_i32_508
  let v1723 : BitVec 32 := Scalar.remsi v1720 v1722
  let c0_i32_512 : BitVec 32 := 0#32
  let v1725 : BitVec 1 := Scalar.cmpi .slt v1723 c0_i32_512
  let c0_i32_513 : BitVec 32 := 0#32
  let v1726 : BitVec 1 := Scalar.cmpi .slt v1722 c0_i32_513
  let v1727 : BitVec 1 := Scalar.xori v1725 v1726
  let c0_i32_511 : BitVec 32 := 0#32
  let v1724 : BitVec 1 := Scalar.cmpi .ne v1723 c0_i32_511
  let v1728 : BitVec 1 := Scalar.andi v1727 v1724
  let v1729 : BitVec 32 := Scalar.addi v1723 v1722
  let v1730 : BitVec 32 := Scalar.select v1728 v1729 v1723
  let c0_i32_528 : BitVec 32 := 0#32
  ![v1730.toNat, 0]
def k0_off11 (i : grid0.Coords) : Fin 4 → Nat :=
  let arg0 : BitVec 32 := BitVec.ofNat 32 (i 0).val
  let c1_i32_507 : BitVec 32 := 1#32
  let v1720 : BitVec 32 := Scalar.addi arg0 c1_i32_507
  let c2_i32_508 : BitVec 32 := 2#32
  let c0_i32_509 : BitVec 32 := 0#32
  let v1721 : BitVec 1 := Scalar.cmpi .eq c2_i32_508 c0_i32_509
  let c1_i32_510 : BitVec 32 := 1#32
  let v1722 : BitVec 32 := Scalar.select v1721 c1_i32_510 c2_i32_508
  let v1723 : BitVec 32 := Scalar.remsi v1720 v1722
  let c0_i32_512 : BitVec 32 := 0#32
  let v1725 : BitVec 1 := Scalar.cmpi .slt v1723 c0_i32_512
  let c0_i32_513 : BitVec 32 := 0#32
  let v1726 : BitVec 1 := Scalar.cmpi .slt v1722 c0_i32_513
  let v1727 : BitVec 1 := Scalar.xori v1725 v1726
  let c0_i32_511 : BitVec 32 := 0#32
  let v1724 : BitVec 1 := Scalar.cmpi .ne v1723 c0_i32_511
  let v1728 : BitVec 1 := Scalar.andi v1727 v1724
  let v1729 : BitVec 32 := Scalar.addi v1723 v1722
  let v1730 : BitVec 32 := Scalar.select v1728 v1729 v1723
  let c0_i32_527 : BitVec 32 := 0#32
  let c0_i32_529 : BitVec 32 := 0#32
  let c0_i32_530 : BitVec 32 := 0#32
  ![v1730.toNat, 0, 0, 0]
def k0_off12 (v1733 : BitVec 32) (v1746 : BitVec 32) (v1753 : BitVec 32) : Fin 3 → Nat :=
  let c120_i32_522 : BitVec 32 := 120#32
  let c0_i32_521 : BitVec 32 := 0#32
  let c_m16_i32_520 : BitVec 32 := 4294967280#32
  let v1747 : BitVec 32 := Scalar.andi v1746 c_m16_i32_520
  let v1748 : BitVec 32 := Scalar.maxsi c0_i32_521 v1747
  let v1749 : BitVec 32 := Scalar.minsi c120_i32_522 v1748
  let v1750 : BitVec 32 := v1749
  let c136_i32_525 : BitVec 32 := 136#32
  let c0_i32_524 : BitVec 32 := 0#32
  let v1754 : BitVec 32 := Scalar.maxsi c0_i32_524 v1753
  let v1755 : BitVec 32 := Scalar.minsi c136_i32_525 v1754
  let c256_i32_526 : BitVec 32 := 256#32
  let v1756 : BitVec 32 := Scalar.muli v1755 c256_i32_526
  ![v1733.toNat, v1750.toNat, v1756.toNat]

def k0_chk10 (i : grid0.Coords) (v1733 : BitVec 32) (v1746 : BitVec 32) (v1753 : BitVec 32) : Prop :=
  (∀ (k0_h2 : k0_cond2 i = 1#1), ∀ a, (k0_off12 v1733 v1746 v1753) a + S1x80x16384.size a ≤ S4x200x51200.size a) ∧
  (∀ (k0_h2 : k0_cond2 i = 1#1), ∀ (hinb : ∀ a, (k0_off12 v1733 v1746 v1753) a + S1x80x16384.size a ≤ S4x200x51200.size a), (Rect.unit (s := S4x200x51200) (k0_off12 v1733 v1746 v1753) S1x80x16384.size hinb).WholeWords (EltTy.packing .bf16))
theorem k0_off12_inb : ∀ (i : grid0.Coords) (v1733 : BitVec 32) (v1746 : BitVec 32) (v1753 : BitVec 32) (k0_hw10 : k0_chk10 i v1733 v1746 v1753), ∀ (k0_h2 : k0_cond2 i = 1#1), ∀ a, (k0_off12 v1733 v1746 v1753) a + S1x80x16384.size a ≤ S4x200x51200.size a := fun i v1733 v1746 v1753 k0_hw10 k0_h2 => k0_hw10.1 k0_h2
theorem k0_off12_wordsbf16 : ∀ (i : grid0.Coords) (v1733 : BitVec 32) (v1746 : BitVec 32) (v1753 : BitVec 32) (k0_hw10 : k0_chk10 i v1733 v1746 v1753), ∀ (k0_h2 : k0_cond2 i = 1#1), (Rect.unit (s := S4x200x51200) (k0_off12 v1733 v1746 v1753) S1x80x16384.size (k0_off12_inb i v1733 v1746 v1753 k0_hw10 k0_h2)).WholeWords (EltTy.packing .bf16) := fun i v1733 v1746 v1753 k0_hw10 k0_h2 => k0_hw10.2 k0_h2 (k0_off12_inb i v1733 v1746 v1753 k0_hw10 k0_h2)

def k0_off13 (i : grid0.Coords) : Fin 2 → Nat :=
  let arg0 : BitVec 32 := BitVec.ofNat 32 (i 0).val
  let c1_i32_531 : BitVec 32 := 1#32
  let v1763 : BitVec 32 := Scalar.addi arg0 c1_i32_531
  let c4_i32_532 : BitVec 32 := 4#32
  let v1764 : BitVec 32 := Scalar.muli v1763 c4_i32_532
  let c1_i32_533 : BitVec 32 := 1#32
  let v1765 : BitVec 32 := Scalar.addi v1764 c1_i32_533
  let v1777 : Index := Scalar.indexCast v1765
  let c0_541 : Index := 0#32
  ![v1777.toNat, 0]
def k0_off14 (i : grid0.Coords) : Fin 2 → Nat :=
  let arg0 : BitVec 32 := BitVec.ofNat 32 (i 0).val
  let c1_i32_531 : BitVec 32 := 1#32
  let v1763 : BitVec 32 := Scalar.addi arg0 c1_i32_531
  let c4_i32_532 : BitVec 32 := 4#32
  let v1764 : BitVec 32 := Scalar.muli v1763 c4_i32_532
  let c1_i32_533 : BitVec 32 := 1#32
  let v1765 : BitVec 32 := Scalar.addi v1764 c1_i32_533
  let v1780 : Index := Scalar.indexCast v1765
  let c1_542 : Index := 1#32
  ![v1780.toNat, 1]
def k0_off15 (i : grid0.Coords) : Fin 2 → Nat :=
  let arg0 : BitVec 32 := BitVec.ofNat 32 (i 0).val
  let c1_i32_531 : BitVec 32 := 1#32
  let v1763 : BitVec 32 := Scalar.addi arg0 c1_i32_531
  let c4_i32_532 : BitVec 32 := 4#32
  let v1764 : BitVec 32 := Scalar.muli v1763 c4_i32_532
  let c1_i32_533 : BitVec 32 := 1#32
  let v1765 : BitVec 32 := Scalar.addi v1764 c1_i32_533
  let v1782 : Index := Scalar.indexCast v1765
  let c6_543 : Index := 6#32
  ![v1782.toNat, 6]
def k0_off16 (i : grid0.Coords) : Fin 2 → Nat :=
  let arg0 : BitVec 32 := BitVec.ofNat 32 (i 0).val
  let c1_i32_531 : BitVec 32 := 1#32
  let v1763 : BitVec 32 := Scalar.addi arg0 c1_i32_531
  let c4_i32_532 : BitVec 32 := 4#32
  let v1764 : BitVec 32 := Scalar.muli v1763 c4_i32_532
  let c1_i32_533 : BitVec 32 := 1#32
  let v1765 : BitVec 32 := Scalar.addi v1764 c1_i32_533
  let v1785 : Index := Scalar.indexCast v1765
  let c2_544 : Index := 2#32
  ![v1785.toNat, 2]
def k0_off17 (i : grid0.Coords) : Fin 2 → Nat :=
  let arg0 : BitVec 32 := BitVec.ofNat 32 (i 0).val
  let c1_i32_531 : BitVec 32 := 1#32
  let v1763 : BitVec 32 := Scalar.addi arg0 c1_i32_531
  let c4_i32_532 : BitVec 32 := 4#32
  let v1764 : BitVec 32 := Scalar.muli v1763 c4_i32_532
  let c1_i32_533 : BitVec 32 := 1#32
  let v1765 : BitVec 32 := Scalar.addi v1764 c1_i32_533
  let v1787 : Index := Scalar.indexCast v1765
  let c7_545 : Index := 7#32
  ![v1787.toNat, 7]
def k0_mult6 (v1792 : BitVec 32) : BitVec 32 :=
  let c120_i32_549 : BitVec 32 := 120#32
  let c0_i32_548 : BitVec 32 := 0#32
  let c_m16_i32_547 : BitVec 32 := 4294967280#32
  let v1793 : BitVec 32 := Scalar.andi v1792 c_m16_i32_547
  let v1794 : BitVec 32 := Scalar.maxsi c0_i32_548 v1793
  let v1795 : BitVec 32 := Scalar.minsi c120_i32_549 v1794
  v1795

def k0_chk11 (i : grid0.Coords) (v1792 : BitVec 32) : Prop :=
  (∀ (k0_h2 : k0_cond2 i = 1#1), 8 ∣ (k0_mult6 v1792).toNat)
theorem k0_mult6_dvd : ∀ (i : grid0.Coords) (v1792 : BitVec 32) (k0_hw11 : k0_chk11 i v1792), ∀ (k0_h2 : k0_cond2 i = 1#1), 8 ∣ (k0_mult6 v1792).toNat := fun i v1792 k0_hw11 k0_h2 => k0_hw11 k0_h2

def k0_off18 (i : grid0.Coords) : Fin 2 → Nat :=
  let arg0 : BitVec 32 := BitVec.ofNat 32 (i 0).val
  let c1_i32_534 : BitVec 32 := 1#32
  let v1766 : BitVec 32 := Scalar.addi arg0 c1_i32_534
  let c2_i32_535 : BitVec 32 := 2#32
  let c0_i32_536 : BitVec 32 := 0#32
  let v1767 : BitVec 1 := Scalar.cmpi .eq c2_i32_535 c0_i32_536
  let c1_i32_537 : BitVec 32 := 1#32
  let v1768 : BitVec 32 := Scalar.select v1767 c1_i32_537 c2_i32_535
  let v1769 : BitVec 32 := Scalar.remsi v1766 v1768
  let c0_i32_539 : BitVec 32 := 0#32
  let v1771 : BitVec 1 := Scalar.cmpi .slt v1769 c0_i32_539
  let c0_i32_540 : BitVec 32 := 0#32
  let v1772 : BitVec 1 := Scalar.cmpi .slt v1768 c0_i32_540
  let v1773 : BitVec 1 := Scalar.xori v1771 v1772
  let c0_i32_538 : BitVec 32 := 0#32
  let v1770 : BitVec 1 := Scalar.cmpi .ne v1769 c0_i32_538
  let v1774 : BitVec 1 := Scalar.andi v1773 v1770
  let v1775 : BitVec 32 := Scalar.addi v1769 v1768
  let v1776 : BitVec 32 := Scalar.select v1774 v1775 v1769
  let c1_i32_555 : BitVec 32 := 1#32
  ![v1776.toNat, 1]
def k0_off19 (i : grid0.Coords) : Fin 4 → Nat :=
  let arg0 : BitVec 32 := BitVec.ofNat 32 (i 0).val
  let c1_i32_534 : BitVec 32 := 1#32
  let v1766 : BitVec 32 := Scalar.addi arg0 c1_i32_534
  let c2_i32_535 : BitVec 32 := 2#32
  let c0_i32_536 : BitVec 32 := 0#32
  let v1767 : BitVec 1 := Scalar.cmpi .eq c2_i32_535 c0_i32_536
  let c1_i32_537 : BitVec 32 := 1#32
  let v1768 : BitVec 32 := Scalar.select v1767 c1_i32_537 c2_i32_535
  let v1769 : BitVec 32 := Scalar.remsi v1766 v1768
  let c0_i32_539 : BitVec 32 := 0#32
  let v1771 : BitVec 1 := Scalar.cmpi .slt v1769 c0_i32_539
  let c0_i32_540 : BitVec 32 := 0#32
  let v1772 : BitVec 1 := Scalar.cmpi .slt v1768 c0_i32_540
  let v1773 : BitVec 1 := Scalar.xori v1771 v1772
  let c0_i32_538 : BitVec 32 := 0#32
  let v1770 : BitVec 1 := Scalar.cmpi .ne v1769 c0_i32_538
  let v1774 : BitVec 1 := Scalar.andi v1773 v1770
  let v1775 : BitVec 32 := Scalar.addi v1769 v1768
  let v1776 : BitVec 32 := Scalar.select v1774 v1775 v1769
  let c1_i32_554 : BitVec 32 := 1#32
  let c0_i32_556 : BitVec 32 := 0#32
  let c0_i32_557 : BitVec 32 := 0#32
  ![v1776.toNat, 1, 0, 0]
def k0_off20 (v1779 : BitVec 32) (v1792 : BitVec 32) (v1799 : BitVec 32) : Fin 3 → Nat :=
  let c120_i32_549 : BitVec 32 := 120#32
  let c0_i32_548 : BitVec 32 := 0#32
  let c_m16_i32_547 : BitVec 32 := 4294967280#32
  let v1793 : BitVec 32 := Scalar.andi v1792 c_m16_i32_547
  let v1794 : BitVec 32 := Scalar.maxsi c0_i32_548 v1793
  let v1795 : BitVec 32 := Scalar.minsi c120_i32_549 v1794
  let v1796 : BitVec 32 := v1795
  let c136_i32_552 : BitVec 32 := 136#32
  let c0_i32_551 : BitVec 32 := 0#32
  let v1800 : BitVec 32 := Scalar.maxsi c0_i32_551 v1799
  let v1801 : BitVec 32 := Scalar.minsi c136_i32_552 v1800
  let c256_i32_553 : BitVec 32 := 256#32
  let v1802 : BitVec 32 := Scalar.muli v1801 c256_i32_553
  ![v1779.toNat, v1796.toNat, v1802.toNat]

def k0_chk12 (i : grid0.Coords) (v1779 : BitVec 32) (v1792 : BitVec 32) (v1799 : BitVec 32) : Prop :=
  (∀ (k0_h2 : k0_cond2 i = 1#1), ∀ a, (k0_off20 v1779 v1792 v1799) a + S1x80x16384.size a ≤ S4x200x51200.size a) ∧
  (∀ (k0_h2 : k0_cond2 i = 1#1), ∀ (hinb : ∀ a, (k0_off20 v1779 v1792 v1799) a + S1x80x16384.size a ≤ S4x200x51200.size a), (Rect.unit (s := S4x200x51200) (k0_off20 v1779 v1792 v1799) S1x80x16384.size hinb).WholeWords (EltTy.packing .bf16))
theorem k0_off20_inb : ∀ (i : grid0.Coords) (v1779 : BitVec 32) (v1792 : BitVec 32) (v1799 : BitVec 32) (k0_hw12 : k0_chk12 i v1779 v1792 v1799), ∀ (k0_h2 : k0_cond2 i = 1#1), ∀ a, (k0_off20 v1779 v1792 v1799) a + S1x80x16384.size a ≤ S4x200x51200.size a := fun i v1779 v1792 v1799 k0_hw12 k0_h2 => k0_hw12.1 k0_h2
theorem k0_off20_wordsbf16 : ∀ (i : grid0.Coords) (v1779 : BitVec 32) (v1792 : BitVec 32) (v1799 : BitVec 32) (k0_hw12 : k0_chk12 i v1779 v1792 v1799), ∀ (k0_h2 : k0_cond2 i = 1#1), (Rect.unit (s := S4x200x51200) (k0_off20 v1779 v1792 v1799) S1x80x16384.size (k0_off20_inb i v1779 v1792 v1799 k0_hw12 k0_h2)).WholeWords (EltTy.packing .bf16) := fun i v1779 v1792 v1799 k0_hw12 k0_h2 => k0_hw12.2 k0_h2 (k0_off20_inb i v1779 v1792 v1799 k0_hw12 k0_h2)

def k0_off21 (i : grid0.Coords) : Fin 2 → Nat :=
  let arg0 : BitVec 32 := BitVec.ofNat 32 (i 0).val
  let c1_i32_558 : BitVec 32 := 1#32
  let v1809 : BitVec 32 := Scalar.addi arg0 c1_i32_558
  let c4_i32_559 : BitVec 32 := 4#32
  let v1810 : BitVec 32 := Scalar.muli v1809 c4_i32_559
  let c2_i32_560 : BitVec 32 := 2#32
  let v1811 : BitVec 32 := Scalar.addi v1810 c2_i32_560
  let v1823 : Index := Scalar.indexCast v1811
  let c0_568 : Index := 0#32
  ![v1823.toNat, 0]
def k0_off22 (i : grid0.Coords) : Fin 2 → Nat :=
  let arg0 : BitVec 32 := BitVec.ofNat 32 (i 0).val
  let c1_i32_558 : BitVec 32 := 1#32
  let v1809 : BitVec 32 := Scalar.addi arg0 c1_i32_558
  let c4_i32_559 : BitVec 32 := 4#32
  let v1810 : BitVec 32 := Scalar.muli v1809 c4_i32_559
  let c2_i32_560 : BitVec 32 := 2#32
  let v1811 : BitVec 32 := Scalar.addi v1810 c2_i32_560
  let v1826 : Index := Scalar.indexCast v1811
  let c1_569 : Index := 1#32
  ![v1826.toNat, 1]
def k0_off23 (i : grid0.Coords) : Fin 2 → Nat :=
  let arg0 : BitVec 32 := BitVec.ofNat 32 (i 0).val
  let c1_i32_558 : BitVec 32 := 1#32
  let v1809 : BitVec 32 := Scalar.addi arg0 c1_i32_558
  let c4_i32_559 : BitVec 32 := 4#32
  let v1810 : BitVec 32 := Scalar.muli v1809 c4_i32_559
  let c2_i32_560 : BitVec 32 := 2#32
  let v1811 : BitVec 32 := Scalar.addi v1810 c2_i32_560
  let v1828 : Index := Scalar.indexCast v1811
  let c6_570 : Index := 6#32
  ![v1828.toNat, 6]
def k0_off24 (i : grid0.Coords) : Fin 2 → Nat :=
  let arg0 : BitVec 32 := BitVec.ofNat 32 (i 0).val
  let c1_i32_558 : BitVec 32 := 1#32
  let v1809 : BitVec 32 := Scalar.addi arg0 c1_i32_558
  let c4_i32_559 : BitVec 32 := 4#32
  let v1810 : BitVec 32 := Scalar.muli v1809 c4_i32_559
  let c2_i32_560 : BitVec 32 := 2#32
  let v1811 : BitVec 32 := Scalar.addi v1810 c2_i32_560
  let v1831 : Index := Scalar.indexCast v1811
  let c2_571 : Index := 2#32
  ![v1831.toNat, 2]
def k0_off25 (i : grid0.Coords) : Fin 2 → Nat :=
  let arg0 : BitVec 32 := BitVec.ofNat 32 (i 0).val
  let c1_i32_558 : BitVec 32 := 1#32
  let v1809 : BitVec 32 := Scalar.addi arg0 c1_i32_558
  let c4_i32_559 : BitVec 32 := 4#32
  let v1810 : BitVec 32 := Scalar.muli v1809 c4_i32_559
  let c2_i32_560 : BitVec 32 := 2#32
  let v1811 : BitVec 32 := Scalar.addi v1810 c2_i32_560
  let v1833 : Index := Scalar.indexCast v1811
  let c7_572 : Index := 7#32
  ![v1833.toNat, 7]
def k0_mult7 (v1838 : BitVec 32) : BitVec 32 :=
  let c120_i32_576 : BitVec 32 := 120#32
  let c0_i32_575 : BitVec 32 := 0#32
  let c_m16_i32_574 : BitVec 32 := 4294967280#32
  let v1839 : BitVec 32 := Scalar.andi v1838 c_m16_i32_574
  let v1840 : BitVec 32 := Scalar.maxsi c0_i32_575 v1839
  let v1841 : BitVec 32 := Scalar.minsi c120_i32_576 v1840
  v1841

def k0_chk13 (i : grid0.Coords) (v1838 : BitVec 32) : Prop :=
  (∀ (k0_h2 : k0_cond2 i = 1#1), 8 ∣ (k0_mult7 v1838).toNat)
theorem k0_mult7_dvd : ∀ (i : grid0.Coords) (v1838 : BitVec 32) (k0_hw13 : k0_chk13 i v1838), ∀ (k0_h2 : k0_cond2 i = 1#1), 8 ∣ (k0_mult7 v1838).toNat := fun i v1838 k0_hw13 k0_h2 => k0_hw13 k0_h2

def k0_off26 (i : grid0.Coords) : Fin 2 → Nat :=
  let arg0 : BitVec 32 := BitVec.ofNat 32 (i 0).val
  let c1_i32_561 : BitVec 32 := 1#32
  let v1812 : BitVec 32 := Scalar.addi arg0 c1_i32_561
  let c2_i32_562 : BitVec 32 := 2#32
  let c0_i32_563 : BitVec 32 := 0#32
  let v1813 : BitVec 1 := Scalar.cmpi .eq c2_i32_562 c0_i32_563
  let c1_i32_564 : BitVec 32 := 1#32
  let v1814 : BitVec 32 := Scalar.select v1813 c1_i32_564 c2_i32_562
  let v1815 : BitVec 32 := Scalar.remsi v1812 v1814
  let c0_i32_566 : BitVec 32 := 0#32
  let v1817 : BitVec 1 := Scalar.cmpi .slt v1815 c0_i32_566
  let c0_i32_567 : BitVec 32 := 0#32
  let v1818 : BitVec 1 := Scalar.cmpi .slt v1814 c0_i32_567
  let v1819 : BitVec 1 := Scalar.xori v1817 v1818
  let c0_i32_565 : BitVec 32 := 0#32
  let v1816 : BitVec 1 := Scalar.cmpi .ne v1815 c0_i32_565
  let v1820 : BitVec 1 := Scalar.andi v1819 v1816
  let v1821 : BitVec 32 := Scalar.addi v1815 v1814
  let v1822 : BitVec 32 := Scalar.select v1820 v1821 v1815
  let c2_i32_582 : BitVec 32 := 2#32
  ![v1822.toNat, 2]
def k0_off27 (i : grid0.Coords) : Fin 4 → Nat :=
  let arg0 : BitVec 32 := BitVec.ofNat 32 (i 0).val
  let c1_i32_561 : BitVec 32 := 1#32
  let v1812 : BitVec 32 := Scalar.addi arg0 c1_i32_561
  let c2_i32_562 : BitVec 32 := 2#32
  let c0_i32_563 : BitVec 32 := 0#32
  let v1813 : BitVec 1 := Scalar.cmpi .eq c2_i32_562 c0_i32_563
  let c1_i32_564 : BitVec 32 := 1#32
  let v1814 : BitVec 32 := Scalar.select v1813 c1_i32_564 c2_i32_562
  let v1815 : BitVec 32 := Scalar.remsi v1812 v1814
  let c0_i32_566 : BitVec 32 := 0#32
  let v1817 : BitVec 1 := Scalar.cmpi .slt v1815 c0_i32_566
  let c0_i32_567 : BitVec 32 := 0#32
  let v1818 : BitVec 1 := Scalar.cmpi .slt v1814 c0_i32_567
  let v1819 : BitVec 1 := Scalar.xori v1817 v1818
  let c0_i32_565 : BitVec 32 := 0#32
  let v1816 : BitVec 1 := Scalar.cmpi .ne v1815 c0_i32_565
  let v1820 : BitVec 1 := Scalar.andi v1819 v1816
  let v1821 : BitVec 32 := Scalar.addi v1815 v1814
  let v1822 : BitVec 32 := Scalar.select v1820 v1821 v1815
  let c2_i32_581 : BitVec 32 := 2#32
  let c0_i32_583 : BitVec 32 := 0#32
  let c0_i32_584 : BitVec 32 := 0#32
  ![v1822.toNat, 2, 0, 0]
def k0_off28 (v1825 : BitVec 32) (v1838 : BitVec 32) (v1845 : BitVec 32) : Fin 3 → Nat :=
  let c120_i32_576 : BitVec 32 := 120#32
  let c0_i32_575 : BitVec 32 := 0#32
  let c_m16_i32_574 : BitVec 32 := 4294967280#32
  let v1839 : BitVec 32 := Scalar.andi v1838 c_m16_i32_574
  let v1840 : BitVec 32 := Scalar.maxsi c0_i32_575 v1839
  let v1841 : BitVec 32 := Scalar.minsi c120_i32_576 v1840
  let v1842 : BitVec 32 := v1841
  let c136_i32_579 : BitVec 32 := 136#32
  let c0_i32_578 : BitVec 32 := 0#32
  let v1846 : BitVec 32 := Scalar.maxsi c0_i32_578 v1845
  let v1847 : BitVec 32 := Scalar.minsi c136_i32_579 v1846
  let c256_i32_580 : BitVec 32 := 256#32
  let v1848 : BitVec 32 := Scalar.muli v1847 c256_i32_580
  ![v1825.toNat, v1842.toNat, v1848.toNat]

def k0_chk14 (i : grid0.Coords) (v1825 : BitVec 32) (v1838 : BitVec 32) (v1845 : BitVec 32) : Prop :=
  (∀ (k0_h2 : k0_cond2 i = 1#1), ∀ a, (k0_off28 v1825 v1838 v1845) a + S1x80x16384.size a ≤ S4x200x51200.size a) ∧
  (∀ (k0_h2 : k0_cond2 i = 1#1), ∀ (hinb : ∀ a, (k0_off28 v1825 v1838 v1845) a + S1x80x16384.size a ≤ S4x200x51200.size a), (Rect.unit (s := S4x200x51200) (k0_off28 v1825 v1838 v1845) S1x80x16384.size hinb).WholeWords (EltTy.packing .bf16))
theorem k0_off28_inb : ∀ (i : grid0.Coords) (v1825 : BitVec 32) (v1838 : BitVec 32) (v1845 : BitVec 32) (k0_hw14 : k0_chk14 i v1825 v1838 v1845), ∀ (k0_h2 : k0_cond2 i = 1#1), ∀ a, (k0_off28 v1825 v1838 v1845) a + S1x80x16384.size a ≤ S4x200x51200.size a := fun i v1825 v1838 v1845 k0_hw14 k0_h2 => k0_hw14.1 k0_h2
theorem k0_off28_wordsbf16 : ∀ (i : grid0.Coords) (v1825 : BitVec 32) (v1838 : BitVec 32) (v1845 : BitVec 32) (k0_hw14 : k0_chk14 i v1825 v1838 v1845), ∀ (k0_h2 : k0_cond2 i = 1#1), (Rect.unit (s := S4x200x51200) (k0_off28 v1825 v1838 v1845) S1x80x16384.size (k0_off28_inb i v1825 v1838 v1845 k0_hw14 k0_h2)).WholeWords (EltTy.packing .bf16) := fun i v1825 v1838 v1845 k0_hw14 k0_h2 => k0_hw14.2 k0_h2 (k0_off28_inb i v1825 v1838 v1845 k0_hw14 k0_h2)

def k0_off29 (i : grid0.Coords) : Fin 2 → Nat :=
  let arg0 : BitVec 32 := BitVec.ofNat 32 (i 0).val
  let c1_i32_585 : BitVec 32 := 1#32
  let v1855 : BitVec 32 := Scalar.addi arg0 c1_i32_585
  let c4_i32_586 : BitVec 32 := 4#32
  let v1856 : BitVec 32 := Scalar.muli v1855 c4_i32_586
  let c3_i32_587 : BitVec 32 := 3#32
  let v1857 : BitVec 32 := Scalar.addi v1856 c3_i32_587
  let v1869 : Index := Scalar.indexCast v1857
  let c0_595 : Index := 0#32
  ![v1869.toNat, 0]
def k0_off30 (i : grid0.Coords) : Fin 2 → Nat :=
  let arg0 : BitVec 32 := BitVec.ofNat 32 (i 0).val
  let c1_i32_585 : BitVec 32 := 1#32
  let v1855 : BitVec 32 := Scalar.addi arg0 c1_i32_585
  let c4_i32_586 : BitVec 32 := 4#32
  let v1856 : BitVec 32 := Scalar.muli v1855 c4_i32_586
  let c3_i32_587 : BitVec 32 := 3#32
  let v1857 : BitVec 32 := Scalar.addi v1856 c3_i32_587
  let v1872 : Index := Scalar.indexCast v1857
  let c1_596 : Index := 1#32
  ![v1872.toNat, 1]
def k0_off31 (i : grid0.Coords) : Fin 2 → Nat :=
  let arg0 : BitVec 32 := BitVec.ofNat 32 (i 0).val
  let c1_i32_585 : BitVec 32 := 1#32
  let v1855 : BitVec 32 := Scalar.addi arg0 c1_i32_585
  let c4_i32_586 : BitVec 32 := 4#32
  let v1856 : BitVec 32 := Scalar.muli v1855 c4_i32_586
  let c3_i32_587 : BitVec 32 := 3#32
  let v1857 : BitVec 32 := Scalar.addi v1856 c3_i32_587
  let v1874 : Index := Scalar.indexCast v1857
  let c6_597 : Index := 6#32
  ![v1874.toNat, 6]
def k0_off32 (i : grid0.Coords) : Fin 2 → Nat :=
  let arg0 : BitVec 32 := BitVec.ofNat 32 (i 0).val
  let c1_i32_585 : BitVec 32 := 1#32
  let v1855 : BitVec 32 := Scalar.addi arg0 c1_i32_585
  let c4_i32_586 : BitVec 32 := 4#32
  let v1856 : BitVec 32 := Scalar.muli v1855 c4_i32_586
  let c3_i32_587 : BitVec 32 := 3#32
  let v1857 : BitVec 32 := Scalar.addi v1856 c3_i32_587
  let v1877 : Index := Scalar.indexCast v1857
  let c2_598 : Index := 2#32
  ![v1877.toNat, 2]
def k0_off33 (i : grid0.Coords) : Fin 2 → Nat :=
  let arg0 : BitVec 32 := BitVec.ofNat 32 (i 0).val
  let c1_i32_585 : BitVec 32 := 1#32
  let v1855 : BitVec 32 := Scalar.addi arg0 c1_i32_585
  let c4_i32_586 : BitVec 32 := 4#32
  let v1856 : BitVec 32 := Scalar.muli v1855 c4_i32_586
  let c3_i32_587 : BitVec 32 := 3#32
  let v1857 : BitVec 32 := Scalar.addi v1856 c3_i32_587
  let v1879 : Index := Scalar.indexCast v1857
  let c7_599 : Index := 7#32
  ![v1879.toNat, 7]
def k0_mult8 (v1884 : BitVec 32) : BitVec 32 :=
  let c120_i32_603 : BitVec 32 := 120#32
  let c0_i32_602 : BitVec 32 := 0#32
  let c_m16_i32_601 : BitVec 32 := 4294967280#32
  let v1885 : BitVec 32 := Scalar.andi v1884 c_m16_i32_601
  let v1886 : BitVec 32 := Scalar.maxsi c0_i32_602 v1885
  let v1887 : BitVec 32 := Scalar.minsi c120_i32_603 v1886
  v1887

def k0_chk15 (i : grid0.Coords) (v1884 : BitVec 32) : Prop :=
  (∀ (k0_h2 : k0_cond2 i = 1#1), 8 ∣ (k0_mult8 v1884).toNat)
theorem k0_mult8_dvd : ∀ (i : grid0.Coords) (v1884 : BitVec 32) (k0_hw15 : k0_chk15 i v1884), ∀ (k0_h2 : k0_cond2 i = 1#1), 8 ∣ (k0_mult8 v1884).toNat := fun i v1884 k0_hw15 k0_h2 => k0_hw15 k0_h2

def k0_off34 (i : grid0.Coords) : Fin 2 → Nat :=
  let arg0 : BitVec 32 := BitVec.ofNat 32 (i 0).val
  let c1_i32_588 : BitVec 32 := 1#32
  let v1858 : BitVec 32 := Scalar.addi arg0 c1_i32_588
  let c2_i32_589 : BitVec 32 := 2#32
  let c0_i32_590 : BitVec 32 := 0#32
  let v1859 : BitVec 1 := Scalar.cmpi .eq c2_i32_589 c0_i32_590
  let c1_i32_591 : BitVec 32 := 1#32
  let v1860 : BitVec 32 := Scalar.select v1859 c1_i32_591 c2_i32_589
  let v1861 : BitVec 32 := Scalar.remsi v1858 v1860
  let c0_i32_593 : BitVec 32 := 0#32
  let v1863 : BitVec 1 := Scalar.cmpi .slt v1861 c0_i32_593
  let c0_i32_594 : BitVec 32 := 0#32
  let v1864 : BitVec 1 := Scalar.cmpi .slt v1860 c0_i32_594
  let v1865 : BitVec 1 := Scalar.xori v1863 v1864
  let c0_i32_592 : BitVec 32 := 0#32
  let v1862 : BitVec 1 := Scalar.cmpi .ne v1861 c0_i32_592
  let v1866 : BitVec 1 := Scalar.andi v1865 v1862
  let v1867 : BitVec 32 := Scalar.addi v1861 v1860
  let v1868 : BitVec 32 := Scalar.select v1866 v1867 v1861
  let c3_i32_609 : BitVec 32 := 3#32
  ![v1868.toNat, 3]
def k0_off35 (i : grid0.Coords) : Fin 4 → Nat :=
  let arg0 : BitVec 32 := BitVec.ofNat 32 (i 0).val
  let c1_i32_588 : BitVec 32 := 1#32
  let v1858 : BitVec 32 := Scalar.addi arg0 c1_i32_588
  let c2_i32_589 : BitVec 32 := 2#32
  let c0_i32_590 : BitVec 32 := 0#32
  let v1859 : BitVec 1 := Scalar.cmpi .eq c2_i32_589 c0_i32_590
  let c1_i32_591 : BitVec 32 := 1#32
  let v1860 : BitVec 32 := Scalar.select v1859 c1_i32_591 c2_i32_589
  let v1861 : BitVec 32 := Scalar.remsi v1858 v1860
  let c0_i32_593 : BitVec 32 := 0#32
  let v1863 : BitVec 1 := Scalar.cmpi .slt v1861 c0_i32_593
  let c0_i32_594 : BitVec 32 := 0#32
  let v1864 : BitVec 1 := Scalar.cmpi .slt v1860 c0_i32_594
  let v1865 : BitVec 1 := Scalar.xori v1863 v1864
  let c0_i32_592 : BitVec 32 := 0#32
  let v1862 : BitVec 1 := Scalar.cmpi .ne v1861 c0_i32_592
  let v1866 : BitVec 1 := Scalar.andi v1865 v1862
  let v1867 : BitVec 32 := Scalar.addi v1861 v1860
  let v1868 : BitVec 32 := Scalar.select v1866 v1867 v1861
  let c3_i32_608 : BitVec 32 := 3#32
  let c0_i32_610 : BitVec 32 := 0#32
  let c0_i32_611 : BitVec 32 := 0#32
  ![v1868.toNat, 3, 0, 0]
def k0_off36 (v1871 : BitVec 32) (v1884 : BitVec 32) (v1891 : BitVec 32) : Fin 3 → Nat :=
  let c120_i32_603 : BitVec 32 := 120#32
  let c0_i32_602 : BitVec 32 := 0#32
  let c_m16_i32_601 : BitVec 32 := 4294967280#32
  let v1885 : BitVec 32 := Scalar.andi v1884 c_m16_i32_601
  let v1886 : BitVec 32 := Scalar.maxsi c0_i32_602 v1885
  let v1887 : BitVec 32 := Scalar.minsi c120_i32_603 v1886
  let v1888 : BitVec 32 := v1887
  let c136_i32_606 : BitVec 32 := 136#32
  let c0_i32_605 : BitVec 32 := 0#32
  let v1892 : BitVec 32 := Scalar.maxsi c0_i32_605 v1891
  let v1893 : BitVec 32 := Scalar.minsi c136_i32_606 v1892
  let c256_i32_607 : BitVec 32 := 256#32
  let v1894 : BitVec 32 := Scalar.muli v1893 c256_i32_607
  ![v1871.toNat, v1888.toNat, v1894.toNat]

def k0_chk16 (i : grid0.Coords) (v1871 : BitVec 32) (v1884 : BitVec 32) (v1891 : BitVec 32) : Prop :=
  (∀ (k0_h2 : k0_cond2 i = 1#1), ∀ a, (k0_off36 v1871 v1884 v1891) a + S1x80x16384.size a ≤ S4x200x51200.size a) ∧
  (∀ (k0_h2 : k0_cond2 i = 1#1), ∀ (hinb : ∀ a, (k0_off36 v1871 v1884 v1891) a + S1x80x16384.size a ≤ S4x200x51200.size a), (Rect.unit (s := S4x200x51200) (k0_off36 v1871 v1884 v1891) S1x80x16384.size hinb).WholeWords (EltTy.packing .bf16))
theorem k0_off36_inb : ∀ (i : grid0.Coords) (v1871 : BitVec 32) (v1884 : BitVec 32) (v1891 : BitVec 32) (k0_hw16 : k0_chk16 i v1871 v1884 v1891), ∀ (k0_h2 : k0_cond2 i = 1#1), ∀ a, (k0_off36 v1871 v1884 v1891) a + S1x80x16384.size a ≤ S4x200x51200.size a := fun i v1871 v1884 v1891 k0_hw16 k0_h2 => k0_hw16.1 k0_h2
theorem k0_off36_wordsbf16 : ∀ (i : grid0.Coords) (v1871 : BitVec 32) (v1884 : BitVec 32) (v1891 : BitVec 32) (k0_hw16 : k0_chk16 i v1871 v1884 v1891), ∀ (k0_h2 : k0_cond2 i = 1#1), (Rect.unit (s := S4x200x51200) (k0_off36 v1871 v1884 v1891) S1x80x16384.size (k0_off36_inb i v1871 v1884 v1891 k0_hw16 k0_h2)).WholeWords (EltTy.packing .bf16) := fun i v1871 v1884 v1891 k0_hw16 k0_h2 => k0_hw16.2 k0_h2 (k0_off36_inb i v1871 v1884 v1891 k0_hw16 k0_h2)

def k0_off37 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v11 : Index := Scalar.indexCast v10
  let c1 : Index := 1#32
  ![v11.toNat, 1]
def k0_off38 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v13 : Index := Scalar.indexCast v10
  let c6 : Index := 6#32
  ![v13.toNat, 6]
def k0_off39 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v16 : Index := Scalar.indexCast v10
  let c2 : Index := 2#32
  ![v16.toNat, 2]
def k0_off40 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v18 : Index := Scalar.indexCast v10
  let c7 : Index := 7#32
  ![v18.toNat, 7]
def k0_off41 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v21 : Index := Scalar.indexCast v10
  let c3 : Index := 3#32
  ![v21.toNat, 3]
def k0_off42 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v23 : Index := Scalar.indexCast v10
  let c8 : Index := 8#32
  ![v23.toNat, 8]
def k0_off43 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v26 : Index := Scalar.indexCast v10
  let c4 : Index := 4#32
  ![v26.toNat, 4]
def k0_off44 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v28 : Index := Scalar.indexCast v10
  let c9 : Index := 9#32
  ![v28.toNat, 9]
def k0_mult9 (v43 : BitVec 32) : BitVec 32 :=
  let c120_i32 : BitVec 32 := 120#32
  let c0_i32_7 : BitVec 32 := 0#32
  let c_m16_i32 : BitVec 32 := 4294967280#32
  let v44 : BitVec 32 := Scalar.andi v43 c_m16_i32
  let v45 : BitVec 32 := Scalar.maxsi c0_i32_7 v44
  let v46 : BitVec 32 := Scalar.minsi c120_i32 v45
  v46

def k0_chk17 (v43 : BitVec 32) : Prop :=
  (8 ∣ (k0_mult9 v43).toNat)
theorem k0_mult9_dvd : ∀ (v43 : BitVec 32) (k0_hw17 : k0_chk17 v43), 8 ∣ (k0_mult9 v43).toNat := fun v43 k0_hw17 => k0_hw17

def k0_off45 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v249 : Index := Scalar.indexCast v10
  let c0 : Index := 0#32
  ![v249.toNat, 0]
def k0_off46 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v252 : Index := Scalar.indexCast v10
  let c1_59 : Index := 1#32
  ![v252.toNat, 1]
def k0_off47 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v254 : Index := Scalar.indexCast v10
  let c6_60 : Index := 6#32
  ![v254.toNat, 6]
def k0_off48 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v257 : Index := Scalar.indexCast v10
  let c2_61 : Index := 2#32
  ![v257.toNat, 2]
def k0_off49 (i : grid0.Coords) : Fin 2 → Nat :=
  let arg0 : BitVec 32 := BitVec.ofNat 32 (i 0).val
  let c4_i32 : BitVec 32 := 4#32
  let v9 : BitVec 32 := Scalar.muli arg0 c4_i32
  let c0_i32_2 : BitVec 32 := 0#32
  let v10 : BitVec 32 := Scalar.addi v9 c0_i32_2
  let v259 : Index := Scalar.indexCast v10
  let c7_62 : Index := 7#32
  ![v259.toNat, 7]
def k0_mult10 (v264 : BitVec 32) : BitVec 32 :=
  let c120_i32_66 : BitVec 32 := 120#32
  let c0_i32_65 : BitVec 32 := 0#32
  let c_m16_i32_64 : BitVec 32 := 4294967280#32
  let v265 : BitVec 32 := Scalar.andi v264 c_m16_i32_64
  let v266 : BitVec 32 := Scalar.maxsi c0_i32_65 v265
  let v267 : BitVec 32 := Scalar.minsi c120_i32_66 v266
  v267

def k0_chk18 (v264 : BitVec 32) : Prop :=
  (8 ∣ (k0_mult10 v264).toNat)
theorem k0_mult10_dvd : ∀ (v264 : BitVec 32) (k0_hw18 : k0_chk18 v264), 8 ∣ (k0_mult10 v264).toNat := fun v264 k0_hw18 => k0_hw18

def k0_off50 (i : grid0.Coords) : Fin 2 → Nat :=
  let arg0 : BitVec 32 := BitVec.ofNat 32 (i 0).val
  let c2_i32 : BitVec 32 := 2#32
  let c0_i32_54 : BitVec 32 := 0#32
  let v239 : BitVec 1 := Scalar.cmpi .eq c2_i32 c0_i32_54
  let c1_i32_55 : BitVec 32 := 1#32
  let v240 : BitVec 32 := Scalar.select v239 c1_i32_55 c2_i32
  let v241 : BitVec 32 := Scalar.remsi arg0 v240
  let c0_i32_57 : BitVec 32 := 0#32
  let v243 : BitVec 1 := Scalar.cmpi .slt v241 c0_i32_57
  let c0_i32_58 : BitVec 32 := 0#32
  let v244 : BitVec 1 := Scalar.cmpi .slt v240 c0_i32_58
  let v245 : BitVec 1 := Scalar.xori v243 v244
  let c0_i32_56 : BitVec 32 := 0#32
  let v242 : BitVec 1 := Scalar.cmpi .ne v241 c0_i32_56
  let v246 : BitVec 1 := Scalar.andi v245 v242
  let v247 : BitVec 32 := Scalar.addi v241 v240
  let v248 : BitVec 32 := Scalar.select v246 v247 v241
  let c0_i32_71 : BitVec 32 := 0#32
  ![v248.toNat, 0]
def k0_off51 (i : grid0.Coords) : Fin 4 → Nat :=
  let arg0 : BitVec 32 := BitVec.ofNat 32 (i 0).val
  let c2_i32 : BitVec 32 := 2#32
  let c0_i32_54 : BitVec 32 := 0#32
  let v239 : BitVec 1 := Scalar.cmpi .eq c2_i32 c0_i32_54
  let c1_i32_55 : BitVec 32 := 1#32
  let v240 : BitVec 32 := Scalar.select v239 c1_i32_55 c2_i32
  let v241 : BitVec 32 := Scalar.remsi arg0 v240
  let c0_i32_57 : BitVec 32 := 0#32
  let v243 : BitVec 1 := Scalar.cmpi .slt v241 c0_i32_57
  let c0_i32_58 : BitVec 32 := 0#32
  let v244 : BitVec 1 := Scalar.cmpi .slt v240 c0_i32_58
  let v245 : BitVec 1 := Scalar.xori v243 v244
  let c0_i32_56 : BitVec 32 := 0#32
  let v242 : BitVec 1 := Scalar.cmpi .ne v241 c0_i32_56
  let v246 : BitVec 1 := Scalar.andi v245 v242
  let v247 : BitVec 32 := Scalar.addi v241 v240
  let v248 : BitVec 32 := Scalar.select v246 v247 v241
  let c0_i32_70 : BitVec 32 := 0#32
  let c0_i32_72 : BitVec 32 := 0#32
  let c0_i32_73 : BitVec 32 := 0#32
  ![v248.toNat, 0, 0, 0]
def k0_off52 (v251 : BitVec 32) (v264 : BitVec 32) (v271 : BitVec 32) : Fin 3 → Nat :=
  let c120_i32_66 : BitVec 32 := 120#32
  let c0_i32_65 : BitVec 32 := 0#32
  let c_m16_i32_64 : BitVec 32 := 4294967280#32
  let v265 : BitVec 32 := Scalar.andi v264 c_m16_i32_64
  let v266 : BitVec 32 := Scalar.maxsi c0_i32_65 v265
  let v267 : BitVec 32 := Scalar.minsi c120_i32_66 v266
  let v268 : BitVec 32 := v267
  let c136_i32_69 : BitVec 32 := 136#32
  let c0_i32_68 : BitVec 32 := 0#32
  let v272 : BitVec 32 := Scalar.maxsi c0_i32_68 v271
  let v273 : BitVec 32 := Scalar.minsi c136_i32_69 v272
  let c256_i32 : BitVec 32 := 256#32
  let v274 : BitVec 32 := Scalar.muli v273 c256_i32
  ![v251.toNat, v268.toNat, v274.toNat]

def k0_chk19 (v251 : BitVec 32) (v264 : BitVec 32) (v271 : BitVec 32) : Prop :=
  (∀ a, (k0_off52 v251 v264 v271) a + S1x80x16384.size a ≤ S4x200x51200.size a) ∧
  (∀ (hinb : ∀ a, (k0_off52 v251 v264 v271) a + S1x80x16384.size a ≤ S4x200x51200.size a), (Rect.unit (s := S4x200x51200) (k0_off52 v251 v264 v271) S1x80x16384.size hinb).WholeWords (EltTy.packing .bf16))
theorem k0_off52_inb : ∀ (v251 : BitVec 32) (v264 : BitVec 32) (v271 : BitVec 32) (k0_hw19 : k0_chk19 v251 v264 v271), ∀ a, (k0_off52 v251 v264 v271) a + S1x80x16384.size a ≤ S4x200x51200.size a := fun v251 v264 v271 k0_hw19 => k0_hw19.1
theorem k0_off52_wordsbf16 : ∀ (v251 : BitVec 32) (v264 : BitVec 32) (v271 : BitVec 32) (k0_hw19 : k0_chk19 v251 v264 v271), (Rect.unit (s := S4x200x51200) (k0_off52 v251 v264 v271) S1x80x16384.size (k0_off52_inb v251 v264 v271 k0_hw19)).WholeWords (EltTy.packing .bf16) := fun v251 v264 v271 k0_hw19 => k0_hw19.2 (k0_off52_inb v251 v264 v271 k0_hw19)

def k0_off53 (i : grid0.Coords) : Fin 4 → Nat :=
  let arg0 : BitVec 32 := BitVec.ofNat 32 (i 0).val
  let c2_i32_74 : BitVec 32 := 2#32
  let c0_i32_75 : BitVec 32 := 0#32
  let v281 : BitVec 1 := Scalar.cmpi .eq c2_i32_74 c0_i32_75
  let c1_i32_76 : BitVec 32 := 1#32
  let v282 : BitVec 32 := Scalar.select v281 c1_i32_76 c2_i32_74
  let v283 : BitVec 32 := Scalar.remsi arg0 v282
  let c0_i32_78 : BitVec 32 := 0#32
  let v285 : BitVec 1 := Scalar.cmpi .slt v283 c0_i32_78
  let c0_i32_79 : BitVec 32 := 0#32
  let v286 : BitVec 1 := Scalar.cmpi .slt v282 c0_i32_79
  let v287 : BitVec 1 := Scalar.xori v285 v286
  let c0_i32_77 : BitVec 32 := 0#32
  let v284 : BitVec 1 := Scalar.cmpi .ne v283 c0_i32_77
  let v288 : BitVec 1 := Scalar.andi v287 v284
  let v289 : BitVec 32 := Scalar.addi v283 v282
  let v290 : BitVec 32 := Scalar.select v288 v289 v283
  let v291 : Index := Scalar.indexCast v290
  let c0_80 : Index := 0#32
  let c0_81 : Index := 0#32
  let c0_82 : Index := 0#32
  ![v291.toNat, 0, 0, 0]
def k0_off54 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v358 : Index := Scalar.indexCast v10
  let c1_100 : Index := 1#32
  ![v358.toNat, 1]
def k0_off55 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v363 : Index := Scalar.indexCast v10
  let c2_101 : Index := 2#32
  ![v363.toNat, 2]
def k0_off56 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v368 : Index := Scalar.indexCast v10
  let c3_102 : Index := 3#32
  ![v368.toNat, 3]
def k0_off57 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v373 : Index := Scalar.indexCast v10
  let c4_103 : Index := 4#32
  ![v373.toNat, 4]
def k0_off58 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v397 : Index := Scalar.indexCast v10
  let c6_108 : Index := 6#32
  ![v397.toNat, 6]
def k0_off59 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v402 : Index := Scalar.indexCast v10
  let c7_109 : Index := 7#32
  ![v402.toNat, 7]
def k0_off60 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v407 : Index := Scalar.indexCast v10
  let c8_110 : Index := 8#32
  ![v407.toNat, 8]
def k0_off61 (i : grid0.Coords) (c0_i32_2 : BitVec 32) : Fin 2 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_2
  let v412 : Index := Scalar.indexCast v10
  let c9_111 : Index := 9#32
  ![v412.toNat, 9]
def k0_mult11 (v470 : BitVec 32) : BitVec 32 :=
  let c120_i32_132 : BitVec 32 := 120#32
  let c0_i32_131 : BitVec 32 := 0#32
  let c_m16_i32_130 : BitVec 32 := 4294967280#32
  let v471 : BitVec 32 := Scalar.andi v470 c_m16_i32_130
  let v472 : BitVec 32 := Scalar.maxsi c0_i32_131 v471
  let v473 : BitVec 32 := Scalar.minsi c120_i32_132 v472
  v473

def k0_chk20 (v470 : BitVec 32) : Prop :=
  (8 ∣ (k0_mult11 v470).toNat)
theorem k0_mult11_dvd : ∀ (v470 : BitVec 32) (k0_hw20 : k0_chk20 v470), 8 ∣ (k0_mult11 v470).toNat := fun v470 k0_hw20 => k0_hw20

def k0_off62 (i : grid0.Coords) : Fin 2 → Nat :=
  let arg0 : BitVec 32 := BitVec.ofNat 32 (i 0).val
  let c4_i32_115 : BitVec 32 := 4#32
  let v436 : BitVec 32 := Scalar.muli arg0 c4_i32_115
  let c1_i32_116 : BitVec 32 := 1#32
  let v437 : BitVec 32 := Scalar.addi v436 c1_i32_116
  let v676 : Index := Scalar.indexCast v437
  let c0_186 : Index := 0#32
  ![v676.toNat, 0]
def k0_off63 (i : grid0.Coords) : Fin 2 → Nat :=
  let arg0 : BitVec 32 := BitVec.ofNat 32 (i 0).val
  let c4_i32_115 : BitVec 32 := 4#32
  let v436 : BitVec 32 := Scalar.muli arg0 c4_i32_115
  let c1_i32_116 : BitVec 32 := 1#32
  let v437 : BitVec 32 := Scalar.addi v436 c1_i32_116
  let v679 : Index := Scalar.indexCast v437
  let c1_187 : Index := 1#32
  ![v679.toNat, 1]
def k0_off64 (i : grid0.Coords) : Fin 2 → Nat :=
  let arg0 : BitVec 32 := BitVec.ofNat 32 (i 0).val
  let c4_i32_115 : BitVec 32 := 4#32
  let v436 : BitVec 32 := Scalar.muli arg0 c4_i32_115
  let c1_i32_116 : BitVec 32 := 1#32
  let v437 : BitVec 32 := Scalar.addi v436 c1_i32_116
  let v681 : Index := Scalar.indexCast v437
  let c6_188 : Index := 6#32
  ![v681.toNat, 6]
def k0_off65 (i : grid0.Coords) : Fin 2 → Nat :=
  let arg0 : BitVec 32 := BitVec.ofNat 32 (i 0).val
  let c4_i32_115 : BitVec 32 := 4#32
  let v436 : BitVec 32 := Scalar.muli arg0 c4_i32_115
  let c1_i32_116 : BitVec 32 := 1#32
  let v437 : BitVec 32 := Scalar.addi v436 c1_i32_116
  let v684 : Index := Scalar.indexCast v437
  let c2_189 : Index := 2#32
  ![v684.toNat, 2]
def k0_off66 (i : grid0.Coords) : Fin 2 → Nat :=
  let arg0 : BitVec 32 := BitVec.ofNat 32 (i 0).val
  let c4_i32_115 : BitVec 32 := 4#32
  let v436 : BitVec 32 := Scalar.muli arg0 c4_i32_115
  let c1_i32_116 : BitVec 32 := 1#32
  let v437 : BitVec 32 := Scalar.addi v436 c1_i32_116
  let v686 : Index := Scalar.indexCast v437
  let c7_190 : Index := 7#32
  ![v686.toNat, 7]
def k0_mult12 (v691 : BitVec 32) : BitVec 32 :=
  let c120_i32_194 : BitVec 32 := 120#32
  let c0_i32_193 : BitVec 32 := 0#32
  let c_m16_i32_192 : BitVec 32 := 4294967280#32
  let v692 : BitVec 32 := Scalar.andi v691 c_m16_i32_192
  let v693 : BitVec 32 := Scalar.maxsi c0_i32_193 v692
  let v694 : BitVec 32 := Scalar.minsi c120_i32_194 v693
  v694

def k0_chk21 (v691 : BitVec 32) : Prop :=
  (8 ∣ (k0_mult12 v691).toNat)
theorem k0_mult12_dvd : ∀ (v691 : BitVec 32) (k0_hw21 : k0_chk21 v691), 8 ∣ (k0_mult12 v691).toNat := fun v691 k0_hw21 => k0_hw21

def k0_off67 (i : grid0.Coords) : Fin 2 → Nat :=
  let arg0 : BitVec 32 := BitVec.ofNat 32 (i 0).val
  let c2_i32_180 : BitVec 32 := 2#32
  let c0_i32_181 : BitVec 32 := 0#32
  let v666 : BitVec 1 := Scalar.cmpi .eq c2_i32_180 c0_i32_181
  let c1_i32_182 : BitVec 32 := 1#32
  let v667 : BitVec 32 := Scalar.select v666 c1_i32_182 c2_i32_180
  let v668 : BitVec 32 := Scalar.remsi arg0 v667
  let c0_i32_184 : BitVec 32 := 0#32
  let v670 : BitVec 1 := Scalar.cmpi .slt v668 c0_i32_184
  let c0_i32_185 : BitVec 32 := 0#32
  let v671 : BitVec 1 := Scalar.cmpi .slt v667 c0_i32_185
  let v672 : BitVec 1 := Scalar.xori v670 v671
  let c0_i32_183 : BitVec 32 := 0#32
  let v669 : BitVec 1 := Scalar.cmpi .ne v668 c0_i32_183
  let v673 : BitVec 1 := Scalar.andi v672 v669
  let v674 : BitVec 32 := Scalar.addi v668 v667
  let v675 : BitVec 32 := Scalar.select v673 v674 v668
  let c1_i32_200 : BitVec 32 := 1#32
  ![v675.toNat, 1]
def k0_off68 (i : grid0.Coords) : Fin 4 → Nat :=
  let arg0 : BitVec 32 := BitVec.ofNat 32 (i 0).val
  let c2_i32_180 : BitVec 32 := 2#32
  let c0_i32_181 : BitVec 32 := 0#32
  let v666 : BitVec 1 := Scalar.cmpi .eq c2_i32_180 c0_i32_181
  let c1_i32_182 : BitVec 32 := 1#32
  let v667 : BitVec 32 := Scalar.select v666 c1_i32_182 c2_i32_180
  let v668 : BitVec 32 := Scalar.remsi arg0 v667
  let c0_i32_184 : BitVec 32 := 0#32
  let v670 : BitVec 1 := Scalar.cmpi .slt v668 c0_i32_184
  let c0_i32_185 : BitVec 32 := 0#32
  let v671 : BitVec 1 := Scalar.cmpi .slt v667 c0_i32_185
  let v672 : BitVec 1 := Scalar.xori v670 v671
  let c0_i32_183 : BitVec 32 := 0#32
  let v669 : BitVec 1 := Scalar.cmpi .ne v668 c0_i32_183
  let v673 : BitVec 1 := Scalar.andi v672 v669
  let v674 : BitVec 32 := Scalar.addi v668 v667
  let v675 : BitVec 32 := Scalar.select v673 v674 v668
  let c1_i32_199 : BitVec 32 := 1#32
  let c0_i32_201 : BitVec 32 := 0#32
  let c0_i32_202 : BitVec 32 := 0#32
  ![v675.toNat, 1, 0, 0]
def k0_off69 (v678 : BitVec 32) (v691 : BitVec 32) (v698 : BitVec 32) : Fin 3 → Nat :=
  let c120_i32_194 : BitVec 32 := 120#32
  let c0_i32_193 : BitVec 32 := 0#32
  let c_m16_i32_192 : BitVec 32 := 4294967280#32
  let v692 : BitVec 32 := Scalar.andi v691 c_m16_i32_192
  let v693 : BitVec 32 := Scalar.maxsi c0_i32_193 v692
  let v694 : BitVec 32 := Scalar.minsi c120_i32_194 v693
  let v695 : BitVec 32 := v694
  let c136_i32_197 : BitVec 32 := 136#32
  let c0_i32_196 : BitVec 32 := 0#32
  let v699 : BitVec 32 := Scalar.maxsi c0_i32_196 v698
  let v700 : BitVec 32 := Scalar.minsi c136_i32_197 v699
  let c256_i32_198 : BitVec 32 := 256#32
  let v701 : BitVec 32 := Scalar.muli v700 c256_i32_198
  ![v678.toNat, v695.toNat, v701.toNat]

def k0_chk22 (v678 : BitVec 32) (v691 : BitVec 32) (v698 : BitVec 32) : Prop :=
  (∀ a, (k0_off69 v678 v691 v698) a + S1x80x16384.size a ≤ S4x200x51200.size a) ∧
  (∀ (hinb : ∀ a, (k0_off69 v678 v691 v698) a + S1x80x16384.size a ≤ S4x200x51200.size a), (Rect.unit (s := S4x200x51200) (k0_off69 v678 v691 v698) S1x80x16384.size hinb).WholeWords (EltTy.packing .bf16))
theorem k0_off69_inb : ∀ (v678 : BitVec 32) (v691 : BitVec 32) (v698 : BitVec 32) (k0_hw22 : k0_chk22 v678 v691 v698), ∀ a, (k0_off69 v678 v691 v698) a + S1x80x16384.size a ≤ S4x200x51200.size a := fun v678 v691 v698 k0_hw22 => k0_hw22.1
theorem k0_off69_wordsbf16 : ∀ (v678 : BitVec 32) (v691 : BitVec 32) (v698 : BitVec 32) (k0_hw22 : k0_chk22 v678 v691 v698), (Rect.unit (s := S4x200x51200) (k0_off69 v678 v691 v698) S1x80x16384.size (k0_off69_inb v678 v691 v698 k0_hw22)).WholeWords (EltTy.packing .bf16) := fun v678 v691 v698 k0_hw22 => k0_hw22.2 (k0_off69_inb v678 v691 v698 k0_hw22)

def k0_off70 (i : grid0.Coords) : Fin 4 → Nat :=
  let arg0 : BitVec 32 := BitVec.ofNat 32 (i 0).val
  let c2_i32_203 : BitVec 32 := 2#32
  let c0_i32_204 : BitVec 32 := 0#32
  let v708 : BitVec 1 := Scalar.cmpi .eq c2_i32_203 c0_i32_204
  let c1_i32_205 : BitVec 32 := 1#32
  let v709 : BitVec 32 := Scalar.select v708 c1_i32_205 c2_i32_203
  let v710 : BitVec 32 := Scalar.remsi arg0 v709
  let c0_i32_207 : BitVec 32 := 0#32
  let v712 : BitVec 1 := Scalar.cmpi .slt v710 c0_i32_207
  let c0_i32_208 : BitVec 32 := 0#32
  let v713 : BitVec 1 := Scalar.cmpi .slt v709 c0_i32_208
  let v714 : BitVec 1 := Scalar.xori v712 v713
  let c0_i32_206 : BitVec 32 := 0#32
  let v711 : BitVec 1 := Scalar.cmpi .ne v710 c0_i32_206
  let v715 : BitVec 1 := Scalar.andi v714 v711
  let v716 : BitVec 32 := Scalar.addi v710 v709
  let v717 : BitVec 32 := Scalar.select v715 v716 v710
  let v718 : Index := Scalar.indexCast v717
  let c1_209 : Index := 1#32
  let c0_210 : Index := 0#32
  let c0_211 : Index := 0#32
  ![v718.toNat, 1, 0, 0]
def k0_off71 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v785 : Index := Scalar.indexCast v437
  let c1_229 : Index := 1#32
  ![v785.toNat, 1]
def k0_off72 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v790 : Index := Scalar.indexCast v437
  let c2_230 : Index := 2#32
  ![v790.toNat, 2]
def k0_off73 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v795 : Index := Scalar.indexCast v437
  let c3_231 : Index := 3#32
  ![v795.toNat, 3]
def k0_off74 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v800 : Index := Scalar.indexCast v437
  let c4_232 : Index := 4#32
  ![v800.toNat, 4]
def k0_off75 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v824 : Index := Scalar.indexCast v437
  let c6_237 : Index := 6#32
  ![v824.toNat, 6]
def k0_off76 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v829 : Index := Scalar.indexCast v437
  let c7_238 : Index := 7#32
  ![v829.toNat, 7]
def k0_off77 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v834 : Index := Scalar.indexCast v437
  let c8_239 : Index := 8#32
  ![v834.toNat, 8]
def k0_off78 (i : grid0.Coords) (c1_i32_116 : BitVec 32) : Fin 2 → Nat :=
  let arg0 : BitVec 32 := BitVec.ofNat 32 (i 0).val
  let c4_i32_115 : BitVec 32 := 4#32
  let v436 : BitVec 32 := Scalar.muli arg0 c4_i32_115
  let v437 : BitVec 32 := Scalar.addi v436 c1_i32_116
  let v839 : Index := Scalar.indexCast v437
  let c9_240 : Index := 9#32
  ![v839.toNat, 9]
def k0_mult13 (v897 : BitVec 32) : BitVec 32 :=
  let c120_i32_262 : BitVec 32 := 120#32
  let c0_i32_261 : BitVec 32 := 0#32
  let c_m16_i32_260 : BitVec 32 := 4294967280#32
  let v898 : BitVec 32 := Scalar.andi v897 c_m16_i32_260
  let v899 : BitVec 32 := Scalar.maxsi c0_i32_261 v898
  let v900 : BitVec 32 := Scalar.minsi c120_i32_262 v899
  v900

def k0_chk23 (v897 : BitVec 32) : Prop :=
  (8 ∣ (k0_mult13 v897).toNat)
theorem k0_mult13_dvd : ∀ (v897 : BitVec 32) (k0_hw23 : k0_chk23 v897), 8 ∣ (k0_mult13 v897).toNat := fun v897 k0_hw23 => k0_hw23

def k0_off79 (i : grid0.Coords) : Fin 2 → Nat :=
  let arg0 : BitVec 32 := BitVec.ofNat 32 (i 0).val
  let c4_i32_245 : BitVec 32 := 4#32
  let v863 : BitVec 32 := Scalar.muli arg0 c4_i32_245
  let c2_i32_246 : BitVec 32 := 2#32
  let v864 : BitVec 32 := Scalar.addi v863 c2_i32_246
  let v1103 : Index := Scalar.indexCast v864
  let c0_316 : Index := 0#32
  ![v1103.toNat, 0]
def k0_off80 (i : grid0.Coords) : Fin 2 → Nat :=
  let arg0 : BitVec 32 := BitVec.ofNat 32 (i 0).val
  let c4_i32_245 : BitVec 32 := 4#32
  let v863 : BitVec 32 := Scalar.muli arg0 c4_i32_245
  let c2_i32_246 : BitVec 32 := 2#32
  let v864 : BitVec 32 := Scalar.addi v863 c2_i32_246
  let v1106 : Index := Scalar.indexCast v864
  let c1_317 : Index := 1#32
  ![v1106.toNat, 1]
def k0_off81 (i : grid0.Coords) : Fin 2 → Nat :=
  let arg0 : BitVec 32 := BitVec.ofNat 32 (i 0).val
  let c4_i32_245 : BitVec 32 := 4#32
  let v863 : BitVec 32 := Scalar.muli arg0 c4_i32_245
  let c2_i32_246 : BitVec 32 := 2#32
  let v864 : BitVec 32 := Scalar.addi v863 c2_i32_246
  let v1108 : Index := Scalar.indexCast v864
  let c6_318 : Index := 6#32
  ![v1108.toNat, 6]
def k0_off82 (i : grid0.Coords) : Fin 2 → Nat :=
  let arg0 : BitVec 32 := BitVec.ofNat 32 (i 0).val
  let c4_i32_245 : BitVec 32 := 4#32
  let v863 : BitVec 32 := Scalar.muli arg0 c4_i32_245
  let c2_i32_246 : BitVec 32 := 2#32
  let v864 : BitVec 32 := Scalar.addi v863 c2_i32_246
  let v1111 : Index := Scalar.indexCast v864
  let c2_319 : Index := 2#32
  ![v1111.toNat, 2]
def k0_off83 (i : grid0.Coords) : Fin 2 → Nat :=
  let arg0 : BitVec 32 := BitVec.ofNat 32 (i 0).val
  let c4_i32_245 : BitVec 32 := 4#32
  let v863 : BitVec 32 := Scalar.muli arg0 c4_i32_245
  let c2_i32_246 : BitVec 32 := 2#32
  let v864 : BitVec 32 := Scalar.addi v863 c2_i32_246
  let v1113 : Index := Scalar.indexCast v864
  let c7_320 : Index := 7#32
  ![v1113.toNat, 7]
def k0_mult14 (v1118 : BitVec 32) : BitVec 32 :=
  let c120_i32_324 : BitVec 32 := 120#32
  let c0_i32_323 : BitVec 32 := 0#32
  let c_m16_i32_322 : BitVec 32 := 4294967280#32
  let v1119 : BitVec 32 := Scalar.andi v1118 c_m16_i32_322
  let v1120 : BitVec 32 := Scalar.maxsi c0_i32_323 v1119
  let v1121 : BitVec 32 := Scalar.minsi c120_i32_324 v1120
  v1121

def k0_chk24 (v1118 : BitVec 32) : Prop :=
  (8 ∣ (k0_mult14 v1118).toNat)
theorem k0_mult14_dvd : ∀ (v1118 : BitVec 32) (k0_hw24 : k0_chk24 v1118), 8 ∣ (k0_mult14 v1118).toNat := fun v1118 k0_hw24 => k0_hw24

def k0_off84 (i : grid0.Coords) : Fin 2 → Nat :=
  let arg0 : BitVec 32 := BitVec.ofNat 32 (i 0).val
  let c2_i32_310 : BitVec 32 := 2#32
  let c0_i32_311 : BitVec 32 := 0#32
  let v1093 : BitVec 1 := Scalar.cmpi .eq c2_i32_310 c0_i32_311
  let c1_i32_312 : BitVec 32 := 1#32
  let v1094 : BitVec 32 := Scalar.select v1093 c1_i32_312 c2_i32_310
  let v1095 : BitVec 32 := Scalar.remsi arg0 v1094
  let c0_i32_314 : BitVec 32 := 0#32
  let v1097 : BitVec 1 := Scalar.cmpi .slt v1095 c0_i32_314
  let c0_i32_315 : BitVec 32 := 0#32
  let v1098 : BitVec 1 := Scalar.cmpi .slt v1094 c0_i32_315
  let v1099 : BitVec 1 := Scalar.xori v1097 v1098
  let c0_i32_313 : BitVec 32 := 0#32
  let v1096 : BitVec 1 := Scalar.cmpi .ne v1095 c0_i32_313
  let v1100 : BitVec 1 := Scalar.andi v1099 v1096
  let v1101 : BitVec 32 := Scalar.addi v1095 v1094
  let v1102 : BitVec 32 := Scalar.select v1100 v1101 v1095
  let c2_i32_330 : BitVec 32 := 2#32
  ![v1102.toNat, 2]
def k0_off85 (i : grid0.Coords) : Fin 4 → Nat :=
  let arg0 : BitVec 32 := BitVec.ofNat 32 (i 0).val
  let c2_i32_310 : BitVec 32 := 2#32
  let c0_i32_311 : BitVec 32 := 0#32
  let v1093 : BitVec 1 := Scalar.cmpi .eq c2_i32_310 c0_i32_311
  let c1_i32_312 : BitVec 32 := 1#32
  let v1094 : BitVec 32 := Scalar.select v1093 c1_i32_312 c2_i32_310
  let v1095 : BitVec 32 := Scalar.remsi arg0 v1094
  let c0_i32_314 : BitVec 32 := 0#32
  let v1097 : BitVec 1 := Scalar.cmpi .slt v1095 c0_i32_314
  let c0_i32_315 : BitVec 32 := 0#32
  let v1098 : BitVec 1 := Scalar.cmpi .slt v1094 c0_i32_315
  let v1099 : BitVec 1 := Scalar.xori v1097 v1098
  let c0_i32_313 : BitVec 32 := 0#32
  let v1096 : BitVec 1 := Scalar.cmpi .ne v1095 c0_i32_313
  let v1100 : BitVec 1 := Scalar.andi v1099 v1096
  let v1101 : BitVec 32 := Scalar.addi v1095 v1094
  let v1102 : BitVec 32 := Scalar.select v1100 v1101 v1095
  let c2_i32_329 : BitVec 32 := 2#32
  let c0_i32_331 : BitVec 32 := 0#32
  let c0_i32_332 : BitVec 32 := 0#32
  ![v1102.toNat, 2, 0, 0]
def k0_off86 (v1105 : BitVec 32) (v1118 : BitVec 32) (v1125 : BitVec 32) : Fin 3 → Nat :=
  let c120_i32_324 : BitVec 32 := 120#32
  let c0_i32_323 : BitVec 32 := 0#32
  let c_m16_i32_322 : BitVec 32 := 4294967280#32
  let v1119 : BitVec 32 := Scalar.andi v1118 c_m16_i32_322
  let v1120 : BitVec 32 := Scalar.maxsi c0_i32_323 v1119
  let v1121 : BitVec 32 := Scalar.minsi c120_i32_324 v1120
  let v1122 : BitVec 32 := v1121
  let c136_i32_327 : BitVec 32 := 136#32
  let c0_i32_326 : BitVec 32 := 0#32
  let v1126 : BitVec 32 := Scalar.maxsi c0_i32_326 v1125
  let v1127 : BitVec 32 := Scalar.minsi c136_i32_327 v1126
  let c256_i32_328 : BitVec 32 := 256#32
  let v1128 : BitVec 32 := Scalar.muli v1127 c256_i32_328
  ![v1105.toNat, v1122.toNat, v1128.toNat]

def k0_chk25 (v1105 : BitVec 32) (v1118 : BitVec 32) (v1125 : BitVec 32) : Prop :=
  (∀ a, (k0_off86 v1105 v1118 v1125) a + S1x80x16384.size a ≤ S4x200x51200.size a) ∧
  (∀ (hinb : ∀ a, (k0_off86 v1105 v1118 v1125) a + S1x80x16384.size a ≤ S4x200x51200.size a), (Rect.unit (s := S4x200x51200) (k0_off86 v1105 v1118 v1125) S1x80x16384.size hinb).WholeWords (EltTy.packing .bf16))
theorem k0_off86_inb : ∀ (v1105 : BitVec 32) (v1118 : BitVec 32) (v1125 : BitVec 32) (k0_hw25 : k0_chk25 v1105 v1118 v1125), ∀ a, (k0_off86 v1105 v1118 v1125) a + S1x80x16384.size a ≤ S4x200x51200.size a := fun v1105 v1118 v1125 k0_hw25 => k0_hw25.1
theorem k0_off86_wordsbf16 : ∀ (v1105 : BitVec 32) (v1118 : BitVec 32) (v1125 : BitVec 32) (k0_hw25 : k0_chk25 v1105 v1118 v1125), (Rect.unit (s := S4x200x51200) (k0_off86 v1105 v1118 v1125) S1x80x16384.size (k0_off86_inb v1105 v1118 v1125 k0_hw25)).WholeWords (EltTy.packing .bf16) := fun v1105 v1118 v1125 k0_hw25 => k0_hw25.2 (k0_off86_inb v1105 v1118 v1125 k0_hw25)

def k0_off87 (i : grid0.Coords) : Fin 4 → Nat :=
  let arg0 : BitVec 32 := BitVec.ofNat 32 (i 0).val
  let c2_i32_333 : BitVec 32 := 2#32
  let c0_i32_334 : BitVec 32 := 0#32
  let v1135 : BitVec 1 := Scalar.cmpi .eq c2_i32_333 c0_i32_334
  let c1_i32_335 : BitVec 32 := 1#32
  let v1136 : BitVec 32 := Scalar.select v1135 c1_i32_335 c2_i32_333
  let v1137 : BitVec 32 := Scalar.remsi arg0 v1136
  let c0_i32_337 : BitVec 32 := 0#32
  let v1139 : BitVec 1 := Scalar.cmpi .slt v1137 c0_i32_337
  let c0_i32_338 : BitVec 32 := 0#32
  let v1140 : BitVec 1 := Scalar.cmpi .slt v1136 c0_i32_338
  let v1141 : BitVec 1 := Scalar.xori v1139 v1140
  let c0_i32_336 : BitVec 32 := 0#32
  let v1138 : BitVec 1 := Scalar.cmpi .ne v1137 c0_i32_336
  let v1142 : BitVec 1 := Scalar.andi v1141 v1138
  let v1143 : BitVec 32 := Scalar.addi v1137 v1136
  let v1144 : BitVec 32 := Scalar.select v1142 v1143 v1137
  let v1145 : Index := Scalar.indexCast v1144
  let c2_339 : Index := 2#32
  let c0_340 : Index := 0#32
  let c0_341 : Index := 0#32
  ![v1145.toNat, 2, 0, 0]
def k0_off88 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1212 : Index := Scalar.indexCast v864
  let c1_359 : Index := 1#32
  ![v1212.toNat, 1]
def k0_off89 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1217 : Index := Scalar.indexCast v864
  let c2_360 : Index := 2#32
  ![v1217.toNat, 2]
def k0_off90 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1222 : Index := Scalar.indexCast v864
  let c3_361 : Index := 3#32
  ![v1222.toNat, 3]
def k0_off91 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1227 : Index := Scalar.indexCast v864
  let c4_362 : Index := 4#32
  ![v1227.toNat, 4]
def k0_off92 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1251 : Index := Scalar.indexCast v864
  let c6_367 : Index := 6#32
  ![v1251.toNat, 6]
def k0_off93 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1256 : Index := Scalar.indexCast v864
  let c7_368 : Index := 7#32
  ![v1256.toNat, 7]
def k0_off94 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1261 : Index := Scalar.indexCast v864
  let c8_369 : Index := 8#32
  ![v1261.toNat, 8]
def k0_off95 (i : grid0.Coords) (c2_i32_246 : BitVec 32) : Fin 2 → Nat :=
  let arg0 : BitVec 32 := BitVec.ofNat 32 (i 0).val
  let c4_i32_245 : BitVec 32 := 4#32
  let v863 : BitVec 32 := Scalar.muli arg0 c4_i32_245
  let v864 : BitVec 32 := Scalar.addi v863 c2_i32_246
  let v1266 : Index := Scalar.indexCast v864
  let c9_370 : Index := 9#32
  ![v1266.toNat, 9]
def k0_mult15 (v1324 : BitVec 32) : BitVec 32 :=
  let c120_i32_391 : BitVec 32 := 120#32
  let c0_i32_390 : BitVec 32 := 0#32
  let c_m16_i32_389 : BitVec 32 := 4294967280#32
  let v1325 : BitVec 32 := Scalar.andi v1324 c_m16_i32_389
  let v1326 : BitVec 32 := Scalar.maxsi c0_i32_390 v1325
  let v1327 : BitVec 32 := Scalar.minsi c120_i32_391 v1326
  v1327

def k0_chk26 (v1324 : BitVec 32) : Prop :=
  (8 ∣ (k0_mult15 v1324).toNat)
theorem k0_mult15_dvd : ∀ (v1324 : BitVec 32) (k0_hw26 : k0_chk26 v1324), 8 ∣ (k0_mult15 v1324).toNat := fun v1324 k0_hw26 => k0_hw26

def k0_off96 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1530 : Index := Scalar.indexCast v1291
  let c0_445 : Index := 0#32
  ![v1530.toNat, 0]
def k0_off97 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1533 : Index := Scalar.indexCast v1291
  let c1_446 : Index := 1#32
  ![v1533.toNat, 1]
def k0_off98 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1535 : Index := Scalar.indexCast v1291
  let c6_447 : Index := 6#32
  ![v1535.toNat, 6]
def k0_off99 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1538 : Index := Scalar.indexCast v1291
  let c2_448 : Index := 2#32
  ![v1538.toNat, 2]
def k0_off100 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1540 : Index := Scalar.indexCast v1291
  let c7_449 : Index := 7#32
  ![v1540.toNat, 7]
def k0_mult16 (v1545 : BitVec 32) : BitVec 32 :=
  let c120_i32_453 : BitVec 32 := 120#32
  let c0_i32_452 : BitVec 32 := 0#32
  let c_m16_i32_451 : BitVec 32 := 4294967280#32
  let v1546 : BitVec 32 := Scalar.andi v1545 c_m16_i32_451
  let v1547 : BitVec 32 := Scalar.maxsi c0_i32_452 v1546
  let v1548 : BitVec 32 := Scalar.minsi c120_i32_453 v1547
  v1548

def k0_chk27 (v1545 : BitVec 32) : Prop :=
  (8 ∣ (k0_mult16 v1545).toNat)
theorem k0_mult16_dvd : ∀ (v1545 : BitVec 32) (k0_hw27 : k0_chk27 v1545), 8 ∣ (k0_mult16 v1545).toNat := fun v1545 k0_hw27 => k0_hw27

def k0_off101 (i : grid0.Coords) : Fin 2 → Nat :=
  let arg0 : BitVec 32 := BitVec.ofNat 32 (i 0).val
  let c2_i32_439 : BitVec 32 := 2#32
  let c0_i32_440 : BitVec 32 := 0#32
  let v1520 : BitVec 1 := Scalar.cmpi .eq c2_i32_439 c0_i32_440
  let c1_i32_441 : BitVec 32 := 1#32
  let v1521 : BitVec 32 := Scalar.select v1520 c1_i32_441 c2_i32_439
  let v1522 : BitVec 32 := Scalar.remsi arg0 v1521
  let c0_i32_443 : BitVec 32 := 0#32
  let v1524 : BitVec 1 := Scalar.cmpi .slt v1522 c0_i32_443
  let c0_i32_444 : BitVec 32 := 0#32
  let v1525 : BitVec 1 := Scalar.cmpi .slt v1521 c0_i32_444
  let v1526 : BitVec 1 := Scalar.xori v1524 v1525
  let c0_i32_442 : BitVec 32 := 0#32
  let v1523 : BitVec 1 := Scalar.cmpi .ne v1522 c0_i32_442
  let v1527 : BitVec 1 := Scalar.andi v1526 v1523
  let v1528 : BitVec 32 := Scalar.addi v1522 v1521
  let v1529 : BitVec 32 := Scalar.select v1527 v1528 v1522
  let c3_i32_459 : BitVec 32 := 3#32
  ![v1529.toNat, 3]
def k0_off102 (i : grid0.Coords) : Fin 4 → Nat :=
  let arg0 : BitVec 32 := BitVec.ofNat 32 (i 0).val
  let c2_i32_439 : BitVec 32 := 2#32
  let c0_i32_440 : BitVec 32 := 0#32
  let v1520 : BitVec 1 := Scalar.cmpi .eq c2_i32_439 c0_i32_440
  let c1_i32_441 : BitVec 32 := 1#32
  let v1521 : BitVec 32 := Scalar.select v1520 c1_i32_441 c2_i32_439
  let v1522 : BitVec 32 := Scalar.remsi arg0 v1521
  let c0_i32_443 : BitVec 32 := 0#32
  let v1524 : BitVec 1 := Scalar.cmpi .slt v1522 c0_i32_443
  let c0_i32_444 : BitVec 32 := 0#32
  let v1525 : BitVec 1 := Scalar.cmpi .slt v1521 c0_i32_444
  let v1526 : BitVec 1 := Scalar.xori v1524 v1525
  let c0_i32_442 : BitVec 32 := 0#32
  let v1523 : BitVec 1 := Scalar.cmpi .ne v1522 c0_i32_442
  let v1527 : BitVec 1 := Scalar.andi v1526 v1523
  let v1528 : BitVec 32 := Scalar.addi v1522 v1521
  let v1529 : BitVec 32 := Scalar.select v1527 v1528 v1522
  let c3_i32_458 : BitVec 32 := 3#32
  let c0_i32_460 : BitVec 32 := 0#32
  let c0_i32_461 : BitVec 32 := 0#32
  ![v1529.toNat, 3, 0, 0]
def k0_off103 (v1532 : BitVec 32) (v1545 : BitVec 32) (v1552 : BitVec 32) : Fin 3 → Nat :=
  let c120_i32_453 : BitVec 32 := 120#32
  let c0_i32_452 : BitVec 32 := 0#32
  let c_m16_i32_451 : BitVec 32 := 4294967280#32
  let v1546 : BitVec 32 := Scalar.andi v1545 c_m16_i32_451
  let v1547 : BitVec 32 := Scalar.maxsi c0_i32_452 v1546
  let v1548 : BitVec 32 := Scalar.minsi c120_i32_453 v1547
  let v1549 : BitVec 32 := v1548
  let c136_i32_456 : BitVec 32 := 136#32
  let c0_i32_455 : BitVec 32 := 0#32
  let v1553 : BitVec 32 := Scalar.maxsi c0_i32_455 v1552
  let v1554 : BitVec 32 := Scalar.minsi c136_i32_456 v1553
  let c256_i32_457 : BitVec 32 := 256#32
  let v1555 : BitVec 32 := Scalar.muli v1554 c256_i32_457
  ![v1532.toNat, v1549.toNat, v1555.toNat]

def k0_chk28 (v1532 : BitVec 32) (v1545 : BitVec 32) (v1552 : BitVec 32) : Prop :=
  (∀ a, (k0_off103 v1532 v1545 v1552) a + S1x80x16384.size a ≤ S4x200x51200.size a) ∧
  (∀ (hinb : ∀ a, (k0_off103 v1532 v1545 v1552) a + S1x80x16384.size a ≤ S4x200x51200.size a), (Rect.unit (s := S4x200x51200) (k0_off103 v1532 v1545 v1552) S1x80x16384.size hinb).WholeWords (EltTy.packing .bf16))
theorem k0_off103_inb : ∀ (v1532 : BitVec 32) (v1545 : BitVec 32) (v1552 : BitVec 32) (k0_hw28 : k0_chk28 v1532 v1545 v1552), ∀ a, (k0_off103 v1532 v1545 v1552) a + S1x80x16384.size a ≤ S4x200x51200.size a := fun v1532 v1545 v1552 k0_hw28 => k0_hw28.1
theorem k0_off103_wordsbf16 : ∀ (v1532 : BitVec 32) (v1545 : BitVec 32) (v1552 : BitVec 32) (k0_hw28 : k0_chk28 v1532 v1545 v1552), (Rect.unit (s := S4x200x51200) (k0_off103 v1532 v1545 v1552) S1x80x16384.size (k0_off103_inb v1532 v1545 v1552 k0_hw28)).WholeWords (EltTy.packing .bf16) := fun v1532 v1545 v1552 k0_hw28 => k0_hw28.2 (k0_off103_inb v1532 v1545 v1552 k0_hw28)

def k0_off104 (i : grid0.Coords) : Fin 4 → Nat :=
  let arg0 : BitVec 32 := BitVec.ofNat 32 (i 0).val
  let c2_i32_462 : BitVec 32 := 2#32
  let c0_i32_463 : BitVec 32 := 0#32
  let v1562 : BitVec 1 := Scalar.cmpi .eq c2_i32_462 c0_i32_463
  let c1_i32_464 : BitVec 32 := 1#32
  let v1563 : BitVec 32 := Scalar.select v1562 c1_i32_464 c2_i32_462
  let v1564 : BitVec 32 := Scalar.remsi arg0 v1563
  let c0_i32_466 : BitVec 32 := 0#32
  let v1566 : BitVec 1 := Scalar.cmpi .slt v1564 c0_i32_466
  let c0_i32_467 : BitVec 32 := 0#32
  let v1567 : BitVec 1 := Scalar.cmpi .slt v1563 c0_i32_467
  let v1568 : BitVec 1 := Scalar.xori v1566 v1567
  let c0_i32_465 : BitVec 32 := 0#32
  let v1565 : BitVec 1 := Scalar.cmpi .ne v1564 c0_i32_465
  let v1569 : BitVec 1 := Scalar.andi v1568 v1565
  let v1570 : BitVec 32 := Scalar.addi v1564 v1563
  let v1571 : BitVec 32 := Scalar.select v1569 v1570 v1564
  let v1572 : Index := Scalar.indexCast v1571
  let c3_468 : Index := 3#32
  let c0_469 : Index := 0#32
  let c0_470 : Index := 0#32
  ![v1572.toNat, 3, 0, 0]
def k0_off105 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1639 : Index := Scalar.indexCast v1291
  let c1_488 : Index := 1#32
  ![v1639.toNat, 1]
def k0_off106 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1644 : Index := Scalar.indexCast v1291
  let c2_489 : Index := 2#32
  ![v1644.toNat, 2]
def k0_off107 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1649 : Index := Scalar.indexCast v1291
  let c3_490 : Index := 3#32
  ![v1649.toNat, 3]
def k0_off108 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1654 : Index := Scalar.indexCast v1291
  let c4_491 : Index := 4#32
  ![v1654.toNat, 4]
def k0_off109 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1678 : Index := Scalar.indexCast v1291
  let c6_496 : Index := 6#32
  ![v1678.toNat, 6]
def k0_off110 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1683 : Index := Scalar.indexCast v1291
  let c7_497 : Index := 7#32
  ![v1683.toNat, 7]
def k0_off111 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1688 : Index := Scalar.indexCast v1291
  let c8_498 : Index := 8#32
  ![v1688.toNat, 8]
def k0_off112 (i : grid0.Coords) : Fin 2 → Nat :=
  let arg0 : BitVec 32 := BitVec.ofNat 32 (i 0).val
  let c4_i32_375 : BitVec 32 := 4#32
  let v1290 : BitVec 32 := Scalar.muli arg0 c4_i32_375
  let c3_i32 : BitVec 32 := 3#32
  let v1291 : BitVec 32 := Scalar.addi v1290 c3_i32
  let v1693 : Index := Scalar.indexCast v1291
  let c9_499 : Index := 9#32
  ![v1693.toNat, 9]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S256x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x14x14x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x256x200x200 : Shape := ⟨4, ![4, 256, 200, 200]⟩
abbrev S256x2x5 : Shape := ⟨3, ![256, 2, 5]⟩
abbrev S256x1x1 : Shape := ⟨3, ![256, 1, 1]⟩
abbrev S256 : Shape := ⟨1, ![256]⟩
abbrev S256x2x1 : Shape := ⟨3, ![256, 2, 1]⟩
abbrev S256x2 : Shape := ⟨2, ![256, 2]⟩
abbrev S_ : Shape := ⟨0, ![]⟩
abbrev S14 : Shape := ⟨1, ![14]⟩
abbrev S2 : Shape := ⟨1, ![2]⟩
abbrev S14x1 : Shape := ⟨2, ![14, 1]⟩
abbrev S1x2 : Shape := ⟨2, ![1, 2]⟩
abbrev S14x2 : Shape := ⟨2, ![14, 2]⟩
abbrev S1x14x2 : Shape := ⟨3, ![1, 14, 2]⟩
abbrev S256x14x2 : Shape := ⟨3, ![256, 14, 2]⟩
abbrev S256x14x2x1x1 : Shape := ⟨5, ![256, 14, 2, 1, 1]⟩
abbrev S256x1x1x14x2 : Shape := ⟨5, ![256, 1, 1, 14, 2]⟩
abbrev S256x14x2x14x2 : Shape := ⟨5, ![256, 14, 2, 14, 2]⟩
abbrev S256x14x2x14x2x1 : Shape := ⟨6, ![256, 14, 2, 14, 2, 1]⟩
abbrev S256x1x1x1x1 : Shape := ⟨5, ![256, 1, 1, 1, 1]⟩
abbrev S256x14x2x14x2x3 : Shape := ⟨6, ![256, 14, 2, 14, 2, 3]⟩
abbrev S256x14x2x14x2x256 : Shape := ⟨6, ![256, 14, 2, 14, 2, 256]⟩
abbrev S256x14x14x256 : Shape := ⟨4, ![256, 14, 14, 256]⟩
abbrev S256x256x14x14 : Shape := ⟨4, ![256, 256, 14, 14]⟩
abbrev S256x1 : Shape := ⟨2, ![256, 1]⟩
abbrev S1x14 : Shape := ⟨2, ![1, 14]⟩
abbrev S256x14 : Shape := ⟨2, ![256, 14]⟩
abbrev S256x14x1 : Shape := ⟨3, ![256, 14, 1]⟩
abbrev S256x1x14 : Shape := ⟨3, ![256, 1, 14]⟩
abbrev S256x14x14 : Shape := ⟨3, ![256, 14, 14]⟩
abbrev S256x1x14x14 : Shape := ⟨4, ![256, 1, 14, 14]⟩
abbrev S256x512x14x14 : Shape := ⟨4, ![256, 512, 14, 14]⟩

abbrev nBuf : Space → Nat
  | .hbm => 436
  | .vmem => 0
  | .smem => 0
  | _ => 0

abbrev hbmTy0_0 (i : Nat) : BufTy := match i % 128 with
  | 0 => ⟨S4x256x200x200, .f32⟩
  | 1 => ⟨S256x2x5, .f32⟩
  | 2 => ⟨S256x1x1, .f32⟩
  | 3 => ⟨S256, .f32⟩
  | 4 => ⟨S256, .i32⟩
  | 5 => ⟨S256x2x1, .f32⟩
  | 6 => ⟨S256x2, .f32⟩
  | 7 => ⟨S_, .f32⟩
  | 8 => ⟨S256, .f32⟩
  | 9 => ⟨S256x2x1, .f32⟩
  | 10 => ⟨S256x2, .f32⟩
  | 11 => ⟨S_, .f32⟩
  | 12 => ⟨S256, .f32⟩
  | 13 => ⟨S256x2x1, .f32⟩
  | 14 => ⟨S256x2, .f32⟩
  | 15 => ⟨S_, .f32⟩
  | 16 => ⟨S256, .f32⟩
  | 17 => ⟨S256x2x1, .f32⟩
  | 18 => ⟨S256x2, .f32⟩
  | 19 => ⟨S_, .f32⟩
  | 20 => ⟨S256, .f32⟩
  | 21 => ⟨S_, .f32⟩
  | 22 => ⟨S256, .f32⟩
  | 23 => ⟨S256, .f32⟩
  | 24 => ⟨S_, .f32⟩
  | 25 => ⟨S256, .f32⟩
  | 26 => ⟨S256, .f32⟩
  | 27 => ⟨S256, .f32⟩
  | 28 => ⟨S_, .f32⟩
  | 29 => ⟨S256, .f32⟩
  | 30 => ⟨S256, .f32⟩
  | 31 => ⟨S_, .f32⟩
  | 32 => ⟨S256, .f32⟩
  | 33 => ⟨S256, .f32⟩
  | 34 => ⟨S14, .f32⟩
  | 35 => ⟨S2, .f32⟩
  | 36 => ⟨S_, .f32⟩
  | 37 => ⟨S2, .f32⟩
  | 38 => ⟨S2, .f32⟩
  | 39 => ⟨S_, .f32⟩
  | 40 => ⟨S2, .f32⟩
  | 41 => ⟨S2, .f32⟩
  | 42 => ⟨S256x1x1, .f32⟩
  | 43 => ⟨S14x1, .f32⟩
  | 44 => ⟨S1x2, .f32⟩
  | 45 => ⟨S14x2, .f32⟩
  | 46 => ⟨S14x2, .f32⟩
  | 47 => ⟨S14x2, .f32⟩
  | 48 => ⟨S256x1x1, .f32⟩
  | 49 => ⟨S1x14x2, .f32⟩
  | 50 => ⟨S256x14x2, .f32⟩
  | 51 => ⟨S256x14x2, .f32⟩
  | 52 => ⟨S256x14x2, .f32⟩
  | 53 => ⟨S256x14x2, .f32⟩
  | 54 => ⟨S256x14x2, .f32⟩
  | 55 => ⟨S_, .f32⟩
  | 56 => ⟨S256x14x2, .f32⟩
  | 57 => ⟨S256x14x2, .i1⟩
  | 58 => ⟨S_, .f32⟩
  | 59 => ⟨S256x14x2, .f32⟩
  | 60 => ⟨S256x14x2, .i1⟩
  | 61 => ⟨S256x14x2, .i1⟩
  | 62 => ⟨S_, .f32⟩
  | 63 => ⟨S_, .f32⟩
  | 64 => ⟨S_, .f32⟩
  | 65 => ⟨S256x14x2, .f32⟩
  | 66 => ⟨S256x14x2, .f32⟩
  | 67 => ⟨S_, .f32⟩
  | 68 => ⟨S256x14x2, .f32⟩
  | 69 => ⟨S256x14x2, .f32⟩
  | 70 => ⟨S256x14x2, .f32⟩
  | 71 => ⟨S256x14x2, .i32⟩
  | 72 => ⟨S_, .i32⟩
  | 73 => ⟨S256x14x2, .i32⟩
  | 74 => ⟨S256x14x2, .i32⟩
  | 75 => ⟨S_, .i32⟩
  | 76 => ⟨S256x14x2, .i32⟩
  | 77 => ⟨S256x14x2, .i32⟩
  | 78 => ⟨S256x14x2, .f32⟩
  | 79 => ⟨S256x14x2, .f32⟩
  | 80 => ⟨S_, .f32⟩
  | 81 => ⟨S256x14x2, .f32⟩
  | 82 => ⟨S256x14x2, .f32⟩
  | 83 => ⟨S_, .f32⟩
  | 84 => ⟨S256, .f32⟩
  | 85 => ⟨S256, .f32⟩
  | 86 => ⟨S_, .f32⟩
  | 87 => ⟨S256, .f32⟩
  | 88 => ⟨S256, .f32⟩
  | 89 => ⟨S256, .f32⟩
  | 90 => ⟨S_, .f32⟩
  | 91 => ⟨S256, .f32⟩
  | 92 => ⟨S256, .f32⟩
  | 93 => ⟨S_, .f32⟩
  | 94 => ⟨S256, .f32⟩
  | 95 => ⟨S256, .f32⟩
  | 96 => ⟨S14, .f32⟩
  | 97 => ⟨S2, .f32⟩
  | 98 => ⟨S_, .f32⟩
  | 99 => ⟨S2, .f32⟩
  | 100 => ⟨S2, .f32⟩
  | 101 => ⟨S_, .f32⟩
  | 102 => ⟨S2, .f32⟩
  | 103 => ⟨S2, .f32⟩
  | 104 => ⟨S256x1x1, .f32⟩
  | 105 => ⟨S14x1, .f32⟩
  | 106 => ⟨S1x2, .f32⟩
  | 107 => ⟨S14x2, .f32⟩
  | 108 => ⟨S14x2, .f32⟩
  | 109 => ⟨S14x2, .f32⟩
  | 110 => ⟨S256x1x1, .f32⟩
  | 111 => ⟨S1x14x2, .f32⟩
  | 112 => ⟨S256x14x2, .f32⟩
  | 113 => ⟨S256x14x2, .f32⟩
  | 114 => ⟨S256x14x2, .f32⟩
  | 115 => ⟨S256x14x2, .f32⟩
  | 116 => ⟨S256x14x2, .f32⟩
  | 117 => ⟨S_, .f32⟩
  | 118 => ⟨S256x14x2, .f32⟩
  | 119 => ⟨S256x14x2, .i1⟩
  | 120 => ⟨S_, .f32⟩
  | 121 => ⟨S256x14x2, .f32⟩
  | 122 => ⟨S256x14x2, .i1⟩
  | 123 => ⟨S256x14x2, .i1⟩
  | 124 => ⟨S_, .f32⟩
  | 125 => ⟨S_, .f32⟩
  | 126 => ⟨S_, .f32⟩
  | 127 => ⟨S256x14x2, .f32⟩
  | _ => ⟨S4x256x200x200, .f32⟩

abbrev hbmTy0_1 (i : Nat) : BufTy := match i % 128 with
  | 0 => ⟨S256x14x2, .f32⟩
  | 1 => ⟨S_, .f32⟩
  | 2 => ⟨S256x14x2, .f32⟩
  | 3 => ⟨S256x14x2, .f32⟩
  | 4 => ⟨S256x14x2, .f32⟩
  | 5 => ⟨S256x14x2, .i32⟩
  | 6 => ⟨S_, .i32⟩
  | 7 => ⟨S256x14x2, .i32⟩
  | 8 => ⟨S256x14x2, .i32⟩
  | 9 => ⟨S_, .i32⟩
  | 10 => ⟨S256x14x2, .i32⟩
  | 11 => ⟨S256x14x2, .i32⟩
  | 12 => ⟨S256x14x2, .f32⟩
  | 13 => ⟨S256x14x2, .f32⟩
  | 14 => ⟨S_, .f32⟩
  | 15 => ⟨S256x14x2, .f32⟩
  | 16 => ⟨S256x14x2, .f32⟩
  | 17 => ⟨S256x14x2x1x1, .f32⟩
  | 18 => ⟨S256x1x1x14x2, .f32⟩
  | 19 => ⟨S256x14x2x14x2, .f32⟩
  | 20 => ⟨S256x14x2x14x2, .f32⟩
  | 21 => ⟨S256x14x2x14x2, .f32⟩
  | 22 => ⟨S256x14x2x14x2x1, .f32⟩
  | 23 => ⟨S256x1x1x1x1, .i32⟩
  | 24 => ⟨S256x14x2x1x1, .i32⟩
  | 25 => ⟨S256x1x1x14x2, .i32⟩
  | 26 => ⟨S_, .i32⟩
  | 27 => ⟨S256x1x1x1x1, .i32⟩
  | 28 => ⟨S256x1x1x1x1, .i1⟩
  | 29 => ⟨S_, .i32⟩
  | 30 => ⟨S256x1x1x1x1, .i32⟩
  | 31 => ⟨S256x1x1x1x1, .i32⟩
  | 32 => ⟨S256x1x1x1x1, .i32⟩
  | 33 => ⟨S_, .i32⟩
  | 34 => ⟨S256x14x2x1x1, .i32⟩
  | 35 => ⟨S256x14x2x1x1, .i1⟩
  | 36 => ⟨S_, .i32⟩
  | 37 => ⟨S256x14x2x1x1, .i32⟩
  | 38 => ⟨S256x14x2x1x1, .i32⟩
  | 39 => ⟨S256x14x2x1x1, .i32⟩
  | 40 => ⟨S_, .i32⟩
  | 41 => ⟨S256x1x1x14x2, .i32⟩
  | 42 => ⟨S256x1x1x14x2, .i1⟩
  | 43 => ⟨S_, .i32⟩
  | 44 => ⟨S256x1x1x14x2, .i32⟩
  | 45 => ⟨S256x1x1x14x2, .i32⟩
  | 46 => ⟨S256x1x1x14x2, .i32⟩
  | 47 => ⟨S256x14x2x14x2, .i32⟩
  | 48 => ⟨S256x14x2x14x2, .i32⟩
  | 49 => ⟨S256x14x2x14x2, .i32⟩
  | 50 => ⟨S256x14x2x14x2x1, .i32⟩
  | 51 => ⟨S256x14x2x14x2x1, .i32⟩
  | 52 => ⟨S256x14x2x14x2x1, .i32⟩
  | 53 => ⟨S256x14x2x14x2x3, .i32⟩
  | 54 => ⟨S256x14x2x14x2x256, .f32⟩
  | 55 => ⟨S256x14x2x14x2x256, .f32⟩
  | 56 => ⟨S256x14x2x14x2x256, .f32⟩
  | 57 => ⟨S256x14x2x1x1, .f32⟩
  | 58 => ⟨S256x1x1x14x2, .f32⟩
  | 59 => ⟨S256x14x2x14x2, .f32⟩
  | 60 => ⟨S256x14x2x14x2, .f32⟩
  | 61 => ⟨S256x14x2x14x2, .f32⟩
  | 62 => ⟨S256x14x2x14x2x1, .f32⟩
  | 63 => ⟨S256x1x1x1x1, .i32⟩
  | 64 => ⟨S256x14x2x1x1, .i32⟩
  | 65 => ⟨S256x1x1x14x2, .i32⟩
  | 66 => ⟨S_, .i32⟩
  | 67 => ⟨S256x1x1x1x1, .i32⟩
  | 68 => ⟨S256x1x1x1x1, .i1⟩
  | 69 => ⟨S_, .i32⟩
  | 70 => ⟨S256x1x1x1x1, .i32⟩
  | 71 => ⟨S256x1x1x1x1, .i32⟩
  | 72 => ⟨S256x1x1x1x1, .i32⟩
  | 73 => ⟨S_, .i32⟩
  | 74 => ⟨S256x14x2x1x1, .i32⟩
  | 75 => ⟨S256x14x2x1x1, .i1⟩
  | 76 => ⟨S_, .i32⟩
  | 77 => ⟨S256x14x2x1x1, .i32⟩
  | 78 => ⟨S256x14x2x1x1, .i32⟩
  | 79 => ⟨S256x14x2x1x1, .i32⟩
  | 80 => ⟨S_, .i32⟩
  | 81 => ⟨S256x1x1x14x2, .i32⟩
  | 82 => ⟨S256x1x1x14x2, .i1⟩
  | 83 => ⟨S_, .i32⟩
  | 84 => ⟨S256x1x1x14x2, .i32⟩
  | 85 => ⟨S256x1x1x14x2, .i32⟩
  | 86 => ⟨S256x1x1x14x2, .i32⟩
  | 87 => ⟨S256x14x2x14x2, .i32⟩
  | 88 => ⟨S256x14x2x14x2, .i32⟩
  | 89 => ⟨S256x14x2x14x2, .i32⟩
  | 90 => ⟨S256x14x2x14x2x1, .i32⟩
  | 91 => ⟨S256x14x2x14x2x1, .i32⟩
  | 92 => ⟨S256x14x2x14x2x1, .i32⟩
  | 93 => ⟨S256x14x2x14x2x3, .i32⟩
  | 94 => ⟨S256x14x2x14x2x256, .f32⟩
  | 95 => ⟨S256x14x2x14x2x256, .f32⟩
  | 96 => ⟨S256x14x2x14x2x256, .f32⟩
  | 97 => ⟨S256x14x2x14x2x256, .f32⟩
  | 98 => ⟨S256x14x2x1x1, .f32⟩
  | 99 => ⟨S256x1x1x14x2, .f32⟩
  | 100 => ⟨S256x14x2x14x2, .f32⟩
  | 101 => ⟨S256x14x2x14x2, .f32⟩
  | 102 => ⟨S256x14x2x14x2, .f32⟩
  | 103 => ⟨S256x14x2x14x2x1, .f32⟩
  | 104 => ⟨S256x1x1x1x1, .i32⟩
  | 105 => ⟨S256x14x2x1x1, .i32⟩
  | 106 => ⟨S256x1x1x14x2, .i32⟩
  | 107 => ⟨S_, .i32⟩
  | 108 => ⟨S256x1x1x1x1, .i32⟩
  | 109 => ⟨S256x1x1x1x1, .i1⟩
  | 110 => ⟨S_, .i32⟩
  | 111 => ⟨S256x1x1x1x1, .i32⟩
  | 112 => ⟨S256x1x1x1x1, .i32⟩
  | 113 => ⟨S256x1x1x1x1, .i32⟩
  | 114 => ⟨S_, .i32⟩
  | 115 => ⟨S256x14x2x1x1, .i32⟩
  | 116 => ⟨S256x14x2x1x1, .i1⟩
  | 117 => ⟨S_, .i32⟩
  | 118 => ⟨S256x14x2x1x1, .i32⟩
  | 119 => ⟨S256x14x2x1x1, .i32⟩
  | 120 => ⟨S256x14x2x1x1, .i32⟩
  | 121 => ⟨S_, .i32⟩
  | 122 => ⟨S256x1x1x14x2, .i32⟩
  | 123 => ⟨S256x1x1x14x2, .i1⟩
  | 124 => ⟨S_, .i32⟩
  | 125 => ⟨S256x1x1x14x2, .i32⟩
  | 126 => ⟨S256x1x1x14x2, .i32⟩
  | 127 => ⟨S256x1x1x14x2, .i32⟩
  | _ => ⟨S4x256x200x200, .f32⟩

abbrev hbmTy0_2 (i : Nat) : BufTy := match i % 128 with
  | 0 => ⟨S256x14x2x14x2, .i32⟩
  | 1 => ⟨S256x14x2x14x2, .i32⟩
  | 2 => ⟨S256x14x2x14x2, .i32⟩
  | 3 => ⟨S256x14x2x14x2x1, .i32⟩
  | 4 => ⟨S256x14x2x14x2x1, .i32⟩
  | 5 => ⟨S256x14x2x14x2x1, .i32⟩
  | 6 => ⟨S256x14x2x14x2x3, .i32⟩
  | 7 => ⟨S256x14x2x14x2x256, .f32⟩
  | 8 => ⟨S256x14x2x14x2x256, .f32⟩
  | 9 => ⟨S256x14x2x14x2x256, .f32⟩
  | 10 => ⟨S256x14x2x14x2x256, .f32⟩
  | 11 => ⟨S256x14x2x1x1, .f32⟩
  | 12 => ⟨S256x1x1x14x2, .f32⟩
  | 13 => ⟨S256x14x2x14x2, .f32⟩
  | 14 => ⟨S256x14x2x14x2, .f32⟩
  | 15 => ⟨S256x14x2x14x2, .f32⟩
  | 16 => ⟨S256x14x2x14x2x1, .f32⟩
  | 17 => ⟨S256x1x1x1x1, .i32⟩
  | 18 => ⟨S256x14x2x1x1, .i32⟩
  | 19 => ⟨S256x1x1x14x2, .i32⟩
  | 20 => ⟨S_, .i32⟩
  | 21 => ⟨S256x1x1x1x1, .i32⟩
  | 22 => ⟨S256x1x1x1x1, .i1⟩
  | 23 => ⟨S_, .i32⟩
  | 24 => ⟨S256x1x1x1x1, .i32⟩
  | 25 => ⟨S256x1x1x1x1, .i32⟩
  | 26 => ⟨S256x1x1x1x1, .i32⟩
  | 27 => ⟨S_, .i32⟩
  | 28 => ⟨S256x14x2x1x1, .i32⟩
  | 29 => ⟨S256x14x2x1x1, .i1⟩
  | 30 => ⟨S_, .i32⟩
  | 31 => ⟨S256x14x2x1x1, .i32⟩
  | 32 => ⟨S256x14x2x1x1, .i32⟩
  | 33 => ⟨S256x14x2x1x1, .i32⟩
  | 34 => ⟨S_, .i32⟩
  | 35 => ⟨S256x1x1x14x2, .i32⟩
  | 36 => ⟨S256x1x1x14x2, .i1⟩
  | 37 => ⟨S_, .i32⟩
  | 38 => ⟨S256x1x1x14x2, .i32⟩
  | 39 => ⟨S256x1x1x14x2, .i32⟩
  | 40 => ⟨S256x1x1x14x2, .i32⟩
  | 41 => ⟨S256x14x2x14x2, .i32⟩
  | 42 => ⟨S256x14x2x14x2, .i32⟩
  | 43 => ⟨S256x14x2x14x2, .i32⟩
  | 44 => ⟨S256x14x2x14x2x1, .i32⟩
  | 45 => ⟨S256x14x2x14x2x1, .i32⟩
  | 46 => ⟨S256x14x2x14x2x1, .i32⟩
  | 47 => ⟨S256x14x2x14x2x3, .i32⟩
  | 48 => ⟨S256x14x2x14x2x256, .f32⟩
  | 49 => ⟨S256x14x2x14x2x256, .f32⟩
  | 50 => ⟨S256x14x2x14x2x256, .f32⟩
  | 51 => ⟨S256x14x2x14x2x256, .f32⟩
  | 52 => ⟨S256x14x2x1x1, .i1⟩
  | 53 => ⟨S256x1x1x14x2, .i1⟩
  | 54 => ⟨S256x14x2x14x2, .i1⟩
  | 55 => ⟨S256x14x2x14x2, .i1⟩
  | 56 => ⟨S256x14x2x14x2, .i1⟩
  | 57 => ⟨S256x14x2x14x2, .f32⟩
  | 58 => ⟨S256x14x2x14x2x1, .f32⟩
  | 59 => ⟨S256x14x2x14x2x256, .f32⟩
  | 60 => ⟨S256x14x2x14x2x256, .f32⟩
  | 61 => ⟨S_, .f32⟩
  | 62 => ⟨S256x14x14x256, .f32⟩
  | 63 => ⟨S_, .f32⟩
  | 64 => ⟨S256x14x14x256, .f32⟩
  | 65 => ⟨S256x14x14x256, .f32⟩
  | 66 => ⟨S256x256x14x14, .f32⟩
  | 67 => ⟨S256, .f32⟩
  | 68 => ⟨S_, .f32⟩
  | 69 => ⟨S256, .f32⟩
  | 70 => ⟨S256, .f32⟩
  | 71 => ⟨S256, .f32⟩
  | 72 => ⟨S_, .f32⟩
  | 73 => ⟨S256, .f32⟩
  | 74 => ⟨S256, .f32⟩
  | 75 => ⟨S14, .i32⟩
  | 76 => ⟨S14, .i32⟩
  | 77 => ⟨S256x1x1, .f32⟩
  | 78 => ⟨S256, .f32⟩
  | 79 => ⟨S256, .f32⟩
  | 80 => ⟨S256, .f32⟩
  | 81 => ⟨S256, .i32⟩
  | 82 => ⟨S256x1, .i32⟩
  | 83 => ⟨S256x1x1, .f32⟩
  | 84 => ⟨S256, .f32⟩
  | 85 => ⟨S256, .f32⟩
  | 86 => ⟨S256, .f32⟩
  | 87 => ⟨S256, .i32⟩
  | 88 => ⟨S256x1, .i32⟩
  | 89 => ⟨S256x1x1, .f32⟩
  | 90 => ⟨S256, .f32⟩
  | 91 => ⟨S256, .f32⟩
  | 92 => ⟨S256, .f32⟩
  | 93 => ⟨S256, .i32⟩
  | 94 => ⟨S256x1, .i32⟩
  | 95 => ⟨S256x1x1, .f32⟩
  | 96 => ⟨S256, .f32⟩
  | 97 => ⟨S256, .f32⟩
  | 98 => ⟨S256, .f32⟩
  | 99 => ⟨S256, .i32⟩
  | 100 => ⟨S256x1, .i32⟩
  | 101 => ⟨S1x14, .i32⟩
  | 102 => ⟨S256x14, .i32⟩
  | 103 => ⟨S256x14, .i32⟩
  | 104 => ⟨S256x14, .i1⟩
  | 105 => ⟨S1x14, .i32⟩
  | 106 => ⟨S256x14, .i32⟩
  | 107 => ⟨S256x14, .i32⟩
  | 108 => ⟨S256x14, .i1⟩
  | 109 => ⟨S256x14, .i1⟩
  | 110 => ⟨S1x14, .i32⟩
  | 111 => ⟨S256x14, .i32⟩
  | 112 => ⟨S256x14, .i32⟩
  | 113 => ⟨S256x14, .i1⟩
  | 114 => ⟨S1x14, .i32⟩
  | 115 => ⟨S256x14, .i32⟩
  | 116 => ⟨S256x14, .i32⟩
  | 117 => ⟨S256x14, .i1⟩
  | 118 => ⟨S256x14, .i1⟩
  | 119 => ⟨S256x14x1, .i1⟩
  | 120 => ⟨S256x1x14, .i1⟩
  | 121 => ⟨S256x14x14, .i1⟩
  | 122 => ⟨S256x14x14, .i1⟩
  | 123 => ⟨S256x14x14, .i1⟩
  | 124 => ⟨S256x14x14, .f32⟩
  | 125 => ⟨S256x1x14x14, .f32⟩
  | 126 => ⟨S256x256x14x14, .f32⟩
  | 127 => ⟨S256x256x14x14, .f32⟩
  | _ => ⟨S4x256x200x200, .f32⟩

abbrev hbmTy0_3 (i : Nat) : BufTy := match i % 128 with
  | 0 => ⟨S256x1x1, .f32⟩
  | 1 => ⟨S256, .f32⟩
  | 2 => ⟨S256, .f32⟩
  | 3 => ⟨S256, .f32⟩
  | 4 => ⟨S256, .i32⟩
  | 5 => ⟨S256x1, .i32⟩
  | 6 => ⟨S256x1x1, .f32⟩
  | 7 => ⟨S256, .f32⟩
  | 8 => ⟨S256, .f32⟩
  | 9 => ⟨S256, .f32⟩
  | 10 => ⟨S256, .i32⟩
  | 11 => ⟨S256x1, .i32⟩
  | 12 => ⟨S256x1x1, .f32⟩
  | 13 => ⟨S256, .f32⟩
  | 14 => ⟨S256, .f32⟩
  | 15 => ⟨S256, .f32⟩
  | 16 => ⟨S256, .i32⟩
  | 17 => ⟨S256x1, .i32⟩
  | 18 => ⟨S256x1x1, .f32⟩
  | 19 => ⟨S256, .f32⟩
  | 20 => ⟨S256, .f32⟩
  | 21 => ⟨S256, .f32⟩
  | 22 => ⟨S256, .i32⟩
  | 23 => ⟨S256x1, .i32⟩
  | 24 => ⟨S1x14, .i32⟩
  | 25 => ⟨S256x14, .i32⟩
  | 26 => ⟨S256x14, .i32⟩
  | 27 => ⟨S256x14, .i1⟩
  | 28 => ⟨S1x14, .i32⟩
  | 29 => ⟨S256x14, .i32⟩
  | 30 => ⟨S256x14, .i32⟩
  | 31 => ⟨S256x14, .i1⟩
  | 32 => ⟨S256x14, .i1⟩
  | 33 => ⟨S1x14, .i32⟩
  | 34 => ⟨S256x14, .i32⟩
  | 35 => ⟨S256x14, .i32⟩
  | 36 => ⟨S256x14, .i1⟩
  | 37 => ⟨S1x14, .i32⟩
  | 38 => ⟨S256x14, .i32⟩
  | 39 => ⟨S256x14, .i32⟩
  | 40 => ⟨S256x14, .i1⟩
  | 41 => ⟨S256x14, .i1⟩
  | 42 => ⟨S256x14x1, .i1⟩
  | 43 => ⟨S256x1x14, .i1⟩
  | 44 => ⟨S256x14x14, .i1⟩
  | 45 => ⟨S256x14x14, .i1⟩
  | 46 => ⟨S256x14x14, .i1⟩
  | 47 => ⟨S256x14x14, .f32⟩
  | 48 => ⟨S256x1x14x14, .f32⟩
  | 49 => ⟨S256x256x14x14, .f32⟩
  | 50 => ⟨S256x256x14x14, .f32⟩
  | 51 => ⟨S256x512x14x14, .f32⟩
  | _ => ⟨S4x256x200x200, .f32⟩

abbrev hbmTy (i : Nat) : BufTy := match i / 128 with
  | 0 => hbmTy0_0 i
  | 1 => hbmTy0_1 i
  | 2 => hbmTy0_2 i
  | 3 => hbmTy0_3 i
  | _ => ⟨S4x256x200x200, .f32⟩

abbrev bufTy : (tb : Table) → Fin (tcTables nBuf tb) → BufTy
  | .hbm, ⟨i, _⟩ => hbmTy i
  | _, _ => ⟨S4x256x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_cst_12 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_21 : Ref sig .tc := ⟨.hbm, 117, rfl⟩
abbrev main_v87 : Ref sig .tc := ⟨.hbm, 118, rfl⟩
abbrev main_v88 : Ref sig .tc := ⟨.hbm, 119, rfl⟩
abbrev main_cst_22 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_cst_24 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_25 : Ref sig .tc := ⟨.hbm, 134, rfl⟩
abbrev main_v95 : Ref sig .tc := ⟨.hbm, 135, rfl⟩
abbrev main_v96 : Ref sig .tc := ⟨.hbm, 136, rfl⟩
abbrev main_c_26 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_27 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_28 : Ref sig .tc := ⟨.hbm, 154, rfl⟩
abbrev main_v112 : Ref sig .tc := ⟨.hbm, 155, rfl⟩
abbrev main_v113 : Ref sig .tc := ⟨.hbm, 156, rfl⟩
abbrev main_c_29 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_30 : Ref sig .tc := ⟨.hbm, 161, rfl⟩
abbrev main_v117 : Ref sig .tc := ⟨.hbm, 162, rfl⟩
abbrev main_v118 : Ref sig .tc := ⟨.hbm, 163, rfl⟩
abbrev main_c_31 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_32 : Ref sig .tc := ⟨.hbm, 168, rfl⟩
abbrev main_v122 : Ref sig .tc := ⟨.hbm, 169, rfl⟩
abbrev main_v123 : Ref sig .tc := ⟨.hbm, 170, rfl⟩
abbrev main_c_33 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_c_34 : Ref sig .tc := ⟨.hbm, 194, rfl⟩
abbrev main_v146 : Ref sig .tc := ⟨.hbm, 195, rfl⟩
abbrev main_v147 : Ref sig .tc := ⟨.hbm, 196, rfl⟩
abbrev main_c_35 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_36 : Ref sig .tc := ⟨.hbm, 201, rfl⟩
abbrev main_v151 : Ref sig .tc := ⟨.hbm, 202, rfl⟩
abbrev main_v152 : Ref sig .tc := ⟨.hbm, 203, rfl⟩
abbrev main_c_37 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_c_38 : Ref sig .tc := ⟨.hbm, 208, rfl⟩
abbrev main_v156 : Ref sig .tc := ⟨.hbm, 209, rfl⟩
abbrev main_v157 : Ref sig .tc := ⟨.hbm, 210, rfl⟩
abbrev main_c_39 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_c_40 : Ref sig .tc := ⟨.hbm, 235, rfl⟩
abbrev main_v181 : Ref sig .tc := ⟨.hbm, 236, rfl⟩
abbrev main_v182 : Ref sig .tc := ⟨.hbm, 237, rfl⟩
abbrev main_c_41 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_c_42 : Ref sig .tc := ⟨.hbm, 242, rfl⟩
abbrev main_v186 : Ref sig .tc := ⟨.hbm, 243, rfl⟩
abbrev main_v187 : Ref sig .tc := ⟨.hbm, 244, rfl⟩
abbrev main_c_43 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_c_44 : Ref sig .tc := ⟨.hbm, 249, rfl⟩
abbrev main_v191 : Ref sig .tc := ⟨.hbm, 250, rfl⟩
abbrev main_v192 : Ref sig .tc := ⟨.hbm, 251, rfl⟩
abbrev main_c_45 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_c_46 : Ref sig .tc := ⟨.hbm, 276, rfl⟩
abbrev main_v216 : Ref sig .tc := ⟨.hbm, 277, rfl⟩
abbrev main_v217 : Ref sig .tc := ⟨.hbm, 278, rfl⟩
abbrev main_c_47 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_c_48 : Ref sig .tc := ⟨.hbm, 283, rfl⟩
abbrev main_v221 : Ref sig .tc := ⟨.hbm, 284, rfl⟩
abbrev main_v222 : Ref sig .tc := ⟨.hbm, 285, rfl⟩
abbrev main_c_49 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_c_50 : Ref sig .tc := ⟨.hbm, 290, rfl⟩
abbrev main_v226 : Ref sig .tc := ⟨.hbm, 291, rfl⟩
abbrev main_v227 : Ref sig .tc := ⟨.hbm, 292, rfl⟩
abbrev main_c_51 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_cst_52 : Ref sig .tc := ⟨.hbm, 317, rfl⟩
abbrev main_v251 : Ref sig .tc := ⟨.hbm, 318, rfl⟩
abbrev main_cst_53 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_cst_54 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_cst_55 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_v330 : Ref sig .tc := ⟨.hbm, 400, rfl⟩
abbrev main_v331 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩

abbrev nD : Nat := 1
abbrev τ : Topo := Topo.v7x

variable {F : FTy → Type} [FloatOps F]
-- ==== Proof.Same.lean ====
/-
  The kernel read over the extended reals is, operation for operation, the kernel itself: no operation of it was
  rewritten. So the two programs' texts are one, and what is proved of the one over any number format is proved of both.
-/
module

public import proofs.«01_k».proof.Defs
public import proofs.«01_k».proof.Proof.Gen.Kernel
public import proofs.«01_k».proof.Proof.Gen.KernelIdeal

@[expose] public section

namespace Cert.Same

open Idealize.ShloMosaic

variable {F : FTy → Type} [FloatOps F]

theorem body_same : @Cert.KernelIdeal.cc0__roi_kernel F _ _ = @Cert.Kernel.cc0__roi_kernel F _ _ := rfl

theorem defs₀_same : Cert.KernelIdeal.defs₀ (F := F) = Cert.Kernel.defs₀ (F := F) := by
  funext x y z
  rcases x with _ | _ | _
  · match y, z with
    | 0, (t, s) => rfl
    | ⟨_ + 1, h⟩, _ => exact absurd h (Nat.not_lt.2 (Nat.le_add_left _ _))
  · rfl
  · rfl

theorem defs_same : Cert.KernelIdeal.defs (F := F) = Cert.Kernel.defs (F := F) :=
  congrArg (Pipeline.defs _) defs₀_same

theorem main_same : Cert.KernelIdeal.main (F := F) = Cert.Kernel.main (F := F) := rfl

/-- A statement of the one program's run is the same statement of the other's. -/
theorem run_same (m : (ℓ : Loc Cert.Kernel.nD Cert.Kernel.τ Cert.Kernel.sig) → Buf (Elt F) ℓ) (g : Dev Cert.Kernel.nD → PrngReg)
    (post : _ → Prop)
    (h : θ_run (Cert.Kernel.defs (F := F)) (onTc (τ := Cert.Kernel.τ) (Cert.Kernel.main (F := F))) ⟨m, fun _ => 0, g⟩ post) :
    θ_run (Cert.KernelIdeal.defs (F := F)) (onTc (τ := Cert.KernelIdeal.τ) (Cert.KernelIdeal.main (F := F))) ⟨m, fun _ => 0, g⟩ post := by
  rw [defs_same]; exact h

end Cert.Same

end
-- ==== Proof.Given.lean ====
/- What the two preconditions say of the boxes, read off their printed text. -/
module

public import proofs.«01_k».proof.Pre_maps_named
public import proofs.«01_k».proof.Pre_boxes_fit
public import Idealize.ShloMosaic.Lib.ReduceAll
public import Idealize.ShloMosaic.Lib.Pipeline.Value
public import Idealize.ShloMosaic.Lib.ValueIdxCore
public import Idealize.ShloMosaic.Lib.Routing.OpsSearch
public import Idealize.ShloMosaic.Lib.Decide
public import Idealize.ShloMosaic.PureOps.BitExact
public import Idealize.ShloMosaic.PureOps.Ideal

@[expose] public section

noncomputable section

namespace Cert.Given

open Idealize.ShloMosaic Idealize.ShloMosaic.ValueIdx Cert.Pre_boxes_fit

variable {F : FTy → Type} [FloatOps F]

/-- The side conditions of the two preconditions' own operations: plain counts. -/
theorem mapsFacts : Cert.Pre_maps_named.Facts := by constructor <;> decide
theorem fitFacts : Cert.Pre_boxes_fit.Facts := by constructor <;> decide

/-! ## The first number of every pair names a map -/

/-- A word between 0 and 3, said by two signed comparisons. -/
theorem word_lt_four (w : BitVec 32) (h0 : IntOp.cmpi .sge w 0#32 = 1#1) (h4 : IntOp.cmpi .slt w 4#32 = 1#1) : w.toNat < 4 := by
  have one : ∀ b : Bool, BitVec.ofBool b = 1#1 ↔ b = true := by decide
  simp only [IntOp.cmpi, one, BitVec.sle, BitVec.slt, decide_eq_true_eq] at h0 h4
  have e0 : (0#32).toInt = 0 := by decide
  have e4 : (4#32).toInt = 4 := by decide
  rw [e0] at h0
  rw [e4] at h4
  have := BitVec.toInt_eq_toNat_cond w
  have := w.isLt
  omega

/-- The map number as the preconditions compute it: the first number of a pair's first box, truncated. -/
theorem mapNo_read (x : FVec F S256x2x5 .f32) (hs : S256x2x5.Slices ![0, 0, 0] S256x1x1) (hc : S256x1x1.ShapeCasts S256) (j : Fin 256) :
    (fptosi 32 (shapeCast S256 (extractStridedSlice S256x1x1 ![0, 0, 0] x hs) hc) : IVec S256 32) (ix1 j) = FloatOps.fptosi 32 (x (ix3 j 0 0)) := by
  show FloatOps.fptosi 32 (shapeCast S256 (extractStridedSlice S256x1x1 ![0, 0, 0] x hs) hc (ix1 j)) = _
  rw [shapeCast_apply _ hc (ix1 j) (ix3 j 0 0) (by rw [Shape.rowMajor_val_three, Shape.rowMajor_val_one]; show (j.val * 1 + 0) * 1 + 0 = j.val; omega),
    extractStridedSlice_apply _ _ hs (ix3 j 0 0) (ix3 j 0 0) (fun a => by fin_cases a <;> simp [ix3])]

theorem maps_of_named [Cert.Pre_maps_named.Facts] (y : FVec F S4x256x200x200 .f32) (x : FVec F S256x2x5 .f32)
    (h : Cert.Pre_maps_named.fn y x = fun _ => 1#1) (j : Fin 256) : (FloatOps.fptosi 32 (x (ix3 j 0 0)) : BitVec 32).toNat < 4 := by
  have e := congrFun h (fun a => a.elim0)
  dsimp only [Cert.Pre_maps_named.fn] at e
  have : Subsingleton (Shape.Idx Cert.Pre_maps_named.S_) := ⟨fun a b => funext fun q => q.elim0⟩
  have k := Host.reduce_andi_all _ _ _ _ _ e (ix1 j)
  obtain ⟨k0, k4⟩ := IntOp.andi_eq_one.1 k
  rw [← mapNo_read x (by decide) (by decide) j]
  exact word_lt_four _ k0 k4

theorem maps_of_fit [Cert.Pre_boxes_fit.Facts] (y : FVec F S4x256x200x200 .f32) (x : FVec F S256x2x5 .f32)
    (h : Cert.Pre_boxes_fit.fn y x = fun _ => 1#1) (j : Fin 256) : (FloatOps.fptosi 32 (x (ix3 j 0 0)) : BitVec 32).toNat < 4 := by
  have e := congrFun h (fun a => a.elim0)
  dsimp only [Cert.Pre_boxes_fit.fn, Cert.Pre_boxes_fit.fn_part1] at e
  have : Subsingleton (Shape.Idx Cert.Pre_boxes_fit.S_) := ⟨fun a b => funext fun q => q.elim0⟩
  have k := Host.reduce_andi_all _ _ _ _ _ e (ix1 j)
  obtain ⟨k, _⟩ := IntOp.andi_eq_one.1 k
  obtain ⟨k, _⟩ := IntOp.andi_eq_one.1 k
  obtain ⟨k0, k4⟩ := IntOp.andi_eq_one.1 k
  rw [← mapNo_read x (by decide) (by decide) j]
  exact word_lt_four _ k0 k4

/-- The scalar unit's truncation of a 32-bit float is the vector unit's, at the machine's floats and over the extended reals. -/
theorem scalar_trunc_bits (a : Bits .f32) : (Scalar.fptosi (F := Bits) 32 a : BitVec 32) = FloatOps.fptosi (F := Bits) 32 a := rfl
theorem scalar_trunc_ideal (a : Ideal .f32) : (Scalar.fptosi (F := Ideal) 32 a : BitVec 32) = FloatOps.fptosi (F := Ideal) 32 a := rfl

end Cert.Given

end
-- ==== Proof.Kernel.Kit.lean ====
/- The launch set-up of the region-interpolation kernel: @main around its one call, the arguments untouched by the host
   lines before and after it, over the resources a body with copies of its own needs (`Pipeline.UD`). -/
module

public import proofs.«01_k».proof.Proof.Gen.Kernel.Frame
public import proofs.«01_k».proof.Proof.Gen.Kernel.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

variable (m : (ℓ : Loc nD τ sig) → Buf (Elt F) ℓ) (ρ : Dev nD → PrngReg)
set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

end Cert.Kernel.Roi

end
-- ==== Proof.Kernel.Slots.lean ====
/- The copies' slots, cells and windows, and what is held of them before each point. -/
module

public import proofs.«01_k».proof.Proof.Kernel.Kit

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

variable (m : (ℓ : Loc nD τ sig) → Buf (Elt F) ℓ) (ρ : Dev nD → PrngReg)

/-! ## The body's branch conditions, in closed form over the points -/

/-- The body starts its own point's copies: the first point. -/
abbrev isFirst (i : grid0.Coords) : Prop := k0_cond1 i = 1#1
theorem isFirst_iff : ∀ t : Fin cfg0.N, isFirst (grid0.coords t) ↔ t.val = 0 :=
  (by decide +kernel : ∀ t : Fin grid0.N, isFirst (grid0.coords t) ↔ t.val = 0)
/-- The body starts the next point's copies: every point but the last. -/
abbrev hasNext (i : grid0.Coords) : Prop := k0_cond2 i = 1#1
theorem hasNext_iff : ∀ t : Fin cfg0.N, hasNext (grid0.coords t) ↔ t.val < 63 :=
  (by decide +kernel : ∀ t : Fin grid0.N, hasNext (grid0.coords t) ↔ t.val < 63)

/-! ## The body's operands -/

/-- One staging buffer of the output, through which its contents are stated. -/
abbrev VO : View sig .tc .vmem S4x14x14x512 .f32 := (Memref.whole cc0_stg1_0 : Memref sig .tc .vmem S4x14x14x512 .f32).view
/-- The boxes' and the output's current staging memrefs at point `t`, and their wholeness. -/
abbrev msBox (t : Fin cfg0.N) : Memref sig .tc .smem S256x10 .f32 := win0_0.stage (cfg0.slots t 0)
abbrev hsBox (t : Fin cfg0.N) : (msBox t).IsWhole := hstage0_0 ((cfg0.slots t 0).cast nbuf0_0)
abbrev msOut (t : Fin cfg0.N) : Memref sig .tc .vmem S4x14x14x512 .f32 := win0_1.stage (cfg0.slots t 1)
abbrev hsOut (t : Fin cfg0.N) : (msOut t).IsWhole := hstage0_1 ((cfg0.slots t 1).cast nbuf0_1)
/-- The kernel's patches, and the feature maps left in high-bandwidth memory, whole. -/
abbrev patchM : Memref sig .tc .vmem S2x4x80x16384 .bf16 := Memref.whole cc0_scratch0
abbrev mapsM : Memref sig .tc .hbm S4x200x51200 .bf16 := Memref.whole main_v3
/-- The contents of memref `M`'s buffer on core `c`, and that buffer held whole. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The body's own copy semaphores, cell by cell. -/
abbrev ownSem : Fin 8 → SemLoc sig := fun j =>
  (![SemLoc.dma 3, SemLoc.dma 4, SemLoc.dma 5, SemLoc.dma 6, SemLoc.dma 7, SemLoc.dma 8, SemLoc.dma 9, SemLoc.dma 10] : Fin 8 → SemLoc sig) j
theorem ownSemFacts : Pipeline.OwnSemFacts spec0 ownSem := by decide
/-- The unscoped operand that the body reads itself. -/
def H0 : Finset (Ref sig .tc) := {main_v3}
theorem H0_sub : H0 ⊆ Pipeline.restRefs sig spec0 := by decide
/-- The lines after the call do not touch that operand. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_singleton] at hb
    all_goals rcases hb with rfl <;>
      simp only [StableHlo.unary_bufs, Finset.mem_insert, Finset.mem_singleton, not_or] <;> and_intros <;> exact StableHlo.devRef_ne_of_ne (by decide)

/-! ## Slots, cells and source windows

Slot `(s, g)` of the patches holds box `g` of a point whose number has parity `s`; the copy into it completes on cell
`(s, g)`. The window copied for box `g` of point `b` starts at `off b g`, which the box's words name. -/

instance : NeZero grid0.N := ⟨by rw [N_0]; decide⟩
theorem slot_inb (s : Fin 2) (g : Fin 4) : ∀ a, (![s.val, g.val, 0, 0] : Fin 4 → Nat) a + S1x1x80x16384.size a ≤ S2x4x80x16384.size a := by
  have := s.isLt; have := g.isLt; intro a; fin_cases a <;> simp <;> omega
theorem cell_inb (s : Fin 2) (g : Fin 4) : ∀ a, (![s.val, g.val] : Fin 2 → Nat) a + S1x1.size a ≤ S2x4.size a := by
  have := s.isLt; have := g.isLt; intro a; fin_cases a <;> simp <;> omega
/-- Slot `(s, g)`, as the copies name their destination. -/
def slot (s : Fin 2) (g : Fin 4) : Memref sig .tc .vmem S80x16384 .bf16 :=
  (patchM.slice (Rect.unit (s := S2x4x80x16384) ![s.val, g.val, 0, 0] S1x1x80x16384.size (slot_inb s g)) (fun _ => rfl)).squeeze S80x16384 squeezes_S1x1x80x16384_S80x16384
/-- Cell `(s, g)`, as the copies name it; its number. -/
def cellA (s : Fin 2) (g : Fin 4) : DmaSems sig S_ := (cc0_scratch1.slice (Rect.unit (s := S2x4) ![s.val, g.val] S1x1.size (cell_inb s g))).squeeze S_ squeezes_S1x1_S_
abbrev cell (s : Fin 2) (g : Fin 4) : SemLoc sig := SemLoc.dma (cellA s g).sem
theorem cell_eq : ∀ (s : Fin 2) (g : Fin 4), cell s g = ownSem (⟨4 * s.val + g.val, by omega⟩) := by decide

/-- The windows' starts, each inside the feature maps. -/
structure Wins where
  off : Fin 64 → Fin 4 → Fin 3 → Nat
  inb : ∀ b g a, off b g a + S1x80x16384.size a ≤ S4x200x51200.size a
/-- The window of box `g` of point `b`, as the copies name their source. -/
def Wins.src (O : Wins) (b : Fin 64) (g : Fin 4) : Memref sig .tc .hbm S80x16384 .bf16 :=
  (mapsM.slice (Rect.unit (s := S4x200x51200) (O.off b g) S1x80x16384.size (O.inb b g)) (fun _ => rfl)).squeeze S80x16384 squeezes_S1x80x16384_S80x16384

section Pieces
variable (c : Dev nD) (O : Wins) (W : BufOf (F := F) c mapsM)
/-- Each slot's share of the feature maps: a copy into slot `(s, g)` reads through that share alone, so windows that
    overlap are read at once. -/
def qs (s : Fin 2) (g : Fin 4) : PosShare TreeShare :=
  let q := if s.val = 0 then fullShare.left else fullShare.right
  match g with
  | 0 => q.left.left
  | 1 => q.left.right
  | 2 => q.right.left
  | 3 => q.right.right
/-- Slot `(s, g)` held at `f`; its cell at zero; the window's elements and the other elements of the slot's share. -/
abbrev slotP (s : Fin 2) (g : Fin 4) (f : BufOf (F := F) c (slot s g)) : sProp 𝕄 := (slot s g).view.loc (c : Thread nD τ) ↦[(slot s g).view.set]{fullShare} f
abbrev cellP (s : Fin 2) (g : Fin 4) : sProp 𝕄 := semVal ((c : Thread nD τ), cell s g) 0
abbrev srcP (s : Fin 2) (b : Fin 64) (g : Fin 4) : sProp 𝕄 := (O.src b g).view.loc (c : Thread nD τ) ↦[(O.src b g).view.set]{qs s g} W
def restP (s : Fin 2) (b : Fin 64) (g : Fin 4) : sProp 𝕄 := ((c : Thread nD τ).loc main_v3) ↦[Finset.univ \ (O.src b g).view.set]{qs s g} W
/-- (a definition, so that the body's run does not see the share before it is cut) -/
def shareP (s : Fin 2) (g : Fin 4) : sProp 𝕄 := ((c : Thread nD τ).loc main_v3) ↦[Finset.univ]{qs s g} W
/-- Slot `(s, g)` once the window of box `g` of point `b` has landed in it over `f`. -/
abbrev landed (s : Fin 2) (b : Fin 64) (g : Fin 4) (f : BufOf (F := F) c (slot s g)) : BufOf (F := F) c (slot s g) :=
  (slot s g).view.writes (Elt F) f [⟨Rect.whole S80x16384, ReadAs.same.apply ((O.src b g).view.read (Elt F) W)⟩]
/-- That window's copy in flight: it delivers the slot landed and the window's elements back. -/
abbrev flight (s : Fin 2) (b : Fin 64) (g : Fin 4) (f : BufOf (F := F) c (slot s g)) : sProp 𝕄 :=
  Transfers.Flight countersEmb (c : Thread nD τ) (cell s g) default ((slot s g).view.amount (cell s g))
    iprop(slotP c s g (landed c O W s b g f) ∗ srcP c O W s b g)
/-- Slot `(s, g)` free: its cell at zero, the slot held at anything, its share whole. -/
def free (s : Fin 2) (g : Fin 4) : sProp 𝕄 := iprop(cellP c s g ∗ (∃ f, slotP (F := F) c s g f) ∗ shareP c W s g)
/-- Slot `(s, g)` being filled with the window of box `g` of point `b`. -/
def flying (s : Fin 2) (b : Fin 64) (g : Fin 4) : sProp 𝕄 := iprop(∃ f, flight c O W s b g f ∗ restP c O W s b g)

/-- Box `g`'s two slots before point `k`: from the second point on the point's own window is in flight. -/
def boxAt (k : ℕ) (g : Fin 4) : sProp 𝕄 :=
  iprop((if k = 0 ∨ 64 ≤ k then free c W (Ring.sl 2 k) g else flying c O W (Ring.sl 2 k) (Ring.bk 64 k) g) ∗ free c W (Ring.sl 2 (k + 1)) g)
/-- All four boxes' slots before point `k`. -/
def ringAt (k : ℕ) : sProp 𝕄 := iprop(boxAt c O W k 0 ∗ boxAt c O W k 1 ∗ boxAt c O W k 2 ∗ boxAt c O W k 3)

/-- A slot's share is the elements of a window and the rest, whichever window. -/
theorem share_split (s : Fin 2) (b : Fin 64) (g : Fin 4) : shareP (F := F) c W s g ⊣⊢ iprop(srcP c O W s b g ∗ restP c O W s b g) := by
  unfold restP shareP; exact pointsTo_split_subset (Finset.subset_univ _)
end Pieces

end Cert.Kernel.Roi

end
-- ==== Proof.Kernel.Ends.lean ====
/- The slots before the first point and after the last: what the launch hands over, cut into slots, cells and shares, and put together again. -/
module

public import proofs.«01_k».proof.Proof.Kernel.Slots

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

/-! ## The patches are their eight slots -/

/-- The elements of slot `(s, g)`. -/
abbrev slotSet (p : Fin 2 × Fin 4) : Finset S2x4x80x16384.Idx :=
  (Rect.unit (s := S2x4x80x16384) ![p.1.val, p.2.val, 0, 0] S1x1x80x16384.size (slot_inb p.1 p.2)).set

theorem mem_slotSet (p : Fin 2 × Fin 4) (i : S2x4x80x16384.Idx) : i ∈ slotSet p ↔ (i 0).val = p.1.val ∧ (i 1).val = p.2.val := by
  rw [Rect.mem_set_unit]
  constructor
  · intro h
    have h0 := h 0; have h1 := h 1
    simp at h0 h1
    omega
  · rintro ⟨h0, h1⟩ a
    have := (i a).isLt
    fin_cases a
    · simp; omega
    · simp; omega
    · exact ⟨Nat.zero_le _, by simpa using this⟩
    · exact ⟨Nat.zero_le _, by simpa using this⟩

theorem slotSet_disjoint (p p' : Fin 2 × Fin 4) (h : p ≠ p') : Disjoint (slotSet p) (slotSet p') := by
  rw [Finset.disjoint_left]
  intro i hi hi'
  rw [mem_slotSet] at hi hi'
  exact h (Prod.ext (Fin.ext (hi.1.symm.trans hi'.1)) (Fin.ext (hi.2.symm.trans hi'.2)))

theorem slotSet_cover : Finset.univ.biUnion slotSet = Finset.univ := by
  ext i
  simp only [Finset.mem_biUnion, Finset.mem_univ, true_and, iff_true]
  exact ⟨(i 0, i 1), (mem_slotSet _ i).mpr ⟨rfl, rfl⟩⟩

section Ends
variable (c : Dev nD) (W : BufOf (F := F) c mapsM)

omit [FloatOps F] in
theorem slotP_eq (s : Fin 2) (g : Fin 4) (f) :
    slotP (F := F) c s g f = (((c : Thread nD τ).loc cc0_scratch0) ↦[slotSet (s, g)]{fullShare} f : sProp 𝕄) := by
  have h : (slot s g).view.set = slotSet (s, g) := by
    simp only [slot, Memref.view_squeeze, View.set_reshape]; exact View.set_slice_whole _ _
  unfold slotP; rw [h]; rfl

/-- A separating product over the slots, listed box by box. -/
theorem slots_list (Φ : Fin 2 × Fin 4 → sProp 𝕄) :
    bigSep Finset.univ Φ = iprop(Φ (0, 0) ∗ Φ (1, 0) ∗ Φ (0, 1) ∗ Φ (1, 1) ∗ Φ (0, 2) ∗ Φ (1, 2) ∗ Φ (0, 3) ∗ Φ (1, 3)) := by
  rw [BI.bigSep_univ_eq_bigSepL [(0, 0), (1, 0), (0, 1), (1, 1), (0, 2), (1, 2), (0, 3), (1, 3)] (by decide) (by decide)]; rfl

/-- The patches held at anything are the slots held at anything, and back. -/
theorem patch_split : iprop(∃ f : Buf (Elt F) ((c : Thread nD τ).loc cc0_scratch0), ((c : Thread nD τ).loc cc0_scratch0) ↦{fullShare} f)
    ⊢ (bigSep Finset.univ fun p : Fin 2 × Fin 4 => iprop(∃ f, slotP (F := F) c p.1 p.2 f) : sProp 𝕄) := by
  iintro ⟨%f, H⟩
  have h : ∀ p ∈ (Finset.univ : Finset (Fin 2 × Fin 4)), ((((c : Thread nD τ).loc cc0_scratch0) ↦[slotSet p]{fullShare} f : sProp 𝕄) ⊢ iprop(∃ f, slotP (F := F) c p.1 p.2 f)) := fun p _ => by
    iintro H; iexists f; iapply (Entails.of_eq (slotP_eq c p.1 p.2 f).symm); iexact H
  iapply (show (bigSep Finset.univ fun p : Fin 2 × Fin 4 => (((c : Thread nD τ).loc cc0_scratch0) ↦[slotSet p]{fullShare} f : sProp 𝕄)) ⊢ bigSep Finset.univ fun p : Fin 2 × Fin 4 => iprop(∃ f, slotP (F := F) c p.1 p.2 f) from BI.bigSep_mono h)
  iapply (Entails.of_eq (Ring.pointsTo_blocks (ℓ := (c : Thread nD τ).loc cc0_scratch0) (q := fullShare) slotSet slotSet_disjoint slotSet_cover f))
  iexact H

theorem patch_join : (bigSep Finset.univ fun p : Fin 2 × Fin 4 => iprop(∃ f, slotP (F := F) c p.1 p.2 f) : sProp 𝕄)
    ⊢ iprop(∃ f : Buf (Elt F) ((c : Thread nD τ).loc cc0_scratch0), ((c : Thread nD τ).loc cc0_scratch0) ↦{fullShare} f) := by
  have h : ∀ p ∈ (Finset.univ : Finset (Fin 2 × Fin 4)), (iprop(∃ f, slotP (F := F) c p.1 p.2 f) : sProp 𝕄) ⊢ iprop(∃ f : Buf (Elt F) ((c : Thread nD τ).loc cc0_scratch0), ((c : Thread nD τ).loc cc0_scratch0) ↦[slotSet p]{fullShare} f) := fun p _ => by
    iintro ⟨%f, H⟩; iexists f; iapply (Entails.of_eq (slotP_eq c p.1 p.2 f)); iexact H
  iintro H
  iapply (Ring.pointsTo_blocks_join_exists (ℓ := (c : Thread nD τ).loc cc0_scratch0) (q := fullShare) slotSet slotSet_disjoint slotSet_cover (patchM.view.junk : Buf (Elt F) ((c : Thread nD τ).loc cc0_scratch0)))
  iapply (show (bigSep Finset.univ fun p : Fin 2 × Fin 4 => iprop(∃ f, slotP (F := F) c p.1 p.2 f) : sProp 𝕄) ⊢ bigSep Finset.univ fun p : Fin 2 × Fin 4 => iprop(∃ f : Buf (Elt F) ((c : Thread nD τ).loc cc0_scratch0), ((c : Thread nD τ).loc cc0_scratch0) ↦[slotSet p]{fullShare} f) from BI.bigSep_mono h); iexact H

/-! ## The maps are the eight slots' shares -/

theorem maps_split : (((c : Thread nD τ).loc main_v3) ↦{fullShare} W : sProp 𝕄)
    ⊣⊢ bigSep Finset.univ fun p : Fin 2 × Fin 4 => shareP (F := F) c W p.1 p.2 := by
  have halve : ∀ q : PosShare TreeShare, (((c : Thread nD τ).loc main_v3) ↦[Finset.univ]{q} W : sProp 𝕄)
      ⊣⊢ iprop((((c : Thread nD τ).loc main_v3) ↦[Finset.univ]{q.left} W) ∗ (((c : Thread nD τ).loc main_v3) ↦[Finset.univ]{q.right} W)) :=
    fun q => pointsTo_share (PosShare.mem_left_op_right q)
  rw [slots_list]
  unfold shareP
  constructor
  · iintro H
    ihave H := (halve fullShare).1 $$ H
    icases H with ⟨HL, HR⟩
    ihave HL := (halve _).1 $$ HL
    icases HL with ⟨HLL, HLR⟩
    ihave HR := (halve _).1 $$ HR
    icases HR with ⟨HRL, HRR⟩
    ihave HLL := (halve _).1 $$ HLL
    icases HLL with ⟨H00, H01⟩
    ihave HLR := (halve _).1 $$ HLR
    icases HLR with ⟨H02, H03⟩
    ihave HRL := (halve _).1 $$ HRL
    icases HRL with ⟨H10, H11⟩
    ihave HRR := (halve _).1 $$ HRR
    icases HRR with ⟨H12, H13⟩
    isplitl [H00]; · iexact H00
    isplitl [H10]; · iexact H10
    isplitl [H01]; · iexact H01
    isplitl [H11]; · iexact H11
    isplitl [H02]; · iexact H02
    isplitl [H12]; · iexact H12
    isplitl [H03]; · iexact H03
    iexact H13
  · iintro ⟨H00, H10, H01, H11, H02, H12, H03, H13⟩
    iapply (halve fullShare).2
    isplitl [H00 H01 H02 H03]
    · iapply (halve fullShare.left).2
      isplitl [H00 H01]
      · iapply (halve fullShare.left.left).2
        isplitl [H00]; · iexact H00
        iexact H01
      · iapply (halve fullShare.left.right).2
        isplitl [H02]; · iexact H02
        iexact H03
    · iapply (halve fullShare.right).2
      isplitl [H10 H11]
      · iapply (halve fullShare.right.left).2
        isplitl [H10]; · iexact H10
        iexact H11
      · iapply (halve fullShare.right.right).2
        isplitl [H12]; · iexact H12
        iexact H13

/-- The cells at zero, slot by slot. -/
theorem cells_eq : (Pipeline.ownSems0 (Ix := Unit) (Name := ℕ) (U := Pipeline.UD sig nD τ) (Lvl := ℕ) (Val := Elt F) (τ := τ) ownSem c : sProp 𝕄)
    = bigSep Finset.univ fun p : Fin 2 × Fin 4 => cellP (F := F) c p.1 p.2 := by
  rw [Pipeline.ownSems0_eq_of_list c ownSem [0, 4, 1, 5, 2, 6, 3, 7] (by decide) (by decide), slots_list]
  simp only [cellP, cell_eq]
  rfl

/-! ## The slots before the first point and after the last -/

/-- Every slot free. -/
def allFree : sProp 𝕄 := bigSep Finset.univ fun p : Fin 2 × Fin 4 => free (F := F) c W p.1 p.2

theorem allFree_eq : allFree c W ⊣⊢ iprop((∃ f : Buf (Elt F) ((c : Thread nD τ).loc cc0_scratch0), ((c : Thread nD τ).loc cc0_scratch0) ↦{fullShare} f)
    ∗ (Pipeline.ownSems0 (Ix := Unit) (Name := ℕ) (U := Pipeline.UD sig nD τ) (Lvl := ℕ) (Val := Elt F) (τ := τ) ownSem c : sProp 𝕄)
    ∗ (((c : Thread nD τ).loc main_v3) ↦{fullShare} W)) := by
  unfold allFree free
  rw [cells_eq, BI.bigSep_sep' Finset.univ (fun p : Fin 2 × Fin 4 => cellP (F := F) c p.1 p.2) fun p => iprop((∃ f, slotP (F := F) c p.1 p.2 f) ∗ shareP c W p.1 p.2),
    BI.bigSep_sep' Finset.univ (fun p : Fin 2 × Fin 4 => iprop(∃ f, slotP (F := F) c p.1 p.2 f)) fun p => shareP c W p.1 p.2]
  constructor
  · iintro ⟨HC, HS, HM⟩
    isplitl [HS]; · iapply (patch_join (F := F) c); iexact HS
    isplitl [HC]; · iexact HC
    iapply (maps_split (F := F) c W).2; iexact HM
  · iintro ⟨HS, HC, HM⟩
    isplitl [HC]; · iexact HC
    isplitl [HS]; · iapply (patch_split (F := F) c); iexact HS
    iapply (maps_split (F := F) c W).1; iexact HM

variable (O : Wins)

/-- Before the first point and after the last every slot is free. -/
theorem ring_ends (k : ℕ) (hk : k = 0 ∨ k = 64) : ringAt c O W k ⊣⊢ allFree c W := by
  have hs : Ring.sl 2 k = 0 ∧ Ring.sl 2 (k + 1) = 1 := by rcases hk with rfl | rfl <;> exact ⟨rfl, rfl⟩
  have hc : k = 0 ∨ 64 ≤ k := by omega
  unfold ringAt boxAt allFree
  rw [if_pos hc, if_pos hc, if_pos hc, if_pos hc, hs.1, hs.2, slots_list]
  constructor
  · iintro ⟨⟨H00, H10⟩, ⟨H01, H11⟩, ⟨H02, H12⟩, ⟨H03, H13⟩⟩
    isplitl [H00]; · iexact H00
    isplitl [H10]; · iexact H10
    isplitl [H01]; · iexact H01
    isplitl [H11]; · iexact H11
    isplitl [H02]; · iexact H02
    isplitl [H12]; · iexact H12
    isplitl [H03]; · iexact H03
    iexact H13
  · iintro ⟨H00, H10, H01, H11, H02, H12, H03, H13⟩
    isplitl [H00 H10]; · isplitl [H00]; · iexact H00
                         iexact H10
    isplitl [H01 H11]; · isplitl [H01]; · iexact H01
                         iexact H11
    isplitl [H02 H12]; · isplitl [H02]; · iexact H02
                         iexact H12
    isplitl [H03]; · iexact H03
    iexact H13

/-- From the second point to the last, the point's window is in flight. -/
theorem box_mid (k : ℕ) (g : Fin 4) (h0 : k ≠ 0) (h1 : k < 64) :
    boxAt c O W k g = iprop(flying c O W (Ring.sl 2 k) (Ring.bk 64 k) g ∗ free c W (Ring.sl 2 (k + 1)) g) := by
  unfold boxAt; rw [if_neg (by omega)]
theorem box_end (k : ℕ) (g : Fin 4) (h : k = 0 ∨ 64 ≤ k) :
    boxAt c O W k g = iprop(free c W (Ring.sl 2 k) g ∗ free c W (Ring.sl 2 (k + 1)) g) := by
  unfold boxAt; rw [if_pos h]
/-- The slot after next is this one. -/
theorem sl_next (k : ℕ) : Ring.sl 2 (k + 1 + 1) = Ring.sl 2 k := Ring.sl_add 2 k
end Ends

end Cert.Kernel.Roi

end
-- ==== Proof.Kernel.Canon.lean ====
/- The program's names for the scratch buffer's slots and the semaphores, at a grid point, in plain numbers. -/
module

public import proofs.«01_k».proof.Proof.Kernel.Slots

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A cell of the array named by its numbers, however its offsets are computed; likewise a slot of the scratch buffer. -/
theorem named_cell {off : Fin 2 → Nat} {s : Fin 2} {g : Fin 4} (e : off = ![s.val, g.val]) (inb) :
    (cc0_scratch1.slice (Rect.unit (s := S2x4) off S1x1.size inb)).squeeze S_ squeezes_S1x1_S_ = cellA s g := by subst e; rfl
theorem named_slot {off : Fin 4 → Nat} {s : Fin 2} {g : Fin 4} (e : off = ![s.val, g.val, 0, 0]) (inb) :
    (patchM.slice (Rect.unit (s := S2x4x80x16384) off S1x1x80x16384.size inb) (fun _ => rfl)).squeeze S80x16384 squeezes_S1x1x80x16384_S80x16384 = slot s g := by subst e; rfl

/-! The names of the program's cells, slots and loads: of the point's own window and of the next point's. -/

theorem next_cell0_off : ∀ t : Fin grid0.N, k0_off10 (grid0.coords t) = ![(Ring.sl 2 (t.val + 1)).val, (0 : Fin 4).val] := by decide +kernel
@[sl_canon] theorem next_cell0 (t : Fin grid0.N) (h : hasNext (grid0.coords t)) : (cc0_scratch1.slice (Rect.unit (s := S2x4) (k0_off10 (grid0.coords t)) S1x1.size (k0_off10_inb (grid0.coords t) h))).squeeze S_ squeezes_S1x1_S_ = cellA (Ring.sl 2 (t.val + 1)) 0 :=
  named_cell (next_cell0_off t) _
theorem next_slot0_off : ∀ t : Fin grid0.N, k0_off11 (grid0.coords t) = ![(Ring.sl 2 (t.val + 1)).val, (0 : Fin 4).val, 0, 0] := by decide +kernel
@[sl_canon] theorem next_slot0 (t : Fin grid0.N) (h : hasNext (grid0.coords t)) : (patchM.slice (Rect.unit (s := S2x4x80x16384) (k0_off11 (grid0.coords t)) S1x1x80x16384.size (k0_off11_inb (grid0.coords t) h)) (fun _ => rfl)).squeeze S80x16384 squeezes_S1x1x80x16384_S80x16384 = slot (Ring.sl 2 (t.val + 1)) 0 :=
  named_slot (next_slot0_off t) _
theorem here_cell0_off : ∀ t : Fin grid0.N, k0_off50 (grid0.coords t) = ![(Ring.sl 2 t.val).val, (0 : Fin 4).val] := by decide +kernel
@[sl_canon] theorem here_cell0 (t : Fin grid0.N) : (cc0_scratch1.slice (Rect.unit (s := S2x4) (k0_off50 (grid0.coords t)) S1x1.size (k0_off50_inb (grid0.coords t)))).squeeze S_ squeezes_S1x1_S_ = cellA (Ring.sl 2 t.val) 0 :=
  named_cell (here_cell0_off t) _
theorem here_slot0_off : ∀ t : Fin grid0.N, k0_off51 (grid0.coords t) = ![(Ring.sl 2 t.val).val, (0 : Fin 4).val, 0, 0] := by decide +kernel
@[sl_canon] theorem here_slot0 (t : Fin grid0.N) : (patchM.slice (Rect.unit (s := S2x4x80x16384) (k0_off51 (grid0.coords t)) S1x1x80x16384.size (k0_off51_inb (grid0.coords t))) (fun _ => rfl)).squeeze S80x16384 squeezes_S1x1x80x16384_S80x16384 = slot (Ring.sl 2 t.val) 0 :=
  named_slot (here_slot0_off t) _
theorem here_load0_off : ∀ t : Fin grid0.N, k0_off53 (grid0.coords t) = ![(Ring.sl 2 t.val).val, (0 : Fin 4).val, 0, 0] := by decide +kernel
instance (priority := high) here_load0 (t : Fin grid0.N) : ClosedOff (k0_off53 (grid0.coords t)) := ⟨_, here_load0_off t⟩
theorem next_cell1_off : ∀ t : Fin grid0.N, k0_off18 (grid0.coords t) = ![(Ring.sl 2 (t.val + 1)).val, (1 : Fin 4).val] := by decide +kernel
@[sl_canon] theorem next_cell1 (t : Fin grid0.N) (h : hasNext (grid0.coords t)) : (cc0_scratch1.slice (Rect.unit (s := S2x4) (k0_off18 (grid0.coords t)) S1x1.size (k0_off18_inb (grid0.coords t) h))).squeeze S_ squeezes_S1x1_S_ = cellA (Ring.sl 2 (t.val + 1)) 1 :=
  named_cell (next_cell1_off t) _
theorem next_slot1_off : ∀ t : Fin grid0.N, k0_off19 (grid0.coords t) = ![(Ring.sl 2 (t.val + 1)).val, (1 : Fin 4).val, 0, 0] := by decide +kernel
@[sl_canon] theorem next_slot1 (t : Fin grid0.N) (h : hasNext (grid0.coords t)) : (patchM.slice (Rect.unit (s := S2x4x80x16384) (k0_off19 (grid0.coords t)) S1x1x80x16384.size (k0_off19_inb (grid0.coords t) h)) (fun _ => rfl)).squeeze S80x16384 squeezes_S1x1x80x16384_S80x16384 = slot (Ring.sl 2 (t.val + 1)) 1 :=
  named_slot (next_slot1_off t) _
theorem here_cell1_off : ∀ t : Fin grid0.N, k0_off67 (grid0.coords t) = ![(Ring.sl 2 t.val).val, (1 : Fin 4).val] := by decide +kernel
@[sl_canon] theorem here_cell1 (t : Fin grid0.N) : (cc0_scratch1.slice (Rect.unit (s := S2x4) (k0_off67 (grid0.coords t)) S1x1.size (k0_off67_inb (grid0.coords t)))).squeeze S_ squeezes_S1x1_S_ = cellA (Ring.sl 2 t.val) 1 :=
  named_cell (here_cell1_off t) _
theorem here_slot1_off : ∀ t : Fin grid0.N, k0_off68 (grid0.coords t) = ![(Ring.sl 2 t.val).val, (1 : Fin 4).val, 0, 0] := by decide +kernel
@[sl_canon] theorem here_slot1 (t : Fin grid0.N) : (patchM.slice (Rect.unit (s := S2x4x80x16384) (k0_off68 (grid0.coords t)) S1x1x80x16384.size (k0_off68_inb (grid0.coords t))) (fun _ => rfl)).squeeze S80x16384 squeezes_S1x1x80x16384_S80x16384 = slot (Ring.sl 2 t.val) 1 :=
  named_slot (here_slot1_off t) _
theorem here_load1_off : ∀ t : Fin grid0.N, k0_off70 (grid0.coords t) = ![(Ring.sl 2 t.val).val, (1 : Fin 4).val, 0, 0] := by decide +kernel
instance (priority := high) here_load1 (t : Fin grid0.N) : ClosedOff (k0_off70 (grid0.coords t)) := ⟨_, here_load1_off t⟩
theorem next_cell2_off : ∀ t : Fin grid0.N, k0_off26 (grid0.coords t) = ![(Ring.sl 2 (t.val + 1)).val, (2 : Fin 4).val] := by decide +kernel
@[sl_canon] theorem next_cell2 (t : Fin grid0.N) (h : hasNext (grid0.coords t)) : (cc0_scratch1.slice (Rect.unit (s := S2x4) (k0_off26 (grid0.coords t)) S1x1.size (k0_off26_inb (grid0.coords t) h))).squeeze S_ squeezes_S1x1_S_ = cellA (Ring.sl 2 (t.val + 1)) 2 :=
  named_cell (next_cell2_off t) _
theorem next_slot2_off : ∀ t : Fin grid0.N, k0_off27 (grid0.coords t) = ![(Ring.sl 2 (t.val + 1)).val, (2 : Fin 4).val, 0, 0] := by decide +kernel
@[sl_canon] theorem next_slot2 (t : Fin grid0.N) (h : hasNext (grid0.coords t)) : (patchM.slice (Rect.unit (s := S2x4x80x16384) (k0_off27 (grid0.coords t)) S1x1x80x16384.size (k0_off27_inb (grid0.coords t) h)) (fun _ => rfl)).squeeze S80x16384 squeezes_S1x1x80x16384_S80x16384 = slot (Ring.sl 2 (t.val + 1)) 2 :=
  named_slot (next_slot2_off t) _
theorem here_cell2_off : ∀ t : Fin grid0.N, k0_off84 (grid0.coords t) = ![(Ring.sl 2 t.val).val, (2 : Fin 4).val] := by decide +kernel
@[sl_canon] theorem here_cell2 (t : Fin grid0.N) : (cc0_scratch1.slice (Rect.unit (s := S2x4) (k0_off84 (grid0.coords t)) S1x1.size (k0_off84_inb (grid0.coords t)))).squeeze S_ squeezes_S1x1_S_ = cellA (Ring.sl 2 t.val) 2 :=
  named_cell (here_cell2_off t) _
theorem here_slot2_off : ∀ t : Fin grid0.N, k0_off85 (grid0.coords t) = ![(Ring.sl 2 t.val).val, (2 : Fin 4).val, 0, 0] := by decide +kernel
@[sl_canon] theorem here_slot2 (t : Fin grid0.N) : (patchM.slice (Rect.unit (s := S2x4x80x16384) (k0_off85 (grid0.coords t)) S1x1x80x16384.size (k0_off85_inb (grid0.coords t))) (fun _ => rfl)).squeeze S80x16384 squeezes_S1x1x80x16384_S80x16384 = slot (Ring.sl 2 t.val) 2 :=
  named_slot (here_slot2_off t) _
theorem here_load2_off : ∀ t : Fin grid0.N, k0_off87 (grid0.coords t) = ![(Ring.sl 2 t.val).val, (2 : Fin 4).val, 0, 0] := by decide +kernel
instance (priority := high) here_load2 (t : Fin grid0.N) : ClosedOff (k0_off87 (grid0.coords t)) := ⟨_, here_load2_off t⟩
theorem next_cell3_off : ∀ t : Fin grid0.N, k0_off34 (grid0.coords t) = ![(Ring.sl 2 (t.val + 1)).val, (3 : Fin 4).val] := by decide +kernel
@[sl_canon] theorem next_cell3 (t : Fin grid0.N) (h : hasNext (grid0.coords t)) : (cc0_scratch1.slice (Rect.unit (s := S2x4) (k0_off34 (grid0.coords t)) S1x1.size (k0_off34_inb (grid0.coords t) h))).squeeze S_ squeezes_S1x1_S_ = cellA (Ring.sl 2 (t.val + 1)) 3 :=
  named_cell (next_cell3_off t) _
theorem next_slot3_off : ∀ t : Fin grid0.N, k0_off35 (grid0.coords t) = ![(Ring.sl 2 (t.val + 1)).val, (3 : Fin 4).val, 0, 0] := by decide +kernel
@[sl_canon] theorem next_slot3 (t : Fin grid0.N) (h : hasNext (grid0.coords t)) : (patchM.slice (Rect.unit (s := S2x4x80x16384) (k0_off35 (grid0.coords t)) S1x1x80x16384.size (k0_off35_inb (grid0.coords t) h)) (fun _ => rfl)).squeeze S80x16384 squeezes_S1x1x80x16384_S80x16384 = slot (Ring.sl 2 (t.val + 1)) 3 :=
  named_slot (next_slot3_off t) _
theorem here_cell3_off : ∀ t : Fin grid0.N, k0_off101 (grid0.coords t) = ![(Ring.sl 2 t.val).val, (3 : Fin 4).val] := by decide +kernel
@[sl_canon] theorem here_cell3 (t : Fin grid0.N) : (cc0_scratch1.slice (Rect.unit (s := S2x4) (k0_off101 (grid0.coords t)) S1x1.size (k0_off101_inb (grid0.coords t)))).squeeze S_ squeezes_S1x1_S_ = cellA (Ring.sl 2 t.val) 3 :=
  named_cell (here_cell3_off t) _
theorem here_slot3_off : ∀ t : Fin grid0.N, k0_off102 (grid0.coords t) = ![(Ring.sl 2 t.val).val, (3 : Fin 4).val, 0, 0] := by decide +kernel
@[sl_canon] theorem here_slot3 (t : Fin grid0.N) : (patchM.slice (Rect.unit (s := S2x4x80x16384) (k0_off102 (grid0.coords t)) S1x1x80x16384.size (k0_off102_inb (grid0.coords t))) (fun _ => rfl)).squeeze S80x16384 squeezes_S1x1x80x16384_S80x16384 = slot (Ring.sl 2 t.val) 3 :=
  named_slot (here_slot3_off t) _
theorem here_load3_off : ∀ t : Fin grid0.N, k0_off104 (grid0.coords t) = ![(Ring.sl 2 t.val).val, (3 : Fin 4).val, 0, 0] := by decide +kernel
instance (priority := high) here_load3 (t : Fin grid0.N) : ClosedOff (k0_off104 (grid0.coords t)) := ⟨_, here_load3_off t⟩

/-! The row of the boxes that the next point's loads name. -/

/-- Box `g` of point `b`. -/
def boxNo (b : Fin 64) (g : Fin 4) : Fin 256 := ⟨4 * b.val + g.val, by omega⟩
theorem next_row0 : ∀ t : Fin grid0.N, hasNext (grid0.coords t) → k0_off5 (grid0.coords t) 0 = (boxNo (Ring.bk 64 (t.val + 1)) 0).val := by decide +kernel
theorem next_row1 : ∀ t : Fin grid0.N, hasNext (grid0.coords t) → k0_off13 (grid0.coords t) 0 = (boxNo (Ring.bk 64 (t.val + 1)) 1).val := by decide +kernel
theorem next_row2 : ∀ t : Fin grid0.N, hasNext (grid0.coords t) → k0_off21 (grid0.coords t) 0 = (boxNo (Ring.bk 64 (t.val + 1)) 2).val := by decide +kernel
theorem next_row3 : ∀ t : Fin grid0.N, hasNext (grid0.coords t) → k0_off29 (grid0.coords t) 0 = (boxNo (Ring.bk 64 (t.val + 1)) 3).val := by decide +kernel

/-! At the first point the own window's slots, cells and boxes are named by literals. -/
theorem first_slot : ∀ t : Fin grid0.N, isFirst (grid0.coords t) → ∀ g : Fin 4, ![0, g.val, 0, 0] = ![(Ring.sl 2 t.val).val, g.val, 0, 0] := by decide +kernel
theorem first_cell : ∀ t : Fin grid0.N, isFirst (grid0.coords t) → ∀ g : Fin 4, ![0, g.val] = ![(Ring.sl 2 t.val).val, g.val] := by decide +kernel
theorem first_row : ∀ t : Fin grid0.N, isFirst (grid0.coords t) → ∀ g : Fin 4, g.val = (boxNo (Ring.bk 64 t.val) g).val := by decide +kernel

end Cert.Kernel.Roi

end
-- ==== Proof.Kernel.Words.lean ====
/- The numbers that a box gives, the windows they place, and what a scalar load of the boxes reads. -/
module

public import proofs.«01_k».proof.Proof.Kernel.Slots
public import proofs.«01_k».proof.Proof.Kernel.Canon
public import Idealize.ShloMosaic.Lib.PairWhole

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The numbers a box gives -/

/-- Row `j`, column `k` of the boxes. -/
def cellIx (j : Fin 256) (k : Fin 10) : S256x10.Idx := Fin.cons j (Fin.cons k finZeroElim)

variable (x : Vec F S256x10 .f32)

/-- The map that box `j` names. -/
def mapW (j : Fin 256) : BitVec 32 := Scalar.fptosi 32 (x (cellIx j 0))
/-- The row and the column of the map's cell in which the union box of box `j` starts. -/
def rowW (j : Fin 256) : BitVec 32 := Scalar.fptosi 32 (k0_pay2 (x (cellIx j 2)) (x (cellIx j 7)))
def colW (j : Fin 256) : BitVec 32 := Scalar.fptosi 32 (k0_pay3 (x (cellIx j 1)) (x (cellIx j 6)))

/-- Every box names one of the four feature maps. -/
def NamesMaps : Prop := ∀ j, (mapW x j).toNat < 4

/-! ## A window lies on the maps, whatever the box -/

/-- A word held between 0 and a bound, as a number. -/
theorem clip_toNat (lim w : BitVec 32) (hl : lim.toNat < 2 ^ 31) : (Scalar.minsi lim (Scalar.maxsi 0#32 w)).toNat ≤ lim.toNat := by
  simp only [Scalar.minsi, Scalar.maxsi, IntOp.minsi, IntOp.maxsi, BitVec.sle, BitVec.slt]
  split <;> split <;> simp_all [BitVec.toInt] <;> omega

/-- What holds of a word, of zero and of the bound holds of the word held between them. -/
theorem clip_ind (p : BitVec 32 → Prop) (lim a : BitVec 32) (h0 : p 0#32) (hl : p lim) (ha : p a) :
    p (Scalar.minsi lim (Scalar.maxsi 0#32 a)) := by
  have hm : p (Scalar.maxsi 0#32 a) := by simp only [Scalar.maxsi, IntOp.maxsi]; split <;> assumption
  generalize Scalar.maxsi 0#32 a = m at hm ⊢
  simp only [Scalar.minsi, IntOp.minsi]; split <;> assumption

/-- The first row is a multiple of eight. -/
theorem row_mult (w : BitVec 32) : 8 ∣ (k0_mult1 w).toNat := by
  have h : (k0_mult1 w) &&& 7#32 = 0#32 :=
    clip_ind (fun a => a &&& 7#32 = 0#32) 120#32 (w &&& 4294967280#32) (by decide) (by decide) (by rw [BitVec.and_assoc]; simp)
  have h' := congrArg BitVec.toNat h
  rw [BitVec.toNat_and] at h'
  simp only [BitVec.toNat_ofNat] at h'
  have : (k0_mult1 w).toNat % 2 ^ 3 = 0 := by rw [← Nat.and_two_pow_sub_one_eq_mod]; simpa using h'
  omega

/-- The window of a box that names a map lies on the maps. -/
theorem win_inb (b y w : BitVec 32) (hb : b.toNat < 4) : ∀ a, k0_off1 b y w a + S1x80x16384.size a ≤ S4x200x51200.size a := by
  intro a
  have hy := clip_toNat 120#32 (Scalar.andi y 4294967280#32) (by decide)
  have hx := clip_toNat 136#32 w (by decide)
  have hx' : (Scalar.muli (Scalar.minsi 136#32 (Scalar.maxsi 0#32 w)) 256#32).toNat ≤ 136 * 256 := by
    simp only [Scalar.muli, IntOp.muli, BitVec.toNat_mul, BitVec.toNat_ofNat] at hx ⊢
    omega
  fin_cases a
  · show b.toNat + 1 ≤ 4; omega
  · show (Scalar.minsi 120#32 (Scalar.maxsi 0#32 (Scalar.andi y 4294967280#32))).toNat + 80 ≤ 200
    simp only [BitVec.toNat_ofNat] at hy; omega
  · show (Scalar.muli (Scalar.minsi 136#32 (Scalar.maxsi 0#32 w)) 256#32).toNat + 16384 ≤ 51200
    omega

/-- Its rows start at a multiple of eight and number eighty, so it is made of whole words. -/
theorem win_words (b y w : BitVec 32) (h : ∀ a, k0_off1 b y w a + S1x80x16384.size a ≤ S4x200x51200.size a) :
    (Rect.unit (s := S4x200x51200) (k0_off1 b y w) S1x80x16384.size h).WholeWords (EltTy.packing .bf16) := by
  refine Rect.PackedRows.wholeWords (Rect.packedRows_of_rowAxis _ _ (by decide) ?_ ?_ rfl)
  · exact (by decide : (EltTy.packing .bf16) ∣ 8).trans (row_mult y)
  · show 2 ∣ 80; decide

/-- The windows of all boxes. -/
def wins (h : NamesMaps x) : Wins where
  off b g := k0_off1 (mapW x (boxNo b g)) (rowW x (boxNo b g)) (colW x (boxNo b g))
  inb b g := win_inb _ _ _ (h _)

/-! ## What a scalar load of the boxes reads -/

theorem load_box (arg1 : Memref sig .tc .smem S256x10 .f32) (harg1 : arg1.IsWhole) (off : Fin 2 → Nat) (inb : ∀ a, off a + S1x1.size a ≤ S256x10.size a)
    (i : S1x1.Idx) (j : Fin 256) (k : Fin 10) (h0 : off 0 = j.val) (h1 : off 1 = k.val) :
    View.readAt (Elt F) arg1.view (Rect.unit (s := S256x10) off S1x1.size inb).toLoadRect (harg1.unread x) i = x (cellIx j k) := by
  rw [View.readAt_apply, harg1.read_unread]
  congr 1
  funext a
  have hi : (i a).val = 0 := by have := (i a).isLt; fin_cases a <;> exact Nat.lt_one_iff.mp this
  apply Fin.ext
  change off a + 1 * (i a).val = (cellIx j k a).val
  rw [hi]
  fin_cases a
  · exact h0
  · exact h1

/-- A word loaded from column zero of the boxes names a map, when every box does. -/
theorem map_lt (hx : NamesMaps x) (arg1 : Memref sig .tc .smem S256x10 .f32) (harg1 : arg1.IsWhole) (off : Fin 2 → Nat)
    (inb : ∀ a, off a + S1x1.size a ≤ S256x10.size a) (i : S1x1.Idx) (h1 : off 1 = 0) :
    (Scalar.fptosi 32 (View.readAt (Elt F) arg1.view (Rect.unit (s := S256x10) off S1x1.size inb).toLoadRect (harg1.unread x) i)).toNat < 4 := by
  rw [load_box x arg1 harg1 off inb i ⟨off 0, inb 0⟩ 0 rfl h1]
  exact hx _

/-! The numbers of box `j`, as loaded from its row one by one. -/
section Loaded
variable (arg1 : Memref sig .tc .smem S256x10 .f32) (harg1 : arg1.IsWhole) (j : Fin 256)

theorem map_named (o : Fin 2 → Nat) (n : ∀ a, o a + S1x1.size a ≤ S256x10.size a) (i : S1x1.Idx) (h0 : o 0 = j.val) (h1 : o 1 = 0) :
    Scalar.fptosi 32 (View.readAt (Elt F) arg1.view (Rect.unit (s := S256x10) o S1x1.size n).toLoadRect (harg1.unread x) i) = mapW x j := by
  rw [load_box x arg1 harg1 o n i j 0 h0 h1]; rfl

theorem row_named (o o' : Fin 2 → Nat) (n : ∀ a, o a + S1x1.size a ≤ S256x10.size a) (n' : ∀ a, o' a + S1x1.size a ≤ S256x10.size a) (i i' : S1x1.Idx)
    (h0 : o 0 = j.val) (h1 : o 1 = 2) (h0' : o' 0 = j.val) (h1' : o' 1 = 7) :
    Scalar.fptosi 32 (k0_pay2 (View.readAt (Elt F) arg1.view (Rect.unit (s := S256x10) o S1x1.size n).toLoadRect (harg1.unread x) i)
      (View.readAt (Elt F) arg1.view (Rect.unit (s := S256x10) o' S1x1.size n').toLoadRect (harg1.unread x) i')) = rowW x j := by
  rw [load_box x arg1 harg1 o n i j 2 h0 h1, load_box x arg1 harg1 o' n' i' j 7 h0' h1']; rfl

theorem col_named (o o' : Fin 2 → Nat) (n : ∀ a, o a + S1x1.size a ≤ S256x10.size a) (n' : ∀ a, o' a + S1x1.size a ≤ S256x10.size a) (i i' : S1x1.Idx)
    (h0 : o 0 = j.val) (h1 : o 1 = 1) (h0' : o' 0 = j.val) (h1' : o' 1 = 6) :
    Scalar.fptosi 32 (k0_pay3 (View.readAt (Elt F) arg1.view (Rect.unit (s := S256x10) o S1x1.size n).toLoadRect (harg1.unread x) i)
      (View.readAt (Elt F) arg1.view (Rect.unit (s := S256x10) o' S1x1.size n').toLoadRect (harg1.unread x) i')) = colW x j := by
  rw [load_box x arg1 harg1 o n i j 1 h0 h1, load_box x arg1 harg1 o' n' i' j 6 h0' h1']; rfl

end Loaded

/-- A window however its offsets are computed lies on the maps. -/
theorem off_inb (off : BitVec 32 → BitVec 32 → BitVec 32 → Fin 3 → Nat) (e : off = k0_off1) {u : BitVec 32} (v w : BitVec 32) {j : Fin 256}
    (hx : NamesMaps x) (hu : u = mapW x j) : ∀ a, off u v w a + S1x80x16384.size a ≤ S4x200x51200.size a := by
  subst e hu; exact win_inb _ _ _ (hx j)

/-- A copy's source under its plain name: the numbers that place it are its box's. -/
theorem src_named (hx : NamesMaps x) (b : Fin 64) (g : Fin 4) (off : BitVec 32 → BitVec 32 → BitVec 32 → Fin 3 → Nat) (e : off = k0_off1) {u v w : BitVec 32}
    (hu : u = mapW x (boxNo b g)) (hv : v = rowW x (boxNo b g)) (hw : w = colW x (boxNo b g)) (inb) :
    (mapsM.slice (Rect.unit (s := S4x200x51200) (off u v w) S1x80x16384.size inb) (fun _ => rfl)).squeeze S80x16384 squeezes_S1x80x16384_S80x16384 = (wins x hx).src b g := by
  subst e hu hv hw; rfl

end Cert.Kernel.Roi

end
-- ==== Proof.Kernel.RunA.lean ====
/- The body's run at the first point: it starts its own windows' copies too. -/
module

public import proofs.«01_k».proof.Proof.Kernel.Words

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

set_option maxHeartbeats 4000000 in
noncomputable def runA (c : Dev nD) (t : Fin cfg0.N) (arg1 : Memref sig .tc .smem S256x10 .f32) (harg1 : arg1.IsWhole) (arg3 : Memref sig .tc .vmem S4x14x14x512 .f32) (harg3 : arg3.IsWhole)
    (hc0 : isFirst (grid0.coords t)) (hc1 : hasNext (grid0.coords t))
    (x0 : Vec F S256x10 .f32) (W : BufOf (F := F) c mapsM) (hx : NamesMaps x0) :
    { L1 : List (View.Piece (Elt F) S4x14x14x512 .f32) //
      ∀ (Ws : Waits sig Unit) (K : PUnit → sProp 𝕄),
        iprop(owns (c : Thread nD τ) arg1 fullShare x0 ∗ (∃ d, owns (c : Thread nD τ) arg3 fullShare d)
            ∗ (free c W (Ring.sl 2 t.val) 0 ∗ free c W (Ring.sl 2 (t.val + 1)) 0)
            ∗ (free c W (Ring.sl 2 t.val) 1 ∗ free c W (Ring.sl 2 (t.val + 1)) 1)
            ∗ (free c W (Ring.sl 2 t.val) 2 ∗ free c W (Ring.sl 2 (t.val + 1)) 2)
            ∗ (free c W (Ring.sl 2 t.val) 3 ∗ free c W (Ring.sl 2 (t.val + 1)) 3)
            ∗ owes (c : Thread nD τ) 0 Ws
            ∗ (iprop(owns (c : Thread nD τ) arg1 fullShare x0 ∗ (∃ f, arg3.view.loc (c : Thread nD τ) ↦[arg3.view.set]{fullShare} arg3.view.writes (Elt F) f L1)
              ∗ (flying c (wins x0 hx) W (Ring.sl 2 (t.val + 1)) (Ring.bk 64 (t.val + 1)) 0 ∗ free c W (Ring.sl 2 t.val) 0)
              ∗ (flying c (wins x0 hx) W (Ring.sl 2 (t.val + 1)) (Ring.bk 64 (t.val + 1)) 1 ∗ free c W (Ring.sl 2 t.val) 1)
              ∗ (flying c (wins x0 hx) W (Ring.sl 2 (t.val + 1)) (Ring.bk 64 (t.val + 1)) 2 ∗ free c W (Ring.sl 2 t.val) 2)
              ∗ (flying c (wins x0 hx) W (Ring.sl 2 (t.val + 1)) (Ring.bk 64 (t.val + 1)) 3 ∗ free c W (Ring.sl 2 t.val) 3)
              ∗ (∃ W', owes (c : Thread nD τ) 0 W')) -∗ K ⟨⟩))
          ⊢ wp frame (wpE (defs₀ (F := F)) Variants.none c none) Set.univ (cc0__roi_kernel (grid0.coords t) arg1 harg1 (Memref.whole main_v3) (Memref.isWhole_whole _) arg3 harg3 patchM (Memref.isWhole_whole _) cc0_scratch1) K } := by
  refine ⟨?_, fun Ws K => ?run⟩
  case run =>
    haveI : Fact (isFirst (grid0.coords t)) := ⟨hc0⟩
    haveI : Fact (hasNext (grid0.coords t)) := ⟨hc1⟩
    simp only [cc0__roi_kernel_eq_skeleton]; unfold cc0__roi_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns flying free
    iintro ⟨⟨%f0, %hf0, H0⟩, ⟨%d1, %f1, -, H1⟩, ⟨⟨Hf0, ⟨%e0, He0⟩, Hv0⟩, Hc0, ⟨%s0, Hs0⟩, Hw0⟩, ⟨⟨Hf1, ⟨%e1, He1⟩, Hv1⟩, Hc1, ⟨%s1, Hs1⟩, Hw1⟩, ⟨⟨Hf2, ⟨%e2, He2⟩, Hv2⟩, Hc2, ⟨%s2, Hs2⟩, Hw2⟩, ⟨⟨Hf3, ⟨%e3, He3⟩, Hv3⟩, Hc3, ⟨%s3, Hs3⟩, Hw3⟩, HW, Hk⟩
    obtain rfl := harg1.eq_unread hf0
    have hcanonD0 : (patchM.slice (Rect.unit (s := S2x4x80x16384) ![0, 0, 0, 0] S1x1x80x16384.size inb_S2x4x80x16384_S1x1x80x16384_0_0_0_0) (fun _ => rfl)).squeeze S80x16384 squeezes_S1x1x80x16384_S80x16384 = slot (Ring.sl 2 t.val) 0 := named_slot (first_slot t hc0 0) _
    have hcanonE0 : (cc0_scratch1.slice (Rect.unit (s := S2x4) ![0, 0] S1x1.size inb_S2x4_S1x1_0_0)).squeeze S_ squeezes_S1x1_S_ = cellA (Ring.sl 2 t.val) 0 := named_cell (first_cell t hc0 0) _
    have hcanonD1 : (patchM.slice (Rect.unit (s := S2x4x80x16384) ![0, 1, 0, 0] S1x1x80x16384.size inb_S2x4x80x16384_S1x1x80x16384_0_1_0_0) (fun _ => rfl)).squeeze S80x16384 squeezes_S1x1x80x16384_S80x16384 = slot (Ring.sl 2 t.val) 1 := named_slot (first_slot t hc0 1) _
    have hcanonE1 : (cc0_scratch1.slice (Rect.unit (s := S2x4) ![0, 1] S1x1.size inb_S2x4_S1x1_0_1)).squeeze S_ squeezes_S1x1_S_ = cellA (Ring.sl 2 t.val) 1 := named_cell (first_cell t hc0 1) _
    have hcanonD2 : (patchM.slice (Rect.unit (s := S2x4x80x16384) ![0, 2, 0, 0] S1x1x80x16384.size inb_S2x4x80x16384_S1x1x80x16384_0_2_0_0) (fun _ => rfl)).squeeze S80x16384 squeezes_S1x1x80x16384_S80x16384 = slot (Ring.sl 2 t.val) 2 := named_slot (first_slot t hc0 2) _
    have hcanonE2 : (cc0_scratch1.slice (Rect.unit (s := S2x4) ![0, 2] S1x1.size inb_S2x4_S1x1_0_2)).squeeze S_ squeezes_S1x1_S_ = cellA (Ring.sl 2 t.val) 2 := named_cell (first_cell t hc0 2) _
    have hcanonD3 : (patchM.slice (Rect.unit (s := S2x4x80x16384) ![0, 3, 0, 0] S1x1x80x16384.size inb_S2x4x80x16384_S1x1x80x16384_0_3_0_0) (fun _ => rfl)).squeeze S80x16384 squeezes_S1x1x80x16384_S80x16384 = slot (Ring.sl 2 t.val) 3 := named_slot (first_slot t hc0 3) _
    have hcanonE3 : (cc0_scratch1.slice (Rect.unit (s := S2x4) ![0, 3] S1x1.size inb_S2x4_S1x1_0_3)).squeeze S_ squeezes_S1x1_S_ = cellA (Ring.sl 2 t.val) 3 := named_cell (first_cell t hc0 3) _
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    have hw0 := map_named x0 arg1 harg1 (boxNo (Ring.bk 64 t.val) 0) ![0, 0] inb_S256x10_S1x1_0_0 (Shape.Idx.first (numel1_S1x1.symm ▸ Nat.one_pos)) (first_row t hc0 0) rfl
    have hcanonF0 : (mapsM.slice (Rect.unit (s := S4x200x51200) (k0_off1 (runA.sl.v1718 c arg1 harg1 x0) (runA.sl.v1727 c arg1 harg1 x0) (runA.sl.v1734 c arg1 harg1 x0)) S1x80x16384.size (off_inb x0 k0_off1 rfl _ _ hx hw0)) (fun _ => rfl)).squeeze S80x16384 squeezes_S1x80x16384_S80x16384 = (wins x0 hx).src (Ring.bk 64 t.val) 0 :=
      src_named x0 hx _ _ k0_off1 rfl hw0
        (row_named x0 arg1 harg1 _ ![0, 2] ![0, 7] _ _ _ _ (first_row t hc0 0) rfl (first_row t hc0 0) rfl)
        (col_named x0 arg1 harg1 _ ![0, 1] ![0, 6] _ _ _ _ (first_row t hc0 0) rfl (first_row t hc0 0) rfl) _
    ihave Hsp := (share_split c (wins x0 hx) W (Ring.sl 2 t.val) (Ring.bk 64 t.val) 0).1 $$ Hv0
    icases Hsp with ⟨Hfs0, Hr0⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    clear hcanonF0 hw0 hcanonD0 hcanonE0
    have hw1 := map_named x0 arg1 harg1 (boxNo (Ring.bk 64 t.val) 1) ![1, 0] inb_S256x10_S1x1_1_0 (Shape.Idx.first (numel1_S1x1.symm ▸ Nat.one_pos)) (first_row t hc0 1) rfl
    have hcanonF1 : (mapsM.slice (Rect.unit (s := S4x200x51200) (k0_off2 (runA.sl.v1745 c arg1 harg1 x0) (runA.sl.v1754 c arg1 harg1 x0) (runA.sl.v1761 c arg1 harg1 x0)) S1x80x16384.size (off_inb x0 k0_off2 rfl _ _ hx hw1)) (fun _ => rfl)).squeeze S80x16384 squeezes_S1x80x16384_S80x16384 = (wins x0 hx).src (Ring.bk 64 t.val) 1 :=
      src_named x0 hx _ _ k0_off2 rfl hw1
        (row_named x0 arg1 harg1 _ ![1, 2] ![1, 7] _ _ _ _ (first_row t hc0 1) rfl (first_row t hc0 1) rfl)
        (col_named x0 arg1 harg1 _ ![1, 1] ![1, 6] _ _ _ _ (first_row t hc0 1) rfl (first_row t hc0 1) rfl) _
    ihave Hsp := (share_split c (wins x0 hx) W (Ring.sl 2 t.val) (Ring.bk 64 t.val) 1).1 $$ Hv1
    icases Hsp with ⟨Hfs1, Hr1⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    clear hcanonF1 hw1 hcanonD1 hcanonE1
    have hw2 := map_named x0 arg1 harg1 (boxNo (Ring.bk 64 t.val) 2) ![2, 0] inb_S256x10_S1x1_2_0 (Shape.Idx.first (numel1_S1x1.symm ▸ Nat.one_pos)) (first_row t hc0 2) rfl
    have hcanonF2 : (mapsM.slice (Rect.unit (s := S4x200x51200) (k0_off3 (runA.sl.v1772 c arg1 harg1 x0) (runA.sl.v1781 c arg1 harg1 x0) (runA.sl.v1788 c arg1 harg1 x0)) S1x80x16384.size (off_inb x0 k0_off3 rfl _ _ hx hw2)) (fun _ => rfl)).squeeze S80x16384 squeezes_S1x80x16384_S80x16384 = (wins x0 hx).src (Ring.bk 64 t.val) 2 :=
      src_named x0 hx _ _ k0_off3 rfl hw2
        (row_named x0 arg1 harg1 _ ![2, 2] ![2, 7] _ _ _ _ (first_row t hc0 2) rfl (first_row t hc0 2) rfl)
        (col_named x0 arg1 harg1 _ ![2, 1] ![2, 6] _ _ _ _ (first_row t hc0 2) rfl (first_row t hc0 2) rfl) _
    ihave Hsp := (share_split c (wins x0 hx) W (Ring.sl 2 t.val) (Ring.bk 64 t.val) 2).1 $$ Hv2
    icases Hsp with ⟨Hfs2, Hr2⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    clear hcanonF2 hw2 hcanonD2 hcanonE2
    have hw3 := map_named x0 arg1 harg1 (boxNo (Ring.bk 64 t.val) 3) ![3, 0] inb_S256x10_S1x1_3_0 (Shape.Idx.first (numel1_S1x1.symm ▸ Nat.one_pos)) (first_row t hc0 3) rfl
    have hcanonF3 : (mapsM.slice (Rect.unit (s := S4x200x51200) (k0_off4 (runA.sl.v1799 c arg1 harg1 x0) (runA.sl.v1808 c arg1 harg1 x0) (runA.sl.v1815 c arg1 harg1 x0)) S1x80x16384.size (off_inb x0 k0_off4 rfl _ _ hx hw3)) (fun _ => rfl)).squeeze S80x16384 squeezes_S1x80x16384_S80x16384 = (wins x0 hx).src (Ring.bk 64 t.val) 3 :=
      src_named x0 hx _ _ k0_off4 rfl hw3
        (row_named x0 arg1 harg1 _ ![3, 2] ![3, 7] _ _ _ _ (first_row t hc0 3) rfl (first_row t hc0 3) rfl)
        (col_named x0 arg1 harg1 _ ![3, 1] ![3, 6] _ _ _ _ (first_row t hc0 3) rfl (first_row t hc0 3) rfl) _
    ihave Hsp := (share_split c (wins x0 hx) W (Ring.sl 2 t.val) (Ring.bk 64 t.val) 3).1 $$ Hv3
    icases Hsp with ⟨Hfs3, Hr3⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    clear hcanonF3 hw3 hcanonD3 hcanonE3
    have hu0 := map_named x0 arg1 harg1 (boxNo (Ring.bk 64 (t.val + 1)) 0) (k0_off5 (grid0.coords t)) (k0_off5_inb (grid0.coords t) hc1) (Shape.Idx.first (numel1_S1x1.symm ▸ Nat.one_pos)) (next_row0 t hc1) rfl
    have hcanonS0 : (mapsM.slice (Rect.unit (s := S4x200x51200) (k0_off12 (runA.sl.v1733 c t arg1 harg1 hc1 x0) (runA.sl.v1746 c t arg1 harg1 hc1 x0) (runA.sl.v1753 c t arg1 harg1 hc1 x0)) S1x80x16384.size (off_inb x0 k0_off12 rfl _ _ hx hu0)) (fun _ => rfl)).squeeze S80x16384 squeezes_S1x80x16384_S80x16384 = (wins x0 hx).src (Ring.bk 64 (t.val + 1)) 0 :=
      src_named x0 hx _ _ k0_off12 rfl hu0
        (row_named x0 arg1 harg1 _ (k0_off8 (grid0.coords t)) (k0_off9 (grid0.coords t)) _ _ _ _ (next_row0 t hc1) rfl (next_row0 t hc1) rfl)
        (col_named x0 arg1 harg1 _ (k0_off6 (grid0.coords t)) (k0_off7 (grid0.coords t)) _ _ _ _ (next_row0 t hc1) rfl (next_row0 t hc1) rfl) _
    ihave Hsp := (share_split c (wins x0 hx) W (Ring.sl 2 (t.val + 1)) (Ring.bk 64 (t.val + 1)) 0).1 $$ Hw0
    icases Hsp with ⟨Hsrc0, Hrest0⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    clear hcanonS0 hu0
    have hu1 := map_named x0 arg1 harg1 (boxNo (Ring.bk 64 (t.val + 1)) 1) (k0_off13 (grid0.coords t)) (k0_off13_inb (grid0.coords t) hc1) (Shape.Idx.first (numel1_S1x1.symm ▸ Nat.one_pos)) (next_row1 t hc1) rfl
    have hcanonS1 : (mapsM.slice (Rect.unit (s := S4x200x51200) (k0_off20 (runA.sl.v1779 c t arg1 harg1 hc1 x0) (runA.sl.v1792 c t arg1 harg1 hc1 x0) (runA.sl.v1799_1 c t arg1 harg1 hc1 x0)) S1x80x16384.size (off_inb x0 k0_off20 rfl _ _ hx hu1)) (fun _ => rfl)).squeeze S80x16384 squeezes_S1x80x16384_S80x16384 = (wins x0 hx).src (Ring.bk 64 (t.val + 1)) 1 :=
      src_named x0 hx _ _ k0_off20 rfl hu1
        (row_named x0 arg1 harg1 _ (k0_off16 (grid0.coords t)) (k0_off17 (grid0.coords t)) _ _ _ _ (next_row1 t hc1) rfl (next_row1 t hc1) rfl)
        (col_named x0 arg1 harg1 _ (k0_off14 (grid0.coords t)) (k0_off15 (grid0.coords t)) _ _ _ _ (next_row1 t hc1) rfl (next_row1 t hc1) rfl) _
    ihave Hsp := (share_split c (wins x0 hx) W (Ring.sl 2 (t.val + 1)) (Ring.bk 64 (t.val + 1)) 1).1 $$ Hw1
    icases Hsp with ⟨Hsrc1, Hrest1⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    clear hcanonS1 hu1
    have hu2 := map_named x0 arg1 harg1 (boxNo (Ring.bk 64 (t.val + 1)) 2) (k0_off21 (grid0.coords t)) (k0_off21_inb (grid0.coords t) hc1) (Shape.Idx.first (numel1_S1x1.symm ▸ Nat.one_pos)) (next_row2 t hc1) rfl
    have hcanonS2 : (mapsM.slice (Rect.unit (s := S4x200x51200) (k0_off28 (runA.sl.v1825 c t arg1 harg1 hc1 x0) (runA.sl.v1838 c t arg1 harg1 hc1 x0) (runA.sl.v1845 c t arg1 harg1 hc1 x0)) S1x80x16384.size (off_inb x0 k0_off28 rfl _ _ hx hu2)) (fun _ => rfl)).squeeze S80x16384 squeezes_S1x80x16384_S80x16384 = (wins x0 hx).src (Ring.bk 64 (t.val + 1)) 2 :=
      src_named x0 hx _ _ k0_off28 rfl hu2
        (row_named x0 arg1 harg1 _ (k0_off24 (grid0.coords t)) (k0_off25 (grid0.coords t)) _ _ _ _ (next_row2 t hc1) rfl (next_row2 t hc1) rfl)
        (col_named x0 arg1 harg1 _ (k0_off22 (grid0.coords t)) (k0_off23 (grid0.coords t)) _ _ _ _ (next_row2 t hc1) rfl (next_row2 t hc1) rfl) _
    ihave Hsp := (share_split c (wins x0 hx) W (Ring.sl 2 (t.val + 1)) (Ring.bk 64 (t.val + 1)) 2).1 $$ Hw2
    icases Hsp with ⟨Hsrc2, Hrest2⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    clear hcanonS2 hu2
    have hu3 := map_named x0 arg1 harg1 (boxNo (Ring.bk 64 (t.val + 1)) 3) (k0_off29 (grid0.coords t)) (k0_off29_inb (grid0.coords t) hc1) (Shape.Idx.first (numel1_S1x1.symm ▸ Nat.one_pos)) (next_row3 t hc1) rfl
    have hcanonS3 : (mapsM.slice (Rect.unit (s := S4x200x51200) (k0_off36 (runA.sl.v1871 c t arg1 harg1 hc1 x0) (runA.sl.v1884 c t arg1 harg1 hc1 x0) (runA.sl.v1891 c t arg1 harg1 hc1 x0)) S1x80x16384.size (off_inb x0 k0_off36 rfl _ _ hx hu3)) (fun _ => rfl)).squeeze S80x16384 squeezes_S1x80x16384_S80x16384 = (wins x0 hx).src (Ring.bk 64 (t.val + 1)) 3 :=
      src_named x0 hx _ _ k0_off36 rfl hu3
        (row_named x0 arg1 harg1 _ (k0_off32 (grid0.coords t)) (k0_off33 (grid0.coords t)) _ _ _ _ (next_row3 t hc1) rfl (next_row3 t hc1) rfl)
        (col_named x0 arg1 harg1 _ (k0_off30 (grid0.coords t)) (k0_off31 (grid0.coords t)) _ _ _ _ (next_row3 t hc1) rfl (next_row3 t hc1) rfl) _
    ihave Hsp := (share_split c (wins x0 hx) W (Ring.sl 2 (t.val + 1)) (Ring.bk 64 (t.val + 1)) 3).1 $$ Hw3
    icases Hsp with ⟨Hsrc3, Hrest3⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    sl_step
    iapply Hk
    isplitl [H0]
    · iexists _
      isplitr
      · ipureintro; exact harg1.read_unread _
      iexact H0
    isplitl [H1]
    · iexists _; iexact H1
    isplitl [Hc0 Hrest0 Hf0 He0 Hfs0 Hr0]
    · isplitl [Hc0 Hrest0]
      · iexists s0
        isplitl [Hc0]
        · iexact Hc0
        iexact Hrest0
      isplitl [Hf0]
      · iexact Hf0
      isplitl [He0]
      · iexists _; iexact He0
      iapply (share_split c (wins x0 hx) W (Ring.sl 2 t.val) (Ring.bk 64 t.val) 0).2
      isplitl [Hfs0]
      · iexact Hfs0
      iexact Hr0
    isplitl [Hc1 Hrest1 Hf1 He1 Hfs1 Hr1]
    · isplitl [Hc1 Hrest1]
      · iexists s1
        isplitl [Hc1]
        · iexact Hc1
        iexact Hrest1
      isplitl [Hf1]
      · iexact Hf1
      isplitl [He1]
      · iexists _; iexact He1
      iapply (share_split c (wins x0 hx) W (Ring.sl 2 t.val) (Ring.bk 64 t.val) 1).2
      isplitl [Hfs1]
      · iexact Hfs1
      iexact Hr1
    isplitl [Hc2 Hrest2 Hf2 He2 Hfs2 Hr2]
    · isplitl [Hc2 Hrest2]
      · iexists s2
        isplitl [Hc2]
        · iexact Hc2
        iexact Hrest2
      isplitl [Hf2]
      · iexact Hf2
      isplitl [He2]
      · iexists _; iexact He2
      iapply (share_split c (wins x0 hx) W (Ring.sl 2 t.val) (Ring.bk 64 t.val) 2).2
      isplitl [Hfs2]
      · iexact Hfs2
      iexact Hr2
    isplitl [Hc3 Hrest3 Hf3 He3 Hfs3 Hr3]
    · isplitl [Hc3 Hrest3]
      · iexists s3
        isplitl [Hc3]
        · iexact Hc3
        iexact Hrest3
      isplitl [Hf3]
      · iexact Hf3
      isplitl [He3]
      · iexists _; iexact He3
      iapply (share_split c (wins x0 hx) W (Ring.sl 2 t.val) (Ring.bk 64 t.val) 3).2
      isplitl [Hfs3]
      · iexact Hfs3
      iexact Hr3
    iexists _
    iexact HW

end Cert.Kernel.Roi

end
-- ==== Proof.Kernel.RunB.lean ====
/- The body's run at a point between: it starts the next point's copies and waits for its own. -/
module

public import proofs.«01_k».proof.Proof.Kernel.Words

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

set_option maxHeartbeats 4000000 in
noncomputable def runB (c : Dev nD) (t : Fin cfg0.N) (arg1 : Memref sig .tc .smem S256x10 .f32) (harg1 : arg1.IsWhole) (arg3 : Memref sig .tc .vmem S4x14x14x512 .f32) (harg3 : arg3.IsWhole)
    (hc0 : ¬isFirst (grid0.coords t)) (hc1 : hasNext (grid0.coords t))
    (x0 : Vec F S256x10 .f32) (W : BufOf (F := F) c mapsM) (hx : NamesMaps x0) :
    { L1 : List (View.Piece (Elt F) S4x14x14x512 .f32) //
      ∀ (Ws : Waits sig Unit) (K : PUnit → sProp 𝕄),
        iprop(owns (c : Thread nD τ) arg1 fullShare x0 ∗ (∃ d, owns (c : Thread nD τ) arg3 fullShare d)
            ∗ (flying c (wins x0 hx) W (Ring.sl 2 t.val) (Ring.bk 64 t.val) 0 ∗ free c W (Ring.sl 2 (t.val + 1)) 0)
            ∗ (flying c (wins x0 hx) W (Ring.sl 2 t.val) (Ring.bk 64 t.val) 1 ∗ free c W (Ring.sl 2 (t.val + 1)) 1)
            ∗ (flying c (wins x0 hx) W (Ring.sl 2 t.val) (Ring.bk 64 t.val) 2 ∗ free c W (Ring.sl 2 (t.val + 1)) 2)
            ∗ (flying c (wins x0 hx) W (Ring.sl 2 t.val) (Ring.bk 64 t.val) 3 ∗ free c W (Ring.sl 2 (t.val + 1)) 3)
            ∗ owes (c : Thread nD τ) 0 Ws
            ∗ (iprop(owns (c : Thread nD τ) arg1 fullShare x0 ∗ (∃ f, arg3.view.loc (c : Thread nD τ) ↦[arg3.view.set]{fullShare} arg3.view.writes (Elt F) f L1)
              ∗ (flying c (wins x0 hx) W (Ring.sl 2 (t.val + 1)) (Ring.bk 64 (t.val + 1)) 0 ∗ free c W (Ring.sl 2 t.val) 0)
              ∗ (flying c (wins x0 hx) W (Ring.sl 2 (t.val + 1)) (Ring.bk 64 (t.val + 1)) 1 ∗ free c W (Ring.sl 2 t.val) 1)
              ∗ (flying c (wins x0 hx) W (Ring.sl 2 (t.val + 1)) (Ring.bk 64 (t.val + 1)) 2 ∗ free c W (Ring.sl 2 t.val) 2)
              ∗ (flying c (wins x0 hx) W (Ring.sl 2 (t.val + 1)) (Ring.bk 64 (t.val + 1)) 3 ∗ free c W (Ring.sl 2 t.val) 3)
              ∗ (∃ W', owes (c : Thread nD τ) 0 W')) -∗ K ⟨⟩))
          ⊢ wp frame (wpE (defs₀ (F := F)) Variants.none c none) Set.univ (cc0__roi_kernel (grid0.coords t) arg1 harg1 (Memref.whole main_v3) (Memref.isWhole_whole _) arg3 harg3 patchM (Memref.isWhole_whole _) cc0_scratch1) K } := by
  refine ⟨?_, fun Ws K => ?run⟩
  case run =>
    haveI : Fact (¬isFirst (grid0.coords t)) := ⟨hc0⟩
    haveI : Fact (hasNext (grid0.coords t)) := ⟨hc1⟩
    simp only [cc0__roi_kernel_eq_skeleton]; unfold cc0__roi_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns flying free
    iintro ⟨⟨%f0, %hf0, H0⟩, ⟨%d1, %f1, -, H1⟩, ⟨⟨%e0, Hf0, Hr0⟩, Hc0, ⟨%s0, Hs0⟩, Hw0⟩, ⟨⟨%e1, Hf1, Hr1⟩, Hc1, ⟨%s1, Hs1⟩, Hw1⟩, ⟨⟨%e2, Hf2, Hr2⟩, Hc2, ⟨%s2, Hs2⟩, Hw2⟩, ⟨⟨%e3, Hf3, Hr3⟩, Hc3, ⟨%s3, Hs3⟩, Hw3⟩, HW, Hk⟩
    obtain rfl := harg1.eq_unread hf0
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    have hu0 := map_named x0 arg1 harg1 (boxNo (Ring.bk 64 (t.val + 1)) 0) (k0_off5 (grid0.coords t)) (k0_off5_inb (grid0.coords t) hc1) (Shape.Idx.first (numel1_S1x1.symm ▸ Nat.one_pos)) (next_row0 t hc1) rfl
    have hcanonS0 : (mapsM.slice (Rect.unit (s := S4x200x51200) (k0_off12 (runB.sl.v1733 c t arg1 harg1 hc1 x0) (runB.sl.v1746 c t arg1 harg1 hc1 x0) (runB.sl.v1753 c t arg1 harg1 hc1 x0)) S1x80x16384.size (off_inb x0 k0_off12 rfl _ _ hx hu0)) (fun _ => rfl)).squeeze S80x16384 squeezes_S1x80x16384_S80x16384 = (wins x0 hx).src (Ring.bk 64 (t.val + 1)) 0 :=
      src_named x0 hx _ _ k0_off12 rfl hu0
        (row_named x0 arg1 harg1 _ (k0_off8 (grid0.coords t)) (k0_off9 (grid0.coords t)) _ _ _ _ (next_row0 t hc1) rfl (next_row0 t hc1) rfl)
        (col_named x0 arg1 harg1 _ (k0_off6 (grid0.coords t)) (k0_off7 (grid0.coords t)) _ _ _ _ (next_row0 t hc1) rfl (next_row0 t hc1) rfl) _
    ihave Hsp := (share_split c (wins x0 hx) W (Ring.sl 2 (t.val + 1)) (Ring.bk 64 (t.val + 1)) 0).1 $$ Hw0
    icases Hsp with ⟨Hsrc0, Hrest0⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    have hu1 := map_named x0 arg1 harg1 (boxNo (Ring.bk 64 (t.val + 1)) 1) (k0_off13 (grid0.coords t)) (k0_off13_inb (grid0.coords t) hc1) (Shape.Idx.first (numel1_S1x1.symm ▸ Nat.one_pos)) (next_row1 t hc1) rfl
    have hcanonS1 : (mapsM.slice (Rect.unit (s := S4x200x51200) (k0_off20 (runB.sl.v1779 c t arg1 harg1 hc1 x0) (runB.sl.v1792 c t arg1 harg1 hc1 x0) (runB.sl.v1799 c t arg1 harg1 hc1 x0)) S1x80x16384.size (off_inb x0 k0_off20 rfl _ _ hx hu1)) (fun _ => rfl)).squeeze S80x16384 squeezes_S1x80x16384_S80x16384 = (wins x0 hx).src (Ring.bk 64 (t.val + 1)) 1 :=
      src_named x0 hx _ _ k0_off20 rfl hu1
        (row_named x0 arg1 harg1 _ (k0_off16 (grid0.coords t)) (k0_off17 (grid0.coords t)) _ _ _ _ (next_row1 t hc1) rfl (next_row1 t hc1) rfl)
        (col_named x0 arg1 harg1 _ (k0_off14 (grid0.coords t)) (k0_off15 (grid0.coords t)) _ _ _ _ (next_row1 t hc1) rfl (next_row1 t hc1) rfl) _
    ihave Hsp := (share_split c (wins x0 hx) W (Ring.sl 2 (t.val + 1)) (Ring.bk 64 (t.val + 1)) 1).1 $$ Hw1
    icases Hsp with ⟨Hsrc1, Hrest1⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    have hu2 := map_named x0 arg1 harg1 (boxNo (Ring.bk 64 (t.val + 1)) 2) (k0_off21 (grid0.coords t)) (k0_off21_inb (grid0.coords t) hc1) (Shape.Idx.first (numel1_S1x1.symm ▸ Nat.one_pos)) (next_row2 t hc1) rfl
    have hcanonS2 : (mapsM.slice (Rect.unit (s := S4x200x51200) (k0_off28 (runB.sl.v1825 c t arg1 harg1 hc1 x0) (runB.sl.v1838 c t arg1 harg1 hc1 x0) (runB.sl.v1845 c t arg1 harg1 hc1 x0)) S1x80x16384.size (off_inb x0 k0_off28 rfl _ _ hx hu2)) (fun _ => rfl)).squeeze S80x16384 squeezes_S1x80x16384_S80x16384 = (wins x0 hx).src (Ring.bk 64 (t.val + 1)) 2 :=
      src_named x0 hx _ _ k0_off28 rfl hu2
        (row_named x0 arg1 harg1 _ (k0_off24 (grid0.coords t)) (k0_off25 (grid0.coords t)) _ _ _ _ (next_row2 t hc1) rfl (next_row2 t hc1) rfl)
        (col_named x0 arg1 harg1 _ (k0_off22 (grid0.coords t)) (k0_off23 (grid0.coords t)) _ _ _ _ (next_row2 t hc1) rfl (next_row2 t hc1) rfl) _
    ihave Hsp := (share_split c (wins x0 hx) W (Ring.sl 2 (t.val + 1)) (Ring.bk 64 (t.val + 1)) 2).1 $$ Hw2
    icases Hsp with ⟨Hsrc2, Hrest2⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    have hu3 := map_named x0 arg1 harg1 (boxNo (Ring.bk 64 (t.val + 1)) 3) (k0_off29 (grid0.coords t)) (k0_off29_inb (grid0.coords t) hc1) (Shape.Idx.first (numel1_S1x1.symm ▸ Nat.one_pos)) (next_row3 t hc1) rfl
    have hcanonS3 : (mapsM.slice (Rect.unit (s := S4x200x51200) (k0_off36 (runB.sl.v1871 c t arg1 harg1 hc1 x0) (runB.sl.v1884 c t arg1 harg1 hc1 x0) (runB.sl.v1891 c t arg1 harg1 hc1 x0)) S1x80x16384.size (off_inb x0 k0_off36 rfl _ _ hx hu3)) (fun _ => rfl)).squeeze S80x16384 squeezes_S1x80x16384_S80x16384 = (wins x0 hx).src (Ring.bk 64 (t.val + 1)) 3 :=
      src_named x0 hx _ _ k0_off36 rfl hu3
        (row_named x0 arg1 harg1 _ (k0_off32 (grid0.coords t)) (k0_off33 (grid0.coords t)) _ _ _ _ (next_row3 t hc1) rfl (next_row3 t hc1) rfl)
        (col_named x0 arg1 harg1 _ (k0_off30 (grid0.coords t)) (k0_off31 (grid0.coords t)) _ _ _ _ (next_row3 t hc1) rfl (next_row3 t hc1) rfl) _
    ihave Hsp := (share_split c (wins x0 hx) W (Ring.sl 2 (t.val + 1)) (Ring.bk 64 (t.val + 1)) 3).1 $$ Hw3
    icases Hsp with ⟨Hsrc3, Hrest3⟩
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    sl_step
    iapply Hk
    isplitl [H0]
    · iexists _
      isplitr
      · ipureintro; exact harg1.read_unread _
      iexact H0
    isplitl [H1]
    · iexists _; iexact H1
    isplitl [Hc0 Hrest0 Hf0 Hf0_dst Hf0_src Hr0]
    · isplitl [Hc0 Hrest0]
      · iexists s0
        isplitl [Hc0]
        · iexact Hc0
        iexact Hrest0
      isplitl [Hf0]
      · iexact Hf0
      isplitl [Hf0_dst]
      · iexists _; iexact Hf0_dst
      iapply (share_split c (wins x0 hx) W (Ring.sl 2 t.val) (Ring.bk 64 t.val) 0).2
      isplitl [Hf0_src]
      · iexact Hf0_src
      iexact Hr0
    isplitl [Hc1 Hrest1 Hf1 Hf1_dst Hf1_src Hr1]
    · isplitl [Hc1 Hrest1]
      · iexists s1
        isplitl [Hc1]
        · iexact Hc1
        iexact Hrest1
      isplitl [Hf1]
      · iexact Hf1
      isplitl [Hf1_dst]
      · iexists _; iexact Hf1_dst
      iapply (share_split c (wins x0 hx) W (Ring.sl 2 t.val) (Ring.bk 64 t.val) 1).2
      isplitl [Hf1_src]
      · iexact Hf1_src
      iexact Hr1
    isplitl [Hc2 Hrest2 Hf2 Hf2_dst Hf2_src Hr2]
    · isplitl [Hc2 Hrest2]
      · iexists s2
        isplitl [Hc2]
        · iexact Hc2
        iexact Hrest2
      isplitl [Hf2]
      · iexact Hf2
      isplitl [Hf2_dst]
      · iexists _; iexact Hf2_dst
      iapply (share_split c (wins x0 hx) W (Ring.sl 2 t.val) (Ring.bk 64 t.val) 2).2
      isplitl [Hf2_src]
      · iexact Hf2_src
      iexact Hr2
    isplitl [Hc3 Hrest3 Hf3 Hf3_dst Hf3_src Hr3]
    · isplitl [Hc3 Hrest3]
      · iexists s3
        isplitl [Hc3]
        · iexact Hc3
        iexact Hrest3
      isplitl [Hf3]
      · iexact Hf3
      isplitl [Hf3_dst]
      · iexists _; iexact Hf3_dst
      iapply (share_split c (wins x0 hx) W (Ring.sl 2 t.val) (Ring.bk 64 t.val) 3).2
      isplitl [Hf3_src]
      · iexact Hf3_src
      iexact Hr3
    iexists _
    iexact HW

end Cert.Kernel.Roi

end
-- ==== Proof.Kernel.RunC.lean ====
/- The body's run at the last point: it waits for its windows and starts no further copy. -/
module

public import proofs.«01_k».proof.Proof.Kernel.Words

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

set_option maxHeartbeats 4000000 in
noncomputable def runC (c : Dev nD) (t : Fin cfg0.N) (arg1 : Memref sig .tc .smem S256x10 .f32) (harg1 : arg1.IsWhole) (arg3 : Memref sig .tc .vmem S4x14x14x512 .f32) (harg3 : arg3.IsWhole)
    (hc0 : ¬isFirst (grid0.coords t)) (hc1 : ¬hasNext (grid0.coords t))
    (x0 : Vec F S256x10 .f32) (W : BufOf (F := F) c mapsM) (hx : NamesMaps x0) :
    { L1 : List (View.Piece (Elt F) S4x14x14x512 .f32) //
      ∀ (Ws : Waits sig Unit) (K : PUnit → sProp 𝕄),
        iprop(owns (c : Thread nD τ) arg1 fullShare x0 ∗ (∃ d, owns (c : Thread nD τ) arg3 fullShare d)
            ∗ flying c (wins x0 hx) W (Ring.sl 2 t.val) (Ring.bk 64 t.val) 0
            ∗ flying c (wins x0 hx) W (Ring.sl 2 t.val) (Ring.bk 64 t.val) 1
            ∗ flying c (wins x0 hx) W (Ring.sl 2 t.val) (Ring.bk 64 t.val) 2
            ∗ flying c (wins x0 hx) W (Ring.sl 2 t.val) (Ring.bk 64 t.val) 3
            ∗ owes (c : Thread nD τ) 0 Ws
            ∗ (iprop(owns (c : Thread nD τ) arg1 fullShare x0 ∗ (∃ f, arg3.view.loc (c : Thread nD τ) ↦[arg3.view.set]{fullShare} arg3.view.writes (Elt F) f L1)
              ∗ free c W (Ring.sl 2 t.val) 0
              ∗ free c W (Ring.sl 2 t.val) 1
              ∗ free c W (Ring.sl 2 t.val) 2
              ∗ free c W (Ring.sl 2 t.val) 3
              ∗ (∃ W', owes (c : Thread nD τ) 0 W')) -∗ K ⟨⟩))
          ⊢ wp frame (wpE (defs₀ (F := F)) Variants.none c none) Set.univ (cc0__roi_kernel (grid0.coords t) arg1 harg1 (Memref.whole main_v3) (Memref.isWhole_whole _) arg3 harg3 patchM (Memref.isWhole_whole _) cc0_scratch1) K } := by
  refine ⟨?_, fun Ws K => ?run⟩
  case run =>
    haveI : Fact (¬isFirst (grid0.coords t)) := ⟨hc0⟩
    haveI : Fact (¬hasNext (grid0.coords t)) := ⟨hc1⟩
    simp only [cc0__roi_kernel_eq_skeleton]; unfold cc0__roi_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns flying free
    iintro ⟨⟨%f0, %hf0, H0⟩, ⟨%d1, %f1, -, H1⟩, ⟨%e0, Hf0, Hr0⟩, ⟨%e1, Hf1, Hr1⟩, ⟨%e2, Hf2, Hr2⟩, ⟨%e3, Hf3, Hr3⟩, HW, Hk⟩
    obtain rfl := harg1.eq_unread hf0
    sl_exec (disch := first | sl_exact hc0 | sl_exact hc1 | exact fun _ => row_mult _ | exact row_mult _ | exact ⟨fun _ => win_inb _ _ _ (map_lt x0 hx arg1 harg1 _ _ _ rfl), fun _ => win_words _ _ _⟩ | exact ⟨win_inb _ _ _ (map_lt x0 hx arg1 harg1 _ _ _ rfl), win_words _ _ _⟩)
    sl_step
    iapply Hk
    isplitl [H0]
    · iexists _
      isplitr
      · ipureintro; exact harg1.read_unread _
      iexact H0
    isplitl [H1]
    · iexists _; iexact H1
    isplitl [Hf0 Hf0_dst Hf0_src Hr0]
    · isplitl [Hf0]
      · iexact Hf0
      isplitl [Hf0_dst]
      · iexists _; iexact Hf0_dst
      iapply (share_split c (wins x0 hx) W (Ring.sl 2 t.val) (Ring.bk 64 t.val) 0).2
      isplitl [Hf0_src]
      · iexact Hf0_src
      iexact Hr0
    isplitl [Hf1 Hf1_dst Hf1_src Hr1]
    · isplitl [Hf1]
      · iexact Hf1
      isplitl [Hf1_dst]
      · iexists _; iexact Hf1_dst
      iapply (share_split c (wins x0 hx) W (Ring.sl 2 t.val) (Ring.bk 64 t.val) 1).2
      isplitl [Hf1_src]
      · iexact Hf1_src
      iexact Hr1
    isplitl [Hf2 Hf2_dst Hf2_src Hr2]
    · isplitl [Hf2]
      · iexact Hf2
      isplitl [Hf2_dst]
      · iexists _; iexact Hf2_dst
      iapply (share_split c (wins x0 hx) W (Ring.sl 2 t.val) (Ring.bk 64 t.val) 2).2
      isplitl [Hf2_src]
      · iexact Hf2_src
      iexact Hr2
    isplitl [Hf3 Hf3_dst Hf3_src Hr3]
    · isplitl [Hf3]
      · iexact Hf3
      isplitl [Hf3_dst]
      · iexists _; iexact Hf3_dst
      iapply (share_split c (wins x0 hx) W (Ring.sl 2 t.val) (Ring.bk 64 t.val) 3).2
      isplitl [Hf3_src]
      · iexact Hf3_src
      iexact Hr3
    iexists _
    iexact HW

end Cert.Kernel.Roi

end
-- ==== Proof.Kernel.Body.lean ====
/- The body at any grid point, whichever of its branches the point takes. -/
module

public import proofs.«01_k».proof.Proof.Kernel.Ends
public import proofs.«01_k».proof.Proof.Kernel.RunA
public import proofs.«01_k».proof.Proof.Kernel.RunB
public import proofs.«01_k».proof.Proof.Kernel.RunC

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

/-! ## The body at any point -/

section AnyPoint
variable (c : Dev nD) (t : Fin cfg0.N) (arg1 : Memref sig .tc .smem S256x10 .f32) (harg1 : arg1.IsWhole) (arg3 : Memref sig .tc .vmem S4x14x14x512 .f32) (harg3 : arg3.IsWhole)
  (x0 : Vec F S256x10 .f32) (W : BufOf (F := F) c mapsM) (hx : NamesMaps x0)

/-- The pieces that the body writes at point `t`. (The first point is not the last.) -/
def piecesAt : List (View.Piece (Elt F) S4x14x14x512 .f32) :=
  if h0 : isFirst (grid0.coords t) then
    if h1 : hasNext (grid0.coords t) then (runA c t arg1 harg1 arg3 harg3 h0 h1 x0 W hx).1 else []
  else if h1 : hasNext (grid0.coords t) then (runB c t arg1 harg1 arg3 harg3 h0 h1 x0 W hx).1
  else (runC c t arg1 harg1 arg3 harg3 h0 h1 x0 W hx).1

theorem piecesAt_A (h0 : isFirst (grid0.coords t)) (h1 : hasNext (grid0.coords t)) :
    piecesAt c t arg1 harg1 arg3 harg3 x0 W hx = (runA c t arg1 harg1 arg3 harg3 h0 h1 x0 W hx).1 := by
  unfold piecesAt; rw [dif_pos h0, dif_pos h1]
theorem piecesAt_B (h0 : ¬isFirst (grid0.coords t)) (h1 : hasNext (grid0.coords t)) :
    piecesAt c t arg1 harg1 arg3 harg3 x0 W hx = (runB c t arg1 harg1 arg3 harg3 h0 h1 x0 W hx).1 := by
  unfold piecesAt; rw [dif_neg h0, dif_pos h1]
theorem piecesAt_C (h0 : ¬isFirst (grid0.coords t)) (h1 : ¬hasNext (grid0.coords t)) :
    piecesAt c t arg1 harg1 arg3 harg3 x0 W hx = (runC c t arg1 harg1 arg3 harg3 h0 h1 x0 W hx).1 := by
  unfold piecesAt; rw [dif_neg h0, dif_neg h1]

/-- The first point has a next one. -/
theorem hasNext_of_first (h0 : isFirst (grid0.coords t)) : hasNext (grid0.coords t) :=
  (hasNext_iff t).mpr (by rw [(isFirst_iff t).mp h0]; decide)

/-- The pieces fill the output's block: eight parts, one per box and mask. -/
theorem cover (y : S4x14x14x512.Idx) : ∃ pc ∈ piecesAt c t arg1 harg1 arg3 harg3 x0 W hx, y ∈ pc.1.set := by
  by_cases h0 : isFirst (grid0.coords t)
  · rw [piecesAt_A c t arg1 harg1 arg3 harg3 x0 W hx h0 (hasNext_of_first t h0)]
    exact View.cover_of_tiledL (runA c t arg1 harg1 arg3 harg3 h0 (hasNext_of_first t h0) x0 W hx).1 S1x14x14x256.size (by sl_kernel_rfl) y
  · by_cases h1 : hasNext (grid0.coords t)
    · rw [piecesAt_B c t arg1 harg1 arg3 harg3 x0 W hx h0 h1]
      exact View.cover_of_tiledL (runB c t arg1 harg1 arg3 harg3 h0 h1 x0 W hx).1 S1x14x14x256.size (by sl_kernel_rfl) y
    · rw [piecesAt_C c t arg1 harg1 arg3 harg3 x0 W hx h0 h1]
      exact View.cover_of_tiledL (runC c t arg1 harg1 arg3 harg3 h0 h1 x0 W hx).1 S1x14x14x256.size (by sl_kernel_rfl) y

set_option maxHeartbeats 1000000 in
/-- The body takes the slots from their state before point `t` to their state before the next, and writes the pieces. -/
theorem body_run (Ws : Waits sig Unit) (K : PUnit → sProp 𝕄) :
    iprop(owns (c : Thread nD τ) arg1 fullShare x0 ∗ (∃ d, owns (c : Thread nD τ) arg3 fullShare d) ∗ ringAt c (wins x0 hx) W t.val
        ∗ owes (c : Thread nD τ) 0 Ws
        ∗ (iprop(owns (c : Thread nD τ) arg1 fullShare x0
              ∗ (∃ f, arg3.view.loc (c : Thread nD τ) ↦[arg3.view.set]{fullShare} arg3.view.writes (Elt F) f (piecesAt c t arg1 harg1 arg3 harg3 x0 W hx))
              ∗ ringAt c (wins x0 hx) W (t.val + 1) ∗ (∃ W', owes (c : Thread nD τ) 0 W')) -∗ K ⟨⟩))
      ⊢ wp frame (wpE (defs₀ (F := F)) Variants.none c none) Set.univ (cc0__roi_kernel (grid0.coords t) arg1 harg1 (Memref.whole main_v3) (Memref.isWhole_whole _) arg3 harg3 patchM (Memref.isWhole_whole _) cc0_scratch1) K := by
  have hN : t.val < 64 := lt_of_lt_of_eq t.isLt N_0
  unfold ringAt
  by_cases h0 : isFirst (grid0.coords t)
  · have h1 := hasNext_of_first t h0
    have ht := (isFirst_iff t).mp h0
    rw [piecesAt_A c t arg1 harg1 arg3 harg3 x0 W hx h0 h1]
    simp only [box_end c W (wins x0 hx) t.val _ (Or.inl ht), box_mid c W (wins x0 hx) (t.val + 1) _ (by omega) (by omega), sl_next]
    iintro ⟨H0, H1, ⟨Hr0, Hr1, Hr2, Hr3⟩, HW, Hk⟩
    iapply ((runA c t arg1 harg1 arg3 harg3 h0 h1 x0 W hx).2 Ws K)
    isplitl [H0]; · iexact H0
    isplitl [H1]; · iexact H1
    isplitl [Hr0]; · iexact Hr0
    isplitl [Hr1]; · iexact Hr1
    isplitl [Hr2]; · iexact Hr2
    isplitl [Hr3]; · iexact Hr3
    isplitl [HW]; · iexact HW
    iintro ⟨H0, H1, Hr0, Hr1, Hr2, Hr3, HW⟩
    iapply Hk
    isplitl [H0]; · iexact H0
    isplitl [H1]; · iexact H1
    isplitl [Hr0 Hr1 Hr2 Hr3]
    · isplitl [Hr0]; · iexact Hr0
      isplitl [Hr1]; · iexact Hr1
      isplitl [Hr2]; · iexact Hr2
      iexact Hr3
    iexact HW
  · by_cases h1 : hasNext (grid0.coords t)
    · have ht : t.val ≠ 0 := fun h => h0 ((isFirst_iff t).mpr h)
      have ht' := (hasNext_iff t).mp h1
      rw [piecesAt_B c t arg1 harg1 arg3 harg3 x0 W hx h0 h1]
      simp only [box_mid c W (wins x0 hx) t.val _ ht hN, box_mid c W (wins x0 hx) (t.val + 1) _ (by omega) (by omega), sl_next]
      iintro ⟨H0, H1, ⟨Hr0, Hr1, Hr2, Hr3⟩, HW, Hk⟩
      iapply ((runB c t arg1 harg1 arg3 harg3 h0 h1 x0 W hx).2 Ws K)
      isplitl [H0]; · iexact H0
      isplitl [H1]; · iexact H1
      isplitl [Hr0]; · iexact Hr0
      isplitl [Hr1]; · iexact Hr1
      isplitl [Hr2]; · iexact Hr2
      isplitl [Hr3]; · iexact Hr3
      isplitl [HW]; · iexact HW
      iintro ⟨H0, H1, Hr0, Hr1, Hr2, Hr3, HW⟩
      iapply Hk
      isplitl [H0]; · iexact H0
      isplitl [H1]; · iexact H1
      isplitl [Hr0 Hr1 Hr2 Hr3]
      · isplitl [Hr0]; · iexact Hr0
        isplitl [Hr1]; · iexact Hr1
        isplitl [Hr2]; · iexact Hr2
        iexact Hr3
      iexact HW
    · have ht : t.val ≠ 0 := fun h => h0 ((isFirst_iff t).mpr h)
      have ht' : ¬t.val < 63 := fun h => h1 ((hasNext_iff t).mpr h)
      rw [piecesAt_C c t arg1 harg1 arg3 harg3 x0 W hx h0 h1]
      simp only [box_mid c W (wins x0 hx) t.val _ ht hN, box_end c W (wins x0 hx) (t.val + 1) _ (Or.inr (by omega)), sl_next]
      iintro ⟨H0, H1, ⟨⟨Hr0, Hn0⟩, ⟨Hr1, Hn1⟩, ⟨Hr2, Hn2⟩, ⟨Hr3, Hn3⟩⟩, HW, Hk⟩
      iapply ((runC c t arg1 harg1 arg3 harg3 h0 h1 x0 W hx).2 Ws K)
      isplitl [H0]; · iexact H0
      isplitl [H1]; · iexact H1
      isplitl [Hr0]; · iexact Hr0
      isplitl [Hr1]; · iexact Hr1
      isplitl [Hr2]; · iexact Hr2
      isplitl [Hr3]; · iexact Hr3
      isplitl [HW]; · iexact HW
      iintro ⟨H0, H1, Hr0, Hr1, Hr2, Hr3, HW⟩
      iapply Hk
      isplitl [H0]; · iexact H0
      isplitl [H1]; · iexact H1
      isplitl [Hr0 Hr1 Hr2 Hr3 Hn0 Hn1 Hn2 Hn3]
      · isplitl [Hr0 Hn0]; · isplitl [Hn0]; · iexact Hn0
                             iexact Hr0
        isplitl [Hr1 Hn1]; · isplitl [Hn1]; · iexact Hn1
                             iexact Hr1
        isplitl [Hr2 Hn2]; · isplitl [Hn2]; · iexact Hn2
                             iexact Hr2
        isplitl [Hn3]; · iexact Hn3
        iexact Hr3
      iexact HW

end AnyPoint

end Cert.Kernel.Roi

end
-- ==== Proof.Kernel.Frame.lean ====
/- The frame: the region's proof data, the body's obligation, the launch. -/
module

public import proofs.«01_k».proof.Proof.Kernel.Body
public import proofs.«01_k».proof.Proof.Kernel.Kit
public import Idealize.ShloMosaic.Lib.Claim

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's propositions' resources. -/
local notation "𝕄" => MT nD τ sig Unit (Elt F) ℕ (Pipeline.UD sig nD τ) ℕ

variable (m : (ℓ : Loc nD τ sig) → Buf (Elt F) ℓ) (ρ : Dev nD → PrngReg)

/-! ## The boxes and the maps as the kernel finds them -/

/-- The table of boxes that the kernel keeps in scalar memory, the same at every point. -/
def boxes (c : Dev nD) : Vec F S256x10 .f32 := iblk m c 0 0
theorem iblk_boxes (c : Dev nD) (t : Fin cfg0.N) : iblk m c 0 t = boxes m c := rfl
/-- The maps in high-bandwidth memory. -/
abbrev maps (c : Dev nD) : BufOf (F := F) c mapsM := V m c main_v3

variable (hx : ∀ c, NamesMaps (boxes m c))

/-! ## The output's block after each point -/

/-- The pieces written at point `t`, and the block they make. -/
abbrev blockPieces (c : Dev nD) (t : Fin cfg0.N) : List (View.Piece (Elt F) S4x14x14x512 .f32) :=
  piecesAt c t (msBox t) (hsBox t) (msOut t) (hsOut t) (boxes m c) (maps m c) (hx c)
def outAt (c : Dev nD) (t : Fin cfg0.N) : Vec F S4x14x14x512 .f32 :=
  VO.read (Elt F) (VO.writes (Elt F) VO.junk (blockPieces m hx c t))

/-! ## The region's proof data -/

/-- The region's invariant before point `k`: the generator's register at some state, and the slots. -/
def inv (c : Dev nD) (k : ℕ) : sProp 𝕄 := iprop((∃ r, prngReg c r) ∗ ringAt c (wins (boxes m c) (hx c)) (maps m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m hx c t
  Φ t := inv m hx c t.val
  q _ := fullShare
  owed _ := 0

theorem A_eq (c : Dev nD) (w : Fin cfg0.W) : (dats m hx 0 c).A w = V m c (Pipeline.arrRef spec0 w) := by dsimp only [dats]
theorem inv_castSucc (c : Dev nD) (t : Fin cfg0.N) : (dats m hx 0 c).Φ t.castSucc = inv m hx c t.val := by
  dsimp only [dats]; simp only [Fin.coe_castSucc]
theorem inv_succ (c : Dev nD) (t : Fin cfg0.N) : (dats m hx 0 c).Φ t.succ = inv m hx c (t.val + 1) := by
  dsimp only [dats]; simp only [Fin.val_succ]
theorem after0_0 (c : Dev nD) (t : Fin cfg0.N) : (dats m hx 0 c).after 0 t = iblk m c 0 t := by dsimp only [dats]
theorem after0_1 (c : Dev nD) (t : Fin cfg0.N) : (dats m hx 0 c).after 1 t = outAt m hx c t := by dsimp only [dats]
theorem before0_0 (c : Dev nD) (t : Fin cfg0.N) (d) : (dats m hx 0 c).before 0 t d = iblk m c 0 t :=
  before0_0_of m (dats m hx 0 c) (A_eq m hx c 0) (after0_0 m hx c) t d

/-! ## The body's obligation -/

/-- What the body is called with at point `t`, and what it returns. -/
def bodyPre (c : Dev nD) (t : Fin cfg0.N) : sProp 𝕄 :=
  iprop((dats m hx 0 c).Φ t.castSucc ∗ (dats m hx 0 c).owesAt () t.castSucc
    ∗ (∃ d, owns (c : Thread nD τ) (msBox t) fullShare ((dats m hx 0 c).before 0 t d))
    ∗ (∃ d, owns (c : Thread nD τ) (msOut t) fullShare ((dats m hx 0 c).before 1 t d)))
def bodyPost (c : Dev nD) (t : Fin cfg0.N) : sProp 𝕄 :=
  iprop((dats m hx 0 c).Φ t.succ ∗ (dats m hx 0 c).owesAt () t.succ
    ∗ owns (c : Thread nD τ) (msBox t) fullShare ((dats m hx 0 c).after 0 t)
    ∗ owns (c : Thread nD τ) (msOut t) fullShare ((dats m hx 0 c).after 1 t))

set_option maxHeartbeats 1200000 in
theorem sound_body (c : Dev nD) (t : Fin cfg0.N) :
    bodyPre m hx c t ⊢ wp frame (wpE (defs₀ (F := F)) Variants.none c none) Set.univ (bodyAt0 t) (fun _ => bodyPost m hx c t) := by
  unfold bodyPre bodyPost bodyAt0
  simp only [before0_0]
  rw [after0_0, after0_1, inv_castSucc m hx c t, inv_succ m hx c t]
  unfold Dat.owesAt Pipeline.owesWithin
  rw [show (dats m hx 0 c).owed t.castSucc = 0 from rfl, show (dats m hx 0 c).owed t.succ = 0 from rfl, iblk_boxes]
  unfold inv outAt
  iintro ⟨⟨Hg, Hr⟩, ⟨%Ws, -, HW⟩, ⟨%d0, H0⟩, ⟨%d1, H1⟩⟩
  iapply (body_run c t (msBox t) (hsBox t) (msOut t) (hsOut t) (boxes m c) (maps m c) (hx c) Ws _)
  isplitl [H0]; · iexact H0
  isplitl [H1]; · iexists _; iexact H1
  isplitl [Hr]; · iexact Hr
  isplitl [HW]; · iexact HW
  iintro ⟨H0, ⟨%e1, H1⟩, Hr, ⟨%W', HW'⟩⟩
  isplitl [Hg Hr]
  · isplitl [Hg]; · iexact Hg
    iexact Hr
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover c t _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hx 0 c) (defs₀ (F := F)) Variants.none () Set.univ := fun t => by
  rw [bigSep_W0, bigSep_W0, defs₀_row]
  exact triple_restated (sound_body m hx c t) rfl .rfl fun _ => .rfl

/-! ## What the launch hands the region, and takes back -/

theorem handed_eq (c : Dev nD) :
    (Pipeline.ΦD ownSem spec0 H0 (V m) c : sProp 𝕄)
      = iprop((∃ f : Buf (Elt F) ((c : Thread nD τ).loc cc0_scratch0), ((c : Thread nD τ).loc cc0_scratch0) ↦{fullShare} f) ∗ (∃ r, prngReg c r)
        ∗ Pipeline.ownSems0 (Ix := Unit) (Name := ℕ) (U := Pipeline.UD sig nD τ) (Lvl := ℕ) (Val := Elt F) (τ := τ) ownSem c
        ∗ (((c : Thread nD τ).loc main_v3) ↦{fullShare} maps m c)) := by
  have h : (bigSep H0 (fun b => ((c : Thread nD τ).loc b) ↦{fullShare} V m c b) : sProp 𝕄) = (((c : Thread nD τ).loc main_v3) ↦{fullShare} maps m c) := by
    rw [BI.bigSep_eq_bigSepL_of_eq [main_v3] (by decide) (by decide)]; rfl
  rw [Pipeline.ΦD_eq, scopedRest0_eq, h]

theorem hin (c : Dev nD) : Pipeline.ΦD ownSem spec0 H0 (V m) c ⊢ (dats m hx 0 c).Φ 0 := by
  rw [handed_eq, show (dats m hx 0 c).Φ 0 = inv m hx c 0 from rfl]
  unfold inv
  iintro ⟨HS, Hg, HC, HM⟩
  isplitl [Hg]; · iexact Hg
  iapply (ring_ends c (maps m c) (wins (boxes m c) (hx c)) 0 (Or.inl rfl)).2
  iapply (allFree_eq c (maps m c)).2
  isplitl [HS]; · iexact HS
  isplitl [HC]; · iexact HC
  iexact HM

theorem hout (c : Dev nD) : (dats m hx 0 c).Φ (Fin.last cfg0.N) ⊢ Pipeline.ΦD ownSem spec0 H0 (V m) c := by
  rw [handed_eq, show (dats m hx 0 c).Φ (Fin.last cfg0.N) = inv m hx c grid0.N from rfl]
  unfold inv
  rw [show grid0.N = 64 by rw [N_0]]
  iintro ⟨Hg, HR⟩
  ihave HR := (ring_ends c (maps m c) (wins (boxes m c) (hx c)) 64 (Or.inr rfl)).1 $$ HR
  ihave HR := (allFree_eq c (maps m c)).1 $$ HR
  icases HR with ⟨HS, HC, HM⟩
  isplitl [HS]; · iexact HS
  isplitl [Hg]; · iexact Hg
  isplitl [HC]; · iexact HC
  iexact HM

/-! ## The run and the frame -/

-- the launch theorem's implicit arguments are found through plain definitions in a metavariable's type
set_option backward.isDefEq.respectTransparency.types false in
set_option maxHeartbeats 800000 in
/-- The launch: every array of the region ends at what the proof data says, every other buffer as the lines after the
    region leave it, every semaphore at zero. -/
theorem run_all : θ_run defs (onTc (τ := τ) (main (F := F))) (s₀ m ρ) (fun r => (Pipeline.FramePost cfgs (dats m hx) 0 (Pipeline.afterTail₀ cfgs (dats m hx) 0 (V0 m) [hostOps1])) r ∧ r.2.sem = fun _ => 0) :=
  Pipeline.θ_run_frame_dma_around (Q' := _) cfgs (dats m hx) (0 : Fin 1) launch0 ownSem defs₀ Variants.none ownSemFacts H0 H0_sub m ρ main
    (hbody := fun c => (body_obligation m hx c).loose) (hshare := fun c => (dats m hx 0 c).share_full fun _ => rfl)
    (howed := fun _ _ => rfl) (V₀ := V0 m) (opss := [hostOps1]) (hsub := sfx_but) (hfresh := sfx_fresh) (hkeep := sfx_keeps)
    (hmain := hmain m Variants.none) (hA := A_eq m hx) (hin := hin m hx) (hout := hout m hx)

theorem run_main : θ_run defs (onTc (τ := τ) (main (F := F))) (s₀ m ρ) (Pipeline.FramePost cfgs (dats m hx) 0 (Pipeline.afterTail₀ cfgs (dats m hx) 0 (V0 m) [hostOps1])) :=
  (θ_run defs _ _).mono (fun _ h => h.1) (run_all m ρ hx)

include hx in
/-- The frame, when every box names a map: both arguments end unchanged and every semaphore at zero. -/
theorem frame_of_names : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m hx) (A_eq m hx) (run_main m ρ hx)) ((θ_run defs _ _).mono (fun _ h => h.2) (run_all m ρ hx))

end Cert.Kernel.Roi

end
-- ==== Proof.Kernel.Entry.lean ====
/- What the host lines before the kernel leave: the table of boxes and the maps; the precondition read off the table. -/
module

public import proofs.«01_k».proof.Proof.Kernel.Frame
public import proofs.«01_k».proof.Pre_maps_named
public import Idealize.ShloMosaic.Lib.ReduceAll
public import Idealize.ShloMosaic.Lib.Routing.OpsSearch
public import Idealize.ShloMosaic.Lib.StableHlo.Run
public import Idealize.ShloMosaic.Lib.ValueIdxCore

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]
variable (m : (ℓ : Loc nD τ sig) → Buf (Elt F) ℓ)

/-! ## What the host lines before the kernel leave -/

/-- The boxes as the caller gives them, and the maps. -/
abbrev argBoxes (c : Dev nD) : FVec F S256x2x5 .f32 := m ((c : Thread nD τ).loc main_arg1)
abbrev argMaps (c : Dev nD) : FVec F S4x256x200x200 .f32 := m ((c : Thread nD τ).loc main_arg0)

theorem table_eq (c : Dev nD) : (V m c main_v0 : FVec F S256x10 .f32) = shapeCast S256x10 (argBoxes m c) shapeCasts_S256x2x5_S256x10 := by
  show StableHlo.after (List.flatten [hostOps0]) (fun b => m (c, b)) (Proc.devRef .tc main_v0) = _
  simp only [List.flatten_cons, List.flatten_nil, List.append_nil]
  after_results
  rfl

theorem maps_eq (c : Dev nD) : (V m c main_v3 : FVec F S4x200x51200 .bf16)
    = shapeCast S4x200x51200 (truncf .bf16 (transpose S4x200x200x256 [0, 2, 3, 1] (argMaps m c) transposes_S4x256x200x200_S4x200x200x256_0_2_3_1) bitsLt_bf16_f32) shapeCasts_S4x200x200x256_S4x200x51200 := by
  show StableHlo.after (List.flatten [hostOps0]) (fun b => m (c, b)) (Proc.devRef .tc main_v3) = _
  simp only [List.flatten_cons, List.flatten_nil, List.append_nil]
  after_results
  rfl

theorem boxes_table (c : Dev nD) : boxes m c = (V m c main_v0 : FVec F S256x10 .f32) := by
  funext i
  unfold boxes iblk
  rw [View.read_apply, cast_eq]
  show (V m c main_v0 : FVec F S256x10 .f32) (((win0 0).rect 0).emb i) = _
  congr 1
  funext a
  apply Fin.ext
  rw [Pipeline.Window.rect_emb_val_of_index_zero _ _ _ (by fin_cases a <;> rfl)]

/-- Row `j` of the table holds the two boxes of pair `j`, five numbers each. -/
theorem boxes_cell (c : Dev nD) (j : Fin 256) (n : Fin 2) (q : Fin 5) :
    boxes m c (cellIx j ⟨n.val * 5 + q.val, by omega⟩) = argBoxes m c (ix3 j n q) := by
  rw [boxes_table, table_eq]
  exact Routing.cast32 _ _ rfl j n q _ rfl

/-- When the first number of every pair's first box names a map, so does the table's. -/
theorem names_of_maps (h : ∀ c j, (Scalar.fptosi 32 (argBoxes m c (ix3 j 0 0)) : BitVec 32).toNat < 4) (c : Dev nD) : NamesMaps (boxes m c) := by
  intro j
  have e := boxes_cell m c j 0 0
  have e' : boxes m c (cellIx j 0) = argBoxes m c (ix3 j 0 0) := e
  rw [mapW, e']
  exact h c j

end Cert.Kernel.Roi

end
-- ==== Proof.Kernel.Spec.lean ====
/- One box's part of the output block, as one formula in the box's numbers and the patch copied for it. -/
module

public import proofs.«01_k».proof.Proof.Kernel.Words

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One box's part of the block, as one formula

What the kernel computes for a box and one of its two masks, from the box's ten numbers and the patch of the maps that was
copied for it. The four boxes of a point and the two masks of a box are this formula's instances. -/

section Axis
variable (s : Shape) (row col : FVec F s .f32) (sub : BitVec 32) (base bin start : F .f32)

/-- The places at which an axis is sampled, one of the two in each of the fourteen bins. -/
def place : FVec F s .f32 :=
  addf (broadcast s base) (mulf (addf row (broadcast s (Scalar.ofBits .f32 sub))) (broadcast s bin))
/-- One where the place lies on the map, zero elsewhere. -/
def inside : FVec F s .f32 :=
  sitofp .f32 (extui 32 (andi (cmpf .ogt (place s row sub base bin) (broadcast s (Scalar.ofBits .f32 0xBF800000#32)))
    (cmpf .olt (place s row sub base bin) (broadcast s (Scalar.ofBits .f32 0x43480000#32)))) natLt_1_32)
/-- The place held on the map, the cell before it, and how far past that cell it lies. -/
def held1 : FVec F s .f32 :=
  minimumf (broadcast s (Scalar.ofBits .f32 0x43470000#32)) (maximumf (broadcast s (Scalar.ofBits .f32 0x00000000#32)) (place s row sub base bin))
def low : FVec F s .f32 := floor (held1 s row sub base bin)
def past : FVec F s .f32 := subf (held1 s row sub base bin) (low s row sub base bin)
/-- The weight that a place gives the cells of the patch's axis. -/
def weightOf : FVec F s .f32 :=
  mulf (addf
    (mulf (sitofp .f32 (extui 32 (cmpf .oeq col (subf (low s row sub base bin) (broadcast s start))) natLt_1_32))
      (subf (broadcast s (Scalar.ofBits .f32 0x3F800000#32)) (past s row sub base bin)))
    (mulf (sitofp .f32 (extui 32 (cmpf .oeq col (subf (minimumf (addf (low s row sub base bin) (broadcast s (Scalar.ofBits .f32 0x3F800000#32)))
        (broadcast s (Scalar.ofBits .f32 0x43470000#32))) (broadcast s start))) natLt_1_32))
      (past s row sub base bin)))
    (inside s row sub base bin)
/-- The mean of the two places' weights. -/
def axisW : FVec F s .f32 :=
  mulf (addf (addf (broadcast s (Scalar.ofBits .f32 0x00000000#32)) (weightOf s row col 0x3E800000#32 base bin start))
    (weightOf s row col 0x3F400000#32 base bin start)) (broadcast s (Scalar.ofBits .f32 0x3F000000#32))
end Axis

/-- The two axes' weights. -/
def rowsW (base bin start : F .f32) : FVec F S14x80 .f32 :=
  axisW S14x80 (sitofp .f32 (iota .tc S14x80 32 [0] iota_S14x80_d0_w32)) (sitofp .f32 (iota .tc S14x80 32 [1] iota_S14x80_d1_w32)) base bin start
def colsW (base bin start : F .f32) : FVec F S14x64 .f32 :=
  axisW S14x64 (sitofp .f32 (iota .tc S14x64 32 [0] iota_S14x64_d0_w32)) (sitofp .f32 (iota .tc S14x64 32 [1] iota_S14x64_d1_w32)) base bin start

/-- The patch with its rows gathered into the fourteen bins. -/
def binned (A : FVec F S14x80 .f32) (patch : FVec F S80x16384 .bf16) : FVec F S14x64x256 .f32 :=
  shapeCast S14x64x256 (matmul dot_S14x80_S80x16384_S14x16384_1_0_0_1_n_n none (truncf .bf16 A bitsLt_bf16_f32)
    patch (constant S14x16384 .f32 0x00000000#32)) shapeCasts_S14x16384_S14x64x256
/-- One bin's row with its columns gathered into the fourteen bins. -/
def binRow (B : FVec F S14x64 .f32) (p : FVec F S14x64x256 .f32) (off : Fin 3 → Nat) (h : S14x64x256.Slices off S1x64x256) : FVec F S1x14x256 .f32 :=
  shapeCast S1x14x256 (matmul dot_S14x64_S64x256_S14x256_1_0_0_1_n_n none B
    (shapeCast S64x256 (extractStridedSlice S1x64x256 off p h) shapeCasts_S1x64x256_S64x256) (constant S14x256 .f32 0x00000000#32)) shapeCasts_S14x256_S1x14x256
/-- All fourteen. -/
def pooled (B : FVec F S14x64 .f32) (p : FVec F S14x64x256 .f32) : FVec F S14x14x256 .f32 :=
  concatenate S14x14x256 0 [⟨S1x14x256, binRow B p ![0, 0, 0] slices_S14x64x256_o0_0_0_S1x64x256⟩,
    ⟨S1x14x256, binRow B p ![1, 0, 0] slices_S14x64x256_o1_0_0_S1x64x256⟩,
    ⟨S1x14x256, binRow B p ![2, 0, 0] slices_S14x64x256_o2_0_0_S1x64x256⟩,
    ⟨S1x14x256, binRow B p ![3, 0, 0] slices_S14x64x256_o3_0_0_S1x64x256⟩,
    ⟨S1x14x256, binRow B p ![4, 0, 0] slices_S14x64x256_o4_0_0_S1x64x256⟩,
    ⟨S1x14x256, binRow B p ![5, 0, 0] slices_S14x64x256_o5_0_0_S1x64x256⟩,
    ⟨S1x14x256, binRow B p ![6, 0, 0] slices_S14x64x256_o6_0_0_S1x64x256⟩,
    ⟨S1x14x256, binRow B p ![7, 0, 0] slices_S14x64x256_o7_0_0_S1x64x256⟩,
    ⟨S1x14x256, binRow B p ![8, 0, 0] slices_S14x64x256_o8_0_0_S1x64x256⟩,
    ⟨S1x14x256, binRow B p ![9, 0, 0] slices_S14x64x256_o9_0_0_S1x64x256⟩,
    ⟨S1x14x256, binRow B p ![10, 0, 0] slices_S14x64x256_o10_0_0_S1x64x256⟩,
    ⟨S1x14x256, binRow B p ![11, 0, 0] slices_S14x64x256_o11_0_0_S1x64x256⟩,
    ⟨S1x14x256, binRow B p ![12, 0, 0] slices_S14x64x256_o12_0_0_S1x64x256⟩,
    ⟨S1x14x256, binRow B p ![13, 0, 0] slices_S14x64x256_o13_0_0_S1x64x256⟩]
    concatenates_S1x14x256_S1x14x256_S1x14x256_S1x14x256_S1x14x256_S1x14x256_S1x14x256_S1x14x256_S1x14x256_S1x14x256_S1x14x256_S1x14x256_S1x14x256_S1x14x256_S14x14x256_d0

/-- The mask of one of the two boxes: the bins from `(y1, x1)` on and before `(y2, x2)`. -/
def maskOf (v7 v8 : IVec S14x14 32) (x1 y1 x2 y2 : BitVec 32) : FVec F S14x14x256 .f32 :=
  broadcastTo S14x14x256 (shapeCast S14x14x1 (sitofp .f32 (extui 32
    (andi (andi (andi (cmpi .sge v7 (broadcast S14x14 y1)) (cmpi .slt v7 (broadcast S14x14 y2))) (cmpi .sge v8 (broadcast S14x14 x1)))
      (cmpi .slt v8 (broadcast S14x14 x2))) natLt_1_32)) shapeCasts_S14x14_S14x14x1) broadcasts_S14x14x1_S14x14x256

section Box
variable (v : Fin 10 → F .f32)
/-- The union box's corners. -/
def xMin : F .f32 := Scalar.minimumf (v 1) (v 6)
def yMin : F .f32 := Scalar.minimumf (v 2) (v 7)
def xMax : F .f32 := Scalar.maximumf (v 3) (v 8)
def yMax : F .f32 := Scalar.maximumf (v 4) (v 9)
/-- A bin's length on an axis, on the map. -/
def binLen (lo hi : F .f32) : F .f32 :=
  Scalar.divf (Scalar.maximumf (Scalar.mulf (Scalar.subf hi lo) (Scalar.ofBits .f32 0x3E800000#32)) (Scalar.ofBits .f32 0x3F800000#32)) (Scalar.ofBits .f32 0x41600000#32)
def onMap (lo : F .f32) : F .f32 := Scalar.mulf lo (Scalar.ofBits .f32 0x3E800000#32)
/-- The patch's first row and first column. -/
def rowStart : BitVec 32 := Scalar.minsi 120#32 (Scalar.maxsi 0#32 (Scalar.andi (Scalar.fptosi 32 (Scalar.floor (onMap (yMin v)))) 4294967280#32))
def colStart : BitVec 32 := Scalar.minsi 136#32 (Scalar.maxsi 0#32 (Scalar.fptosi 32 (Scalar.floor (onMap (xMin v)))))
/-- A corner's number in bins of the union box. -/
def inBins (lo hi a : F .f32) : BitVec 32 :=
  Scalar.fptosi 32 (Scalar.mulf (Scalar.subf a lo) (Scalar.divf (Scalar.ofBits .f32 0x41600000#32) (Scalar.subf hi lo)))
/-- The box's part of the block for the mask of the box whose corners are numbers `k .. k+3`. -/
def boxPart (a b d e : Fin 10) (patch : FVec F S80x16384 .bf16) : FVec F S1x14x14x256 .f32 :=
  shapeCast S1x14x14x256 (mulf
    (pooled (colsW (onMap (xMin v)) (binLen (xMin v) (xMax v)) (Scalar.sitofp .f32 (colStart v)))
      (binned (rowsW (onMap (yMin v)) (binLen (yMin v) (yMax v)) (Scalar.sitofp .f32 (rowStart v))) patch))
    (maskOf (iota .tc S14x14 32 [0] iota_S14x14_d0_w32) (iota .tc S14x14 32 [1] iota_S14x14_d1_w32)
      (inBins (xMin v) (xMax v) (v a)) (inBins (yMin v) (yMax v) (v b)) (inBins (xMin v) (xMax v) (v d)) (inBins (yMin v) (yMax v) (v e))))
    shapeCasts_S14x14x256_S1x14x14x256
end Box

end Cert.Kernel.Roi

end
-- ==== Proof.Kernel.Pieces.lean ====
/- The eight parts that the body writes at a point, whichever of its branches the point takes. -/
module

public import proofs.«01_k».proof.Proof.Kernel.Spec
public import proofs.«01_k».proof.Proof.Kernel.RunB
public import proofs.«01_k».proof.Proof.Kernel.RunC
public import proofs.«01_k».proof.Proof.Kernel.RunA

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The loads of a point, by box -/

/-- The row of the table that box `g` of point `t` loads, as the kernel computes it. -/
def rowWord (t : Fin cfg0.N) (g : Fin 4) : BitVec 32 :=
  Scalar.indexCast (Scalar.addi (Scalar.muli (BitVec.ofNat 32 (grid0.coords t 0).val) 4#32) (BitVec.ofNat 32 g.val))
theorem rowWord_val : ∀ (t : Fin grid0.N) (g : Fin 4), (rowWord t g).toNat = (boxNo (Ring.bk 64 t.val) g).val := by decide +kernel
theorem loadOff_inb (t : Fin cfg0.N) (g : Fin 4) (k : Fin 10) : ∀ a, (![(rowWord t g).toNat, k.val] : Fin 2 → Nat) a + S1x1.size a ≤ S256x10.size a := by
  have h := rowWord_val t g
  have := (boxNo (Ring.bk 64 t.val) g).isLt; have := k.isLt
  intro a; fin_cases a
  · show (rowWord t g).toNat + 1 ≤ 256; omega
  · show k.val + 1 ≤ 10; omega

/-- A load reshaped is the reshaped slice's reading. -/
theorem cast_slice {sp : Space} {s s' : Shape} {e : EltTy} (M : Memref sig .tc sp s e) (off size inb) (h) (h' : Shape.Squeezes ⟨s.rank, size⟩ s')
    (f : M.view.ty.Contents (Elt F)) :
    shapeCast s' (View.readAt (Elt F) M.view (Rect.unit (s := s) off size inb).toLoadRect f) h
      = ((M.slice (Rect.unit (s := s) off size inb) (fun _ => rfl)).squeeze s' h').view.read (Elt F) f := rfl

section Loads
variable (c : Dev nD) (t : Fin cfg0.N) (arg1 : Memref sig .tc .smem S256x10 .f32) (harg1 : arg1.IsWhole)
  (x0 : Vec F S256x10 .f32) (W : BufOf (F := F) c mapsM) (hx : NamesMaps x0)

/-- The ten numbers of box `g`, as loaded; they are the table's row. -/
def loaded (g : Fin 4) : Fin 10 → F .f32 := fun k =>
  View.readAt (Elt F) arg1.view (Rect.unit (s := S256x10) ![(rowWord t g).toNat, k.val] S1x1.size (loadOff_inb t g k)).toLoadRect
    (harg1.unread x0) (Shape.Idx.first (numel1_S1x1.symm ▸ Nat.one_pos))
theorem loaded_eq (g : Fin 4) : loaded t arg1 harg1 x0 g = fun k => x0 (cellIx (boxNo (Ring.bk 64 t.val) g) k) :=
  funext fun k => load_box x0 arg1 harg1 _ _ _ _ k (rowWord_val t g) rfl

/-- The patch of box `g`, as loaded from the slot in which its window has landed: the window. -/
def patchFrom (g : Fin 4) (off : Fin 4 → Nat) (inb : ∀ a, off a + S1x1x80x16384.size a ≤ S2x4x80x16384.size a) : FVec F S80x16384 .bf16 :=
  shapeCast S80x16384 (View.readAt (Elt F) patchM.view (Rect.unit (s := S2x4x80x16384) off S1x1x80x16384.size inb).toLoadRect
    (landed c (wins x0 hx) W (Ring.sl 2 t.val) (Ring.bk 64 t.val) g (slot (Ring.sl 2 t.val) g).view.junk)) shapeCasts_S1x1x80x16384_S80x16384
theorem patchFrom_eq (g : Fin 4) (off : Fin 4 → Nat) (inb) (e : off = ![(Ring.sl 2 t.val).val, g.val, 0, 0]) :
    patchFrom c t x0 W hx g off inb = ((wins x0 hx).src (Ring.bk 64 t.val) g).view.read (Elt F) W := by
  subst e
  unfold patchFrom
  refine (cast_slice patchM _ _ _ _ squeezes_S1x1x80x16384_S80x16384 _).trans ?_
  exact View.read_writes_whole (slot (Ring.sl 2 t.val) g).view _ _
def patchOf (g : Fin 4) : FVec F S80x16384 .bf16 := match g with
  | 0 => patchFrom c t x0 W hx 0 (k0_off53 (grid0.coords t)) (k0_off53_inb (grid0.coords t))
  | 1 => patchFrom c t x0 W hx 1 (k0_off70 (grid0.coords t)) (k0_off70_inb (grid0.coords t))
  | 2 => patchFrom c t x0 W hx 2 (k0_off87 (grid0.coords t)) (k0_off87_inb (grid0.coords t))
  | 3 => patchFrom c t x0 W hx 3 (k0_off104 (grid0.coords t)) (k0_off104_inb (grid0.coords t))
theorem patchOf_eq (g : Fin 4) : patchOf c t x0 W hx g = ((wins x0 hx).src (Ring.bk 64 t.val) g).view.read (Elt F) W := by
  fin_cases g
  · exact patchFrom_eq c t x0 W hx 0 _ _ (here_load0_off t)
  · exact patchFrom_eq c t x0 W hx 1 _ _ (here_load1_off t)
  · exact patchFrom_eq c t x0 W hx 2 _ _ (here_load2_off t)
  · exact patchFrom_eq c t x0 W hx 3 _ _ (here_load3_off t)

end Loads

/-- The eight parts of a point's block: of each box one for the first box's mask and one for the second's. -/
def parts (v : Fin 4 → Fin 10 → F .f32) (p : Fin 4 → FVec F S80x16384 .bf16) : List (View.Piece (Elt F) S4x14x14x512 .f32) :=
  [⟨Rect.unit ![3, 0, 0, 256] ![1, 14, 14, 256] inb_S4x14x14x512_S1x14x14x256_3_0_0_256, boxPart (v 3) 6 7 8 9 (p 3)⟩,
   ⟨Rect.unit ![3, 0, 0, 0] ![1, 14, 14, 256] inb_S4x14x14x512_S1x14x14x256_3_0_0_0, boxPart (v 3) 1 2 3 4 (p 3)⟩,
   ⟨Rect.unit ![2, 0, 0, 256] ![1, 14, 14, 256] inb_S4x14x14x512_S1x14x14x256_2_0_0_256, boxPart (v 2) 6 7 8 9 (p 2)⟩,
   ⟨Rect.unit ![2, 0, 0, 0] ![1, 14, 14, 256] inb_S4x14x14x512_S1x14x14x256_2_0_0_0, boxPart (v 2) 1 2 3 4 (p 2)⟩,
   ⟨Rect.unit ![1, 0, 0, 256] ![1, 14, 14, 256] inb_S4x14x14x512_S1x14x14x256_1_0_0_256, boxPart (v 1) 6 7 8 9 (p 1)⟩,
   ⟨Rect.unit ![1, 0, 0, 0] ![1, 14, 14, 256] inb_S4x14x14x512_S1x14x14x256_1_0_0_0, boxPart (v 1) 1 2 3 4 (p 1)⟩,
   ⟨Rect.unit ![0, 0, 0, 256] ![1, 14, 14, 256] inb_S4x14x14x512_S1x14x14x256_0_0_0_256, boxPart (v 0) 6 7 8 9 (p 0)⟩,
   ⟨Rect.unit ![0, 0, 0, 0] ![1, 14, 14, 256] inb_S4x14x14x512_S1x14x14x256_0_0_0_0, boxPart (v 0) 1 2 3 4 (p 0)⟩]

section Runs
variable (c : Dev nD) (t : Fin cfg0.N) (arg1 : Memref sig .tc .smem S256x10 .f32) (harg1 : arg1.IsWhole) (arg3 : Memref sig .tc .vmem S4x14x14x512 .f32) (harg3 : arg3.IsWhole)
  (x0 : Vec F S256x10 .f32) (W : BufOf (F := F) c mapsM) (hx : NamesMaps x0)

theorem partsA (h0 : isFirst (grid0.coords t)) (h1 : hasNext (grid0.coords t)) :
    (runA c t arg1 harg1 arg3 harg3 h0 h1 x0 W hx).1 = parts (loaded t arg1 harg1 x0) (patchOf c t x0 W hx) := rfl
theorem partsB (h0 : ¬isFirst (grid0.coords t)) (h1 : hasNext (grid0.coords t)) :
    (runB c t arg1 harg1 arg3 harg3 h0 h1 x0 W hx).1 = parts (loaded t arg1 harg1 x0) (patchOf c t x0 W hx) := rfl
theorem partsC (h0 : ¬isFirst (grid0.coords t)) (h1 : ¬hasNext (grid0.coords t)) :
    (runC c t arg1 harg1 arg3 harg3 h0 h1 x0 W hx).1 = parts (loaded t arg1 harg1 x0) (patchOf c t x0 W hx) := rfl
end Runs

end Cert.Kernel.Roi

end
-- ==== Proof.Kernel.Block.lean ====
/- The kernel's output as a function of the boxes and the maps, element by element. -/
module

public import proofs.«01_k».proof.Proof.Kernel.Pieces
public import proofs.«01_k».proof.Proof.Kernel.Entry
public import Idealize.ShloMosaic.Lib.WritesUnit
public import Idealize.ShloMosaic.Lib.ValueIdxCore
public import Idealize.ShloMosaic.Lib.Pipeline.ValueKit

@[expose] public section

set_option maxRecDepth 16384

noncomputable section

namespace Cert.Kernel.Roi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The output, element by element -/

section Out
variable (x0 : Vec F S256x10 .f32) (hx : NamesMaps x0) (W : FVec F S4x200x51200 .bf16)

/-- Box `j`'s ten numbers. -/
def cellsOf (j : Fin 256) : Fin 10 → F .f32 := fun k => x0 (cellIx j k)
/-- Where the window of box `j` starts on the maps. -/
def winOff (j : Fin 256) : Fin 3 → Nat := k0_off1 (mapW x0 j) (rowW x0 j) (colW x0 j)
include hx in
theorem winOff_inb (j : Fin 256) : ∀ a, winOff x0 j a + S1x80x16384.size a ≤ S4x200x51200.size a := win_inb _ _ _ (hx j)
/-- The window of box `j`. -/
def windowOf (j : Fin 256) : FVec F S80x16384 .bf16 := fun i =>
  W (ValueIdx.ix3 ⟨winOff x0 j 0, winOff_inb x0 hx j 0⟩
    ⟨winOff x0 j 1 + (i 0).val, by have h : winOff x0 j 1 + 80 ≤ 200 := winOff_inb x0 hx j 1; have h' : (i 0).val < 80 := (i 0).isLt; omega⟩
    ⟨winOff x0 j 2 + (i 1).val, by have h : winOff x0 j 2 + 16384 ≤ 51200 := winOff_inb x0 hx j 2; have h' : (i 1).val < 16384 := (i 1).isLt; omega⟩)
/-- A box's part for the first or the second mask. -/
def half (v : Fin 10 → F .f32) (p : FVec F S80x16384 .bf16) (n : Nat) : FVec F S1x14x14x256 .f32 :=
  if n = 0 then boxPart v 1 2 3 4 p else boxPart v 6 7 8 9 p
/-- The whole output. -/
def outVal : FVec F S256x14x14x512 .f32 := fun i =>
  half (cellsOf x0 (i 0)) (windowOf x0 hx W (i 0)) ((i 3).val / 256) (ValueIdx.ix4 0 (i 1) (i 2) ⟨(i 3).val % 256, Nat.mod_lt _ (by decide)⟩)
end Out

/-- The windows that the copies name. -/
theorem src_read (c : Dev nD) (x0 : Vec F S256x10 .f32) (hx : NamesMaps x0) (W : BufOf (F := F) c mapsM) (b : Fin 64) (g : Fin 4) :
    ((wins x0 hx).src b g).view.read (Elt F) W = windowOf x0 hx W (boxNo b g) := by
  refine (cast_slice mapsM (winOff x0 (boxNo b g)) S1x80x16384.size (winOff_inb x0 hx _) (show S1x80x16384.ShapeCasts S80x16384 by decide) squeezes_S1x80x16384_S80x16384 W).symm.trans ?_
  funext i
  refine (shapeCast_apply (s := S1x80x16384) (t := S80x16384) _ _ i (ValueIdx.ix3 (0 : Fin 1) (i 0) (i 1)) (by rw [Shape.rowMajor_val_two, Shape.rowMajor_val_three]; show (0 * 80 + (i 0).val) * 16384 + (i 1).val = _; rw [Nat.zero_mul, Nat.zero_add]; rfl)).trans ?_
  rw [View.readAt_apply]
  unfold windowOf
  show W _ = W _
  congr 1
  funext a
  apply Fin.ext
  fin_cases a
  · show winOff x0 (boxNo b g) 0 + 1 * 0 = _; rfl
  · show winOff x0 (boxNo b g) 1 + 1 * (i 0).val = _; rw [Nat.one_mul]
  · show winOff x0 (boxNo b g) 2 + 1 * (i 1).val = _; rw [Nat.one_mul]

/-- The eight parts, read back at an element. -/
theorem parts_read (f : VO.ty.Contents (Elt F)) (v : Fin 4 → Fin 10 → F .f32) (p : Fin 4 → FVec F S80x16384 .bf16) (g : Fin 4) (y x : Fin 14) (n : Fin 2) (q : Fin 256) :
    VO.read (Elt F) (VO.writes (Elt F) f (parts v p)) (ValueIdx.ix4 g y x (⟨256 * n.val + q.val, by omega⟩ : Fin 512)) = half (v g) (p g) n.val (ValueIdx.ix4 (0 : Fin 1) y x q) := by
  have hq := q.isLt
  have key : ∀ n : Fin 2, half (v g) (p g) n.val = if n = 0 then boxPart (v g) 1 2 3 4 (p g) else boxPart (v g) 6 7 8 9 (p g) := by
    intro n; fin_cases n <;> rfl
  rw [key]
  clear key
  unfold parts
  fin_cases g <;> fin_cases n <;> (first | rw [if_pos (by rfl)] | rw [if_neg (by decide)]) <;>
    repeat (first
      | refine (View.read_writes_cons_unit_of_not_mem VO _ _ _ _ _ rfl 0 (by first | exact Or.inl (Nat.le_of_ble_eq_true rfl) | exact Or.inr (Nat.le_of_ble_eq_true rfl))).trans ?_
      | refine (View.read_writes_cons_unit_of_not_mem VO _ _ _ _ _ rfl 3 (by first | exact Or.inl (show 256 * 0 + q.val < 256 by omega) | exact Or.inr (show 0 + 256 ≤ 256 * 1 + q.val by omega))).trans ?_
      | exact View.read_writes_cons_unit_of_mem VO _ _ _ _ _ (ValueIdx.ix4 (0 : Fin 1) y x q) rfl (fun a => by fin_cases a <;> first | rfl | exact (Nat.zero_add _).symm | exact congrArg (· + q.val) (by rfl)))

section Array
variable (m : (ℓ : Loc nD τ sig) → Buf (Elt F) ℓ) (hx : ∀ c, NamesMaps (boxes m c))

/-- Whichever branch a point takes, it writes the eight parts. -/
theorem pieces_eq (c : Dev nD) (t : Fin cfg0.N) : blockPieces m hx c t
    = parts (fun g => cellsOf (boxes m c) (boxNo (Ring.bk 64 t.val) g)) (fun g => windowOf (boxes m c) (hx c) (maps m c) (boxNo (Ring.bk 64 t.val) g)) := by
  have e1 : loaded t (msBox t) (hsBox t) (boxes m c) = fun g => cellsOf (boxes m c) (boxNo (Ring.bk 64 t.val) g) := funext fun g => loaded_eq t _ _ _ g
  have e2 : patchOf c t (boxes m c) (maps m c) (hx c) = fun g => windowOf (boxes m c) (hx c) (maps m c) (boxNo (Ring.bk 64 t.val) g) :=
    funext fun g => (patchOf_eq c t _ _ _ g).trans (src_read c _ _ _ _ _)
  rw [← e1, ← e2]
  unfold blockPieces
  by_cases h0 : isFirst (grid0.coords t)
  · rw [piecesAt_A c t _ _ _ _ _ _ _ h0 (hasNext_of_first t h0)]; exact partsA c t _ _ _ _ _ _ _ _ _
  · by_cases h1 : hasNext (grid0.coords t)
    · rw [piecesAt_B c t _ _ _ _ _ _ _ h0 h1]; exact partsB c t _ _ _ _ _ _ _ _ _
    · rw [piecesAt_C c t _ _ _ _ _ _ _ h0 h1]; exact partsC c t _ _ _ _ _ _ _ _ _

theorem outAt_apply (c : Dev nD) (t : Fin cfg0.N) (g : Fin 4) (y x : Fin 14) (ch : Fin 512) :
    outAt m hx c t (ValueIdx.ix4 g y x ch) = outVal (boxes m c) (hx c) (maps m c) (ValueIdx.ix4 (boxNo (Ring.bk 64 t.val) g) y x ch) := by
  unfold outAt
  rw [pieces_eq]
  have h := parts_read VO.junk (fun g => cellsOf (boxes m c) (boxNo (Ring.bk 64 t.val) g)) (fun g => windowOf (boxes m c) (hx c) (maps m c) (boxNo (Ring.bk 64 t.val) g))
    g y x ⟨ch.val / 256, by omega⟩ ⟨ch.val % 256, Nat.mod_lt _ (by decide)⟩
  have e : (⟨256 * (ch.val / 256) + ch.val % 256, by omega⟩ : Fin 512) = ch := Fin.ext (Nat.div_add_mod ch.val 256)
  simp only [e] at h
  exact h

/-- The output array after the run. -/
theorem array_eq (c : Dev nD) : (dats m hx 0 c).arrAt 1 (cfgs 0).N = outVal (boxes m c) (hx c) (maps m c) := by
  refine (dats m hx 0 c).arrAt_eq_of_covers 1 _ (by decide +kernel) fun t hf y => ?_
  rw [after0_1]
  rw [cast_eq]
  have hN : t.val < 64 := lt_of_lt_of_eq t.isLt N_0
  have e : (cfg0.win 1).xinj (cfg0.grid.coords t) y = ValueIdx.ix4 (n0 := 4) (n1 := 14) (n2 := 14) (n3 := 512) (y 0) (y 1) (y 2) (y 3) := by
    funext a; fin_cases a <;> rfl
  have e' : ((cfg0.win 1).blk t).view.emb y = ValueIdx.ix4 (n0 := 256) (n1 := 14) (n2 := 14) (n3 := 512) (boxNo (Ring.bk 64 t.val) (y 0)) (y 1) (y 2) (y 3) := by
    have hi : ∀ t : Fin cfg0.N, win0_1.index t 0 = (Ring.bk 64 t.val).val := by decide +kernel
    funext a
    apply Fin.ext
    refine (Pipeline.Window.rect_emb_val (cfg0.win 1) t y a rfl).trans ?_
    fin_cases a
    · show win0_1.index t 0 * 4 + (y 0).val = 4 * (Ring.bk 64 t.val).val + (y 0).val
      rw [hi]; omega
    · show 0 * 14 + (y 1).val = (y 1).val; omega
    · show 0 * 14 + (y 2).val = (y 2).val; omega
    · show 0 * 512 + (y 3).val = (y 3).val; omega
  rw [e, e']
  exact outAt_apply m hx c t _ _ _ _

/-- The result after the run: the output array with its axes in the caller's order. -/
theorem tail_eq (c : Dev nD) : Pipeline.afterTail₀ cfgs (dats m hx) 0 (V0 m) [hostOps1] c main_v5
    = transpose S256x512x14x14 [0, 3, 1, 2] (outVal (boxes m c) (hx c) (maps m c)) transposes_S256x14x14x512_S256x512x14x14_0_3_1_2 := by
  unfold Pipeline.afterTail₀
  simp only [List.flatten_cons, List.flatten_nil, List.append_nil]
  after_results
  rw [← array_eq m hx c]
  exact congrArg (fun z => transpose S256x512x14x14 [0, 3, 1, 2] z transposes_S256x14x14x512_S256x512x14x14_0_3_1_2)
    (Pipeline.Dat.withArrays_arrAt (dats m hx 0 c) (by decide) (V0 m c) (A_eq m hx c) 1)

/-- The run's result: the caller's arrays as they were, and the output. -/
theorem run_value (ρ : Dev nD → PrngReg) : θ_run defs (onTc (τ := τ) (main (F := F))) ⟨m, fun _ => 0, ρ⟩ (fun r => ∀ c : Dev nD,
    r.2.mem ((c.tc : Thread nD τ).loc main_v5) = transpose S256x512x14x14 [0, 3, 1, 2] (outVal (boxes m c) (hx c) (maps m c)) transposes_S256x14x14x512_S256x512x14x14_0_3_1_2) :=
  (θ_run defs _ _).mono (fun _ h c => ((h c).2 main_v5 (Pipeline.mem_restRefs_of main_v5 (by decide) (by decide))).trans (tail_eq m hx c)) (run_main m ρ hx)

end Array

end Cert.Kernel.Roi

end
-- ==== Proof.Value.Axis.lean ====
/- One axis of the pooling over the extended reals: the two cells a sampling place lies between, the weights it gives them, and a
   weighted sum over a stretch of cells. -/
module

public import Idealize.ShloMosaic.PureOps.Ideal
public import Idealize.ShloMosaic.PureOps.Ideal.Laws

@[expose] public section

noncomputable section

namespace Cert.Value

open Idealize.ShloMosaic

/-! ## The numbers the two programs write down -/

theorem c_quarter : Ideal.ofBits .f32 0x3E800000#32 = ((1 / 4 : ℝ) : EReal) := by simp [Ideal.ofBits, Ideal.ieee, -EReal.coe_mul]; norm_num
theorem c_half : Ideal.ofBits .f32 0x3F000000#32 = ((1 / 2 : ℝ) : EReal) := by simp [Ideal.ofBits, Ideal.ieee, -EReal.coe_mul]; norm_num
theorem c_three_quarters : Ideal.ofBits .f32 0x3F400000#32 = ((3 / 4 : ℝ) : EReal) := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_four : Ideal.ofBits .f32 0x40800000#32 = ((4 : ℝ) : EReal) := by simp [Ideal.ofBits, Ideal.ieee, -EReal.coe_mul]; norm_num
theorem c_fourteen : Ideal.ofBits .f32 0x41600000#32 = ((14 : ℝ) : EReal) := by simp [Ideal.ofBits, Ideal.ieee, -EReal.coe_mul]; norm_num
theorem c_last : Ideal.ofBits .f32 0x43470000#32 = ((199 : ℝ) : EReal) := by simp [Ideal.ofBits, Ideal.ieee, -EReal.coe_mul]; norm_num
theorem c_count : Ideal.ofBits .f32 0x43480000#32 = ((200 : ℝ) : EReal) := by simp [Ideal.ofBits, Ideal.ieee, -EReal.coe_mul]; norm_num
theorem c_minus : Ideal.ofBits .f32 0xBF800000#32 = ((-1 : ℝ) : EReal) := by simp [Ideal.ofBits, Ideal.ieee, -EReal.coe_mul]; norm_num
theorem c_span : Ideal.ofBits .f32 0x437C0000#32 = ((252 : ℝ) : EReal) := by simp [Ideal.ofBits, Ideal.ieee, -EReal.coe_mul]; norm_num
theorem c_top : Ideal.ofBits .f32 0x7F800000#32 = ⊤ := by simp [Ideal.ofBits, Ideal.ieee]
theorem c_bot : Ideal.ofBits .f32 0xFF800000#32 = ⊥ := by simp [Ideal.ofBits, Ideal.ieee]

/-! ## Sums with nonnegative real factors -/

theorem real_mul_add {c : ℝ} (hc : 0 ≤ c) (a b : EReal) : (c : EReal) * (a + b) = c * a + c * b :=
  EReal.left_distrib_of_nonneg_of_ne_top (by exact_mod_cast hc) (EReal.coe_ne_top c) a b

theorem add_mul_real {c d : ℝ} (hc : 0 ≤ c) (hd : 0 ≤ d) (a : EReal) : ((c + d : ℝ) : EReal) * a = c * a + d * a := by
  rw [EReal.coe_add]
  exact EReal.right_distrib_of_nonneg (by exact_mod_cast hc) (by exact_mod_cast hd)

theorem real_mul_sum {ι : Type*} {c : ℝ} (hc : 0 ≤ c) (s : Finset ι) (f : ι → EReal) : (c : EReal) * ∑ i ∈ s, f i = ∑ i ∈ s, (c : EReal) * f i := by
  classical
  induction s using Finset.induction_on with
  | empty => simp
  | insert a s ha ih => rw [Finset.sum_insert ha, Finset.sum_insert ha, real_mul_add hc, ih]

/-- Scaling two numbers by a quarter and subtracting is subtracting and scaling. -/
theorem sub_mul_quarter (a b : EReal) : (a - b) * ((1 / 4 : ℝ) : EReal) = a * ((1 / 4 : ℝ) : EReal) - b * ((1 / 4 : ℝ) : EReal) := by
  have h : (0 : ℝ) ≤ 1 / 4 := by norm_num
  rw [sub_eq_add_neg, sub_eq_add_neg, mul_comm, real_mul_add h, mul_comm a, mul_comm b, ← mul_neg]

/-! ## A sampling place on an axis of two hundred cells -/

/-- The place in its bins: `u` bins past the box's start. -/
def place (lo hi : EReal) (u : ℝ) : EReal :=
  lo * ((1 / 4 : ℝ) : EReal) + (u : EReal) * Ideal.div (max ((hi - lo) * ((1 / 4 : ℝ) : EReal)) 1) ((14 : ℝ) : EReal)

/-- The place held on the axis, the cell before it, the cell after it, how far it is past the former, and whether it counts. -/
def held (x : EReal) : EReal := min ((199 : ℝ) : EReal) (max 0 x)
def heldR (x : EReal) : ℝ := (held x).toReal
def cell (x : EReal) : ℕ := ⌊heldR x⌋₊
def next (x : EReal) : ℕ := min (cell x + 1) 199
def far (x : EReal) : ℝ := heldR x - cell x
open Classical in
def counts (x : EReal) : ℝ := if ((-1 : ℝ) : EReal) < x ∧ x < ((200 : ℝ) : EReal) then 1 else 0

theorem held_range (x : EReal) : 0 ≤ held x ∧ held x ≤ ((199 : ℝ) : EReal) :=
  ⟨le_min (by exact_mod_cast (by norm_num : (0 : ℝ) ≤ 199)) (le_max_left _ _), min_le_left _ _⟩
theorem held_real (x : EReal) : held x = (heldR x : EReal) := by
  obtain ⟨h0, h1⟩ := held_range x
  exact (EReal.coe_toReal (ne_top_of_le_ne_top (EReal.coe_ne_top _) h1) (ne_bot_of_le_ne_bot (EReal.coe_ne_bot 0) (by exact_mod_cast h0))).symm
theorem heldR_range (x : EReal) : 0 ≤ heldR x ∧ heldR x ≤ 199 := by
  obtain ⟨h0, h1⟩ := held_range x
  rw [held_real] at h0 h1
  exact ⟨by exact_mod_cast h0, by exact_mod_cast h1⟩
theorem cell_le (x : EReal) : cell x ≤ 199 := by
  have := (heldR_range x).2
  exact Nat.floor_le_of_le (by exact_mod_cast this)
theorem next_le (x : EReal) : next x ≤ 199 := min_le_right _ _
theorem far_range (x : EReal) : 0 ≤ far x ∧ far x ≤ 1 := by
  have h := Nat.floor_le (heldR_range x).1
  have h' := Nat.lt_floor_add_one (heldR x)
  unfold far cell
  constructor <;> linarith
theorem counts_cases (x : EReal) : counts x = 0 ∨ counts x = 1 := by unfold counts; split <;> simp
theorem counts_nonneg (x : EReal) : 0 ≤ counts x := by rcases counts_cases x with h | h <;> rw [h] <;> norm_num

theorem floor_held (x : EReal) : Ideal.liftRound Int.floor (held x) = ((cell x : ℝ) : EReal) := by
  rw [held_real, Ideal.liftRound_coe]
  have : ((⌊heldR x⌋₊ : ℕ) : ℤ) = ⌊heldR x⌋ := Int.natCast_floor_eq_floor (heldR_range x).1
  unfold cell
  rw [← this]; norm_cast
theorem held_sub (x : EReal) : held x - ((cell x : ℝ) : EReal) = (far x : EReal) := by
  rw [held_real, ← EReal.coe_sub]; rfl
theorem one_sub_far (x : EReal) : 1 - (far x : EReal) = ((1 - far x : ℝ) : EReal) := by
  rw [EReal.coe_sub, EReal.coe_one]
theorem next_eq (x : EReal) : min (((cell x : ℝ) : EReal) + 1) ((199 : ℝ) : EReal) = ((next x : ℝ) : EReal) := by
  unfold next
  rw [← EReal.coe_one, ← EReal.coe_add, ← (EReal.coe_strictMono.monotone.map_min (a := ((cell x : ℝ) + 1)) (b := 199))]
  push_cast; rfl

/-! ## The weights of a place, and sums by them -/

open Classical in
/-- The weight a place gives cell `k` of the stretch that starts at cell `st`. -/
def weight (x : EReal) (st k : ℕ) : ℝ :=
  ((if (k : ℤ) = (cell x : ℤ) - st then 1 else 0) * (1 - far x) + (if (k : ℤ) = (next x : ℤ) - st then 1 else 0) * far x) * counts x
/-- What a place reads of a line of numbers. -/
def read (x : EReal) (g : ℕ → EReal) : EReal :=
  (counts x : EReal) * (((1 - far x : ℝ) : EReal) * g (cell x) + ((far x : ℝ) : EReal) * g (next x))

theorem ind_sum (W st n : ℕ) (g : ℕ → EReal) (h : st ≤ n ∧ n < st + W) :
    ∑ k : Fin W, (((if ((k : ℕ) : ℤ) = (n : ℤ) - st then 1 else 0 : ℝ)) : EReal) * g (st + k) = g n := by
  rw [Finset.sum_eq_single (⟨n - st, by omega⟩ : Fin W)]
  · rw [if_pos (by push_cast; omega), EReal.coe_one, one_mul]; congr 1; simp only; omega
  · intro k _ hk
    rw [if_neg, EReal.coe_zero, zero_mul]
    intro e
    exact hk (Fin.ext (by simp only; omega))
  · intro h'; exact absurd (Finset.mem_univ _) h'

theorem weight_nonneg (x : EReal) (st k : ℕ) : 0 ≤ weight x st k := by
  obtain ⟨h0, h1⟩ := far_range x
  unfold weight
  refine mul_nonneg (add_nonneg (mul_nonneg ?_ (by linarith)) (mul_nonneg ?_ h0)) (counts_nonneg x) <;> split <;> norm_num

/-- The sum by a place's weights is what the place reads, if the stretch has both its cells. -/
theorem weight_sum (x : EReal) (W st : ℕ) (g : ℕ → EReal) (h : counts x ≠ 0 → st ≤ cell x ∧ next x < st + W) :
    ∑ k : Fin W, (weight x st k : EReal) * g (st + k) = read x g := by
  obtain ⟨h0, h1⟩ := far_range x
  rcases counts_cases x with hc | hc
  · simp only [weight, read, hc, mul_zero, EReal.coe_zero, zero_mul, Finset.sum_const_zero]
  · obtain ⟨ha, hb⟩ := h (by rw [hc]; norm_num)
    have hn : cell x ≤ next x := le_min (Nat.le_succ _) (cell_le x)
    have e : ∀ k : Fin W, (weight x st k : EReal) * g (st + k)
        = ((1 - far x : ℝ) : EReal) * ((((if ((k : ℕ) : ℤ) = (cell x : ℤ) - st then 1 else 0 : ℝ)) : EReal) * g (st + k))
          + ((far x : ℝ) : EReal) * ((((if ((k : ℕ) : ℤ) = (next x : ℤ) - st then 1 else 0 : ℝ)) : EReal) * g (st + k)) := by
      intro k
      have i0 : ∀ p : Prop, [Decidable p] → (0 : ℝ) ≤ if p then 1 else 0 := fun p _ => by split <;> norm_num
      rw [← mul_assoc, ← mul_assoc, ← EReal.coe_mul, ← EReal.coe_mul, ← add_mul_real (mul_nonneg (by linarith) (i0 _)) (mul_nonneg h0 (i0 _))]
      unfold weight
      rw [hc]
      congr 2
      ring_nf
    rw [Finset.sum_congr rfl fun k _ => e k, Finset.sum_add_distrib, ← real_mul_sum (by linarith), ← real_mul_sum h0,
      ind_sum W st _ g ⟨ha, by omega⟩, ind_sum W st _ g ⟨by omega, hb⟩, read, hc, EReal.coe_one, one_mul]

/-- The mean of two places' weights sums to the mean of what they read. -/
theorem mean_sum (x y : EReal) (W st : ℕ) (g : ℕ → EReal) (hx : counts x ≠ 0 → st ≤ cell x ∧ next x < st + W)
    (hy : counts y ≠ 0 → st ≤ cell y ∧ next y < st + W) :
    ∑ k : Fin W, (((weight x st k + weight y st k) * (1 / 2) : ℝ) : EReal) * g (st + k) = ((1 / 2 : ℝ) : EReal) * (read x g + read y g) := by
  have h : (0 : ℝ) ≤ 1 / 2 := by norm_num
  rw [← weight_sum x W st g hx, ← weight_sum y W st g hy, ← Finset.sum_add_distrib, real_mul_sum h]
  refine Finset.sum_congr rfl fun k _ => ?_
  rw [← add_mul_real (weight_nonneg x st k) (weight_nonneg y st k), ← mul_assoc, ← EReal.coe_mul, mul_comm (1 / 2 : ℝ)]

theorem read_mean (x : EReal) (a b : ℕ → EReal) :
    read x (fun k => ((1 / 2 : ℝ) : EReal) * (a k + b k)) = ((1 / 2 : ℝ) : EReal) * (read x a + read x b) := by
  obtain ⟨h0, h1⟩ := far_range x
  have h : (0 : ℝ) ≤ 1 / 2 := by norm_num
  have h1' : 0 ≤ 1 - far x := by linarith
  have hc := counts_nonneg x
  unfold read
  rw [← real_mul_add hc]
  have c : ∀ p q : EReal, ((1 - far x : ℝ) : EReal) * (((1 / 2 : ℝ) : EReal) * p) + (far x : EReal) * (((1 / 2 : ℝ) : EReal) * q)
      = ((1 / 2 : ℝ) : EReal) * (((1 - far x : ℝ) : EReal) * p + (far x : EReal) * q) := fun p q => by
    rw [real_mul_add h, mul_left_comm, mul_left_comm (far x : EReal)]
  rw [c, mul_left_comm, real_mul_add h1', real_mul_add h0, add_add_add_comm]

/-- What a place on each of two axes reads of a plane, the four cells' numbers weighted one by one. -/
theorem read_read (y x : EReal) (G : ℕ → ℕ → EReal) :
    read x (fun c => read y (fun r => G r c))
      = (((1 - far y : ℝ) : EReal) * ((1 - far x : ℝ) : EReal) * G (cell y) (cell x)
          + ((1 - far y : ℝ) : EReal) * (far x : EReal) * G (cell y) (next x)
          + (far y : EReal) * ((1 - far x : ℝ) : EReal) * G (next y) (cell x)
          + (far y : EReal) * (far x : EReal) * G (next y) (next x)) * ((counts y * counts x : ℝ) : EReal) := by
  obtain ⟨hy0, hy1⟩ := far_range y
  obtain ⟨hx0, hx1⟩ := far_range x
  have hy : 0 ≤ 1 - far y := by linarith
  have hx : 0 ≤ 1 - far x := by linarith
  have cy := counts_nonneg y
  have cx := counts_nonneg x
  unfold read
  dsimp only
  generalize G (cell y) (cell x) = g00
  generalize G (cell y) (next x) = g01
  generalize G (next y) (cell x) = g10
  generalize G (next y) (next x) = g11
  rw [mul_comm _ ((counts y * counts x : ℝ) : EReal)]
  simp only [real_mul_add hy, real_mul_add hx, real_mul_add hy0, real_mul_add hx0, real_mul_add cy, real_mul_add cx, real_mul_add (mul_nonneg cy cx)]
  simp only [← mul_assoc, ← EReal.coe_mul]
  have e1 : counts x * (1 - far x) * counts y * (1 - far y) = counts y * counts x * (1 - far y) * (1 - far x) := by ring
  have e2 : counts x * (1 - far x) * counts y * far y = counts y * counts x * far y * (1 - far x) := by ring
  have e3 : counts x * far x * counts y * (1 - far y) = counts y * counts x * (1 - far y) * far x := by ring
  have e4 : counts x * far x * counts y * far y = counts y * counts x * far y * far x := by ring
  rw [e1, e2, e3, e4, add_assoc, add_assoc, add_assoc, add_left_comm (_ * g10)]

/-- Pooling by the two axes' mean weights is the mean of what the four pairs of places read. -/
theorem pool_eq (y0 y1 x0 x1 : EReal) (R C rs cs : ℕ) (G : ℕ → ℕ → EReal)
    (hy0 : counts y0 ≠ 0 → rs ≤ cell y0 ∧ next y0 < rs + R) (hy1 : counts y1 ≠ 0 → rs ≤ cell y1 ∧ next y1 < rs + R)
    (hx0 : counts x0 ≠ 0 → cs ≤ cell x0 ∧ next x0 < cs + C) (hx1 : counts x1 ≠ 0 → cs ≤ cell x1 ∧ next x1 < cs + C) :
    ∑ k : Fin C, (((weight x0 cs k + weight x1 cs k) * (1 / 2) : ℝ) : EReal)
        * ∑ r : Fin R, (((weight y0 rs r + weight y1 rs r) * (1 / 2) : ℝ) : EReal) * G (rs + r) (cs + k)
      = Ideal.div ((read x0 (fun c => read y0 (fun r => G r c)) + read x1 (fun c => read y0 (fun r => G r c)))
          + (read x0 (fun c => read y1 (fun r => G r c)) + read x1 (fun c => read y1 (fun r => G r c)))) ((4 : ℝ) : EReal) := by
  have h : (0 : ℝ) ≤ 1 / 2 := by norm_num
  have inner : ∀ k : Fin C, ∑ r : Fin R, (((weight y0 rs r + weight y1 rs r) * (1 / 2) : ℝ) : EReal) * G (rs + r) (cs + k)
      = (fun c => ((1 / 2 : ℝ) : EReal) * (read y0 (fun r => G r c) + read y1 (fun r => G r c))) (cs + k) :=
    fun k => mean_sum y0 y1 R rs (fun r => G r (cs + k)) hy0 hy1
  rw [Finset.sum_congr rfl fun k _ => by rw [inner k],
    mean_sum x0 x1 C cs (fun c => ((1 / 2 : ℝ) : EReal) * (read y0 (fun r => G r c) + read y1 (fun r => G r c))) hx0 hx1, read_mean, read_mean, ← real_mul_add h, ← mul_assoc,
    ← EReal.coe_mul, Ideal.div_coe (by norm_num), mul_comm]
  congr 1
  · exact (add_add_add_comm _ _ _ _)
  · norm_num

end Cert.Value

end
-- ==== Proof.Value.Gather.lean ====
/- The reference's reads of the maps by words, and its sum over a bin's four places. -/
module

public import proofs.«01_k».proof.Proof.Gen.ReferenceIdeal.Run
public import proofs.«01_k».proof.Proof.Value.Axis
public import Idealize.ShloMosaic.Lib.Pointwise

@[expose] public section

set_option maxRecDepth 16384

noncomputable section

namespace Cert.Value

open Cert.ReferenceIdeal Cert.ReferenceIdeal.Gen Cert.ReferenceIdeal.Value
open Idealize.ShloMosaic

/-- The dimension numbers of the reads: map, row and column are named by three words, the channel is whole. -/
abbrev takeDims := gather_S4x256x200x200_S256x14x2x14x2x3_S256x14x2x14x2x256_5_023_n_n_023_5_125611

section
variable (i : IVec S256x14x2x14x2x3 32) (j : Fin 256) (p : Fin 14) (s : Fin 2) (p' : Fin 14) (s' : Fin 2) (c : Fin 256)

theorem take_word (q : Fin takeDims.startIndexMap.length) :
    takeDims.siIdx (ix6 j p s p' s' c) q = ix6 j p s p' s' (⟨q.val, q.isLt⟩ : Fin 3) := by
  funext b
  apply Fin.ext
  match b with
  | ⟨0, _⟩ => rfl
  | ⟨1, _⟩ => rfl
  | ⟨2, _⟩ => rfl
  | ⟨3, _⟩ => rfl
  | ⟨4, _⟩ => rfl
  | ⟨5, _⟩ => rfl

/-- A word that names a place in range is that place. -/
theorem word_named (n lim : ℕ) (h : n ≤ lim) (hl : lim < 2 ^ 31) : min (BitVec.ofNat 32 n).toInt.toNat lim = n := by
  have : (BitVec.ofNat 32 n).toInt = (n : ℤ) := by rw [BitVec.toInt_eq_toNat_cond, BitVec.toNat_ofNat]; split <;> omega
  rw [this, Int.toNat_natCast]; exact min_eq_left h

/-- A read whose three words name a map, a row and a column in range reads there. -/
theorem take_at {α : Type} (x : S4x256x200x200.Idx → α) (b r k : ℕ) (hb : b < 4) (hr : r < 200) (hk : k < 200)
    (h0 : i (ix6 j p s p' s' 0) = BitVec.ofNat 32 b) (h1 : i (ix6 j p s p' s' 1) = BitVec.ofNat 32 r) (h2 : i (ix6 j p s p' s' 2) = BitVec.ofNat 32 k) :
    Host.gather takeDims x i (ix6 j p s p' s' c) = x (ix4 (⟨b, hb⟩ : Fin 4) c (⟨r, hr⟩ : Fin 200) (⟨k, hk⟩ : Fin 200)) := by
  have col : ∀ a ∈ takeDims.collapsedSliceDims, takeDims.offCoord (ix6 j p s p' s' c) a = 0 := fun a ha =>
    GatherDims.offCoord_eq_zero _ _ _ fun h => ((GatherDims.mem_sKept _ _).1 h).1 ha
  unfold Host.gather
  congr 1
  funext a
  apply Fin.ext
  show takeDims.start (ix6 j p s p' s' c) i a + takeDims.batchCoord (ix6 j p s p' s' c) a + takeDims.offCoord (ix6 j p s p' s' c) a = _
  rw [GatherDims.batchCoord_eq_zero _ _ _ List.not_mem_nil, Nat.add_zero]
  match a with
  | ⟨0, _⟩ =>
    rw [col _ (show (⟨0, by decide⟩ : Fin S4x256x200x200.rank) ∈ takeDims.collapsedSliceDims by decide), Nat.add_zero]
    unfold GatherDims.start
    rw [dif_pos (show (⟨0, by decide⟩ : Fin S4x256x200x200.rank) ∈ takeDims.startIndexMap by decide), take_word]
    exact (congrArg (fun w : BitVec 32 => min w.toInt.toNat 3) h0).trans (word_named b 3 (by omega) (by norm_num))
  | ⟨1, _⟩ =>
    have e : takeDims.start (ix6 j p s p' s' c) i ⟨1, by decide⟩ = 0 := by unfold GatherDims.start; rw [dif_neg (by decide)]
    refine (congrArg (· + _) e).trans ((Nat.zero_add _).trans ?_)
    unfold GatherDims.offCoord
    rw [dif_pos (show (⟨1, by decide⟩ : Fin S4x256x200x200.rank) ∈ takeDims.sKept by decide)]
    rfl
  | ⟨2, _⟩ =>
    rw [col _ (show (⟨2, by decide⟩ : Fin S4x256x200x200.rank) ∈ takeDims.collapsedSliceDims by decide), Nat.add_zero]
    unfold GatherDims.start
    rw [dif_pos (show (⟨2, by decide⟩ : Fin S4x256x200x200.rank) ∈ takeDims.startIndexMap by decide), take_word]
    exact (congrArg (fun w : BitVec 32 => min w.toInt.toNat 199) h1).trans (word_named r 199 (by omega) (by norm_num))
  | ⟨3, _⟩ =>
    rw [col _ (show (⟨3, by decide⟩ : Fin S4x256x200x200.rank) ∈ takeDims.collapsedSliceDims by decide), Nat.add_zero]
    unfold GatherDims.start
    rw [dif_pos (show (⟨3, by decide⟩ : Fin S4x256x200x200.rank) ∈ takeDims.startIndexMap by decide), take_word]
    exact (congrArg (fun w : BitVec 32 => min w.toInt.toNat 199) h2).trans (word_named k 199 (by omega) (by norm_num))
end

/-- The sum over the second and the fourth of the inner axes, which have two places each. -/
theorem sum_places (h : S256x14x2x14x2x256.ReducesTo [2, 4] S256x14x14x256) (v : S256x14x2x14x2x256.Idx → EReal) (init : EReal)
    (j : Fin 256) (p p' : Fin 14) (c : Fin 256) :
    Ideal.hostReduceAdd h v init (ix4 j p p' c)
      = init + ((v (ix6 j p 0 p' 0 c) + v (ix6 j p 0 p' 1 c)) + (v (ix6 j p 1 p' 0 c) + v (ix6 j p 1 p' 1 c))) := by
  have f : ∑ i ∈ Finset.univ.filter (fun i => h.drop i = ix4 j p p' c), v i = ∑ k : Fin 2 × Fin 2, v (ix6 j p k.1 p' k.2 c) := by
    refine Finset.sum_filter_eq_sum_of_fiber _ (fun k : Fin 2 × Fin 2 => ix6 j p k.1 p' k.2 c) (fun a b e => Prod.ext (congrFun e 2) (congrFun e 4)) (fun i => ?_) v
    constructor
    · intro e
      refine ⟨(i 2, i 4), ?_⟩
      funext a; apply Fin.ext
      match a with
      | ⟨0, _⟩ => exact (congrArg Fin.val (congrFun e 0)).symm
      | ⟨1, _⟩ => exact (congrArg Fin.val (congrFun e 1)).symm
      | ⟨2, _⟩ => rfl
      | ⟨3, _⟩ => exact (congrArg Fin.val (congrFun e 2)).symm
      | ⟨4, _⟩ => rfl
      | ⟨5, _⟩ => exact (congrArg Fin.val (congrFun e 3)).symm
    · rintro ⟨k, rfl⟩
      funext b
      apply Fin.ext
      match b with
      | ⟨0, _⟩ => rfl
      | ⟨1, _⟩ => rfl
      | ⟨2, _⟩ => rfl
      | ⟨3, _⟩ => rfl
  show init + ∑ i ∈ Finset.univ.filter (fun i => h.drop i = ix4 j p p' c), v i = _
  rw [f, Fintype.sum_prod_type, Fin.sum_univ_two, Fin.sum_univ_two, Fin.sum_univ_two]

end Cert.Value

end
-- ==== Proof.Value.Axes.lean ====
/- The reference's sampling places over the extended reals: along each axis the place, the two cells and their weights. -/
module

public import proofs.«01_k».proof.Proof.Gen.ReferenceIdeal.Run
public import proofs.«01_k».proof.Proof.Value.Axis
public import Idealize.ShloMosaic.Lib.Pointwise
public import Idealize.ShloMosaic.Lib.Tactic.CleanTypes

@[expose] public section

set_option maxRecDepth 16384

noncomputable section

namespace Cert.Value

open Cert.ReferenceIdeal Cert.ReferenceIdeal.Gen Cert.ReferenceIdeal.Value
open Idealize.ShloMosaic

/-! ## Cells as words -/

theorem word_cell (n : ℕ) (h : n ≤ 199) : Ideal.fptosi 32 ((n : ℝ) : EReal) = BitVec.ofNat 32 n := by
  unfold Ideal.fptosi
  rw [Ideal.toIntClamped_coe, Int.floor_natCast, Int.ceil_natCast, ite_self]
  have : max (-((2 ^ (32 - 1) : ℕ) : ℤ)) (min (((2 ^ (32 - 1) : ℕ) : ℤ) - 1) (n : ℤ)) = (n : ℤ) := by
    rw [min_eq_right (by norm_num; omega), max_eq_right (by norm_num <;> omega)]
  rw [this]; rfl

theorem word_next (n : ℕ) (h : n ≤ 199) : IntOp.minsi (IntOp.addi (BitVec.ofNat 32 n) 1#32) 199#32 = BitVec.ofNat 32 (min (n + 1) 199) := by
  have e : IntOp.addi (BitVec.ofNat 32 n) 1#32 = BitVec.ofNat 32 (n + 1) := (BitVec.ofNat_add n 1).symm
  rw [e]
  have i : (BitVec.ofNat 32 (n + 1)).toInt = ((n + 1 : ℕ) : ℤ) := by
    rw [BitVec.toInt_eq_toNat_cond, BitVec.toNat_ofNat]; split <;> omega
  have c : (BitVec.ofNat 32 (n + 1)).slt 199#32 = decide (n + 1 < 199) := by
    rw [BitVec.slt, i, show (199#32).toInt = 199 by decide]
    exact decide_eq_decide.2 (by omega)
  have c' : (BitVec.ofNat 32 (n + 1)).sle 199#32 = decide (n + 1 ≤ 199) := by
    rw [BitVec.sle, i, show (199#32).toInt = 199 by decide]
    exact decide_eq_decide.2 (by omega)
  simp only [IntOp.minsi, c, c', decide_eq_true_eq]
  split
  · rw [min_eq_left (by omega)]
  · rw [min_eq_right (by omega)]

variable (V0 : Valuation τ sig (Elt Ideal))

/-- The boxes and the maps the reference is given. -/
abbrev rBoxes : S256x2x5.Idx → EReal := V0 (Proc.devRef .tc main_arg1)
abbrev rMaps : S4x256x200x200.Idx → EReal := V0 (Proc.devRef .tc main_arg0)

/-! ## The union box -/

theorem fold_min_two (f : Fin 2 → EReal) : (Finset.univ : Finset (Fin 2)).fold min ⊤ f = min (f 0) (f 1) := by
  rw [show (Finset.univ : Finset (Fin 2)) = {0, 1} by rfl, Finset.fold_insert (by decide), Finset.fold_singleton, min_top_right]
theorem fold_max_two (f : Fin 2 → EReal) : (Finset.univ : Finset (Fin 2)).fold max ⊥ f = max (f 0) (f 1) := by
  rw [show (Finset.univ : Finset (Fin 2)) = {0, 1} by rfl, Finset.fold_insert (by decide), Finset.fold_singleton, max_bot_right]

theorem v5_at (j : Fin 256) : (res_main_v5 V0 (ix1 j) : EReal) = min (rBoxes V0 (ix3 j 0 1)) (rBoxes V0 (ix3 j 1 1)) := by
  rw [← fold_min_two fun x => rBoxes V0 (ix3 j x 1), ← c_top]
  unfold res_main_v5; clean_types; pointwise
theorem v8_at (j : Fin 256) : (res_main_v8 V0 (ix1 j) : EReal) = min (rBoxes V0 (ix3 j 0 2)) (rBoxes V0 (ix3 j 1 2)) := by
  rw [← fold_min_two fun x => rBoxes V0 (ix3 j x 2), ← c_top]
  unfold res_main_v8; clean_types; pointwise
theorem v11_at (j : Fin 256) : (res_main_v11 V0 (ix1 j) : EReal) = max (rBoxes V0 (ix3 j 0 3)) (rBoxes V0 (ix3 j 1 3)) := by
  rw [← fold_max_two fun x => rBoxes V0 (ix3 j x 3), ← c_bot]
  unfold res_main_v11; clean_types; pointwise
theorem v14_at (j : Fin 256) : (res_main_v14 V0 (ix1 j) : EReal) = max (rBoxes V0 (ix3 j 0 4)) (rBoxes V0 (ix3 j 1 4)) := by
  rw [← fold_max_two fun x => rBoxes V0 (ix3 j x 4), ← c_bot]
  unfold res_main_v14; clean_types; pointwise

/-! ## The places -/

/-- How far into its bin a place is. -/
def into (s : Fin 2) : ℝ := if s = 0 then 1 / 4 else 3 / 4

theorem int_nat (n : ℕ) (h : n < 2 ^ 31) : (((BitVec.ofNat 32 n).toInt : ℝ) : EReal) = ((n : ℝ) : EReal) := by
  have : (BitVec.ofNat 32 n).toInt = (n : ℤ) := by rw [BitVec.toInt_eq_toNat_cond, BitVec.toNat_ofNat]; split <;> omega
  rw [this]; norm_cast

/-- The reference's place, from the ends of the box on the map. -/
theorem place_ref (lo hi : EReal) (p : Fin 14) (s : Fin 2) :
    lo * Ideal.ofBits .f32 1048576000#32 + ((((BitVec.ofNat 32 p.val).toInt : ℝ) : EReal)
        + Ideal.div ((((BitVec.ofNat 32 s.val).toInt : ℝ) : EReal) + Ideal.ofBits .f32 1056964608#32) (Ideal.ofBits .f32 1073741824#32))
      * Ideal.div (max (hi * Ideal.ofBits .f32 1048576000#32 - lo * Ideal.ofBits .f32 1048576000#32) 1) (Ideal.ofBits .f32 1096810496#32)
      = place lo hi (p.val + into s) := by
  rw [int_nat _ (by omega), int_nat _ (by omega), c_quarter, c_half, c_two, c_fourteen, ← sub_mul_quarter]
  unfold place
  congr 2
  rw [Ideal.div_coe (by norm_num), ← EReal.coe_add, ← EReal.coe_mul, ← EReal.coe_add]
  congr 2
  unfold into
  fin_cases s <;> norm_num

theorem v42_at (j : Fin 256) (p : Fin 14) (s : Fin 2) :
    (res_main_v42 V0 (ix3 j p s) : EReal) = place (res_main_v8 V0 (ix1 j)) (res_main_v14 V0 (ix1 j)) (p.val + into s) := by
  refine Eq.trans ?_ (place_ref _ _ p s)
  unfold res_main_v42 res_main_v16; clean_types; pointwise
  rfl
theorem v86_at (j : Fin 256) (p : Fin 14) (s : Fin 2) :
    (res_main_v86 V0 (ix3 j p s) : EReal) = place (res_main_v5 V0 (ix1 j)) (res_main_v11 V0 (ix1 j)) (p.val + into s) := by
  refine Eq.trans ?_ (place_ref _ _ p s)
  unfold res_main_v86 res_main_v60; clean_types; pointwise
  rfl

/-! ## The cells and the weights -/

section
variable (i : S256x14x2.Idx)

theorem v48_at : (res_main_v48 V0 i : EReal) = held (res_main_v42 V0 i) := by
  show min (Ideal.ofBits .f32 0x43470000#32) (max (Ideal.ofBits .f32 0x00000000#32) (res_main_v42 V0 i : EReal)) = _
  rw [c_last, Ideal.ofBits_zero_f32]; rfl
theorem v50_at : (res_main_v50 V0 i : BitVec 32) = BitVec.ofNat 32 (cell (res_main_v42 V0 i)) := by
  show Ideal.fptosi 32 (Ideal.liftRound Int.floor (res_main_v48 V0 i : EReal)) = _
  rw [v48_at, floor_held, word_cell _ (cell_le _)]
theorem v54_at : (res_main_v54 V0 i : BitVec 32) = BitVec.ofNat 32 (next (res_main_v42 V0 i)) := by
  show IntOp.minsi (IntOp.addi (res_main_v50 V0 i) 1#32) 199#32 = _
  rw [v50_at, word_next _ (cell_le _)]; rfl
theorem v56_at : (res_main_v56 V0 i : EReal) = (far (res_main_v42 V0 i) : EReal) := by
  show @HSub.hSub EReal EReal EReal _ (res_main_v48 V0 i) (((BitVec.toInt (n := 32) (res_main_v50 V0 i) : ℝ)) : EReal) = _
  rw [v48_at, v50_at, int_nat _ (by have := cell_le (res_main_v42 V0 i); omega), held_sub]
theorem v58_at : (res_main_v58 V0 i : EReal) = ((1 - far (res_main_v42 V0 i) : ℝ) : EReal) := by
  show @HSub.hSub EReal EReal EReal _ (Ideal.ofBits .f32 0x3F800000#32) (res_main_v56 V0 i) = _
  rw [v56_at, Ideal.ofBits_one_f32, one_sub_far]

theorem v92_at : (res_main_v92 V0 i : EReal) = held (res_main_v86 V0 i) := by
  show min (Ideal.ofBits .f32 0x43470000#32) (max (Ideal.ofBits .f32 0x00000000#32) (res_main_v86 V0 i : EReal)) = _
  rw [c_last, Ideal.ofBits_zero_f32]; rfl
theorem v94_at : (res_main_v94 V0 i : BitVec 32) = BitVec.ofNat 32 (cell (res_main_v86 V0 i)) := by
  show Ideal.fptosi 32 (Ideal.liftRound Int.floor (res_main_v92 V0 i : EReal)) = _
  rw [v92_at, floor_held, word_cell _ (cell_le _)]
theorem v98_at : (res_main_v98 V0 i : BitVec 32) = BitVec.ofNat 32 (next (res_main_v86 V0 i)) := by
  show IntOp.minsi (IntOp.addi (res_main_v94 V0 i) 1#32) 199#32 = _
  rw [v94_at, word_next _ (cell_le _)]; rfl
theorem v100_at : (res_main_v100 V0 i : EReal) = (far (res_main_v86 V0 i) : EReal) := by
  show @HSub.hSub EReal EReal EReal _ (res_main_v92 V0 i) (((BitVec.toInt (n := 32) (res_main_v94 V0 i) : ℝ)) : EReal) = _
  rw [v92_at, v94_at, int_nat _ (by have := cell_le (res_main_v86 V0 i); omega), held_sub]
theorem v102_at : (res_main_v102 V0 i : EReal) = ((1 - far (res_main_v86 V0 i) : ℝ) : EReal) := by
  show @HSub.hSub EReal EReal EReal _ (Ideal.ofBits .f32 0x3F800000#32) (res_main_v100 V0 i) = _
  rw [v100_at, Ideal.ofBits_one_f32, one_sub_far]
end

end Cert.Value

end
-- ==== Proof.Value.Fit.lean ====
/- The stretch of cells copied for a box has every cell its sampling places lie between, if the box is no longer than 252. -/
module

public import proofs.«01_k».proof.Proof.Value.Axis
public import Idealize.ShloMosaic.Lib.Routing.OpsSearch

@[expose] public section

noncomputable section

namespace Cert.Value

open Idealize.ShloMosaic

/-- Where a box that starts at `lo` starts on the map, as a word. -/
def startWord (lo : EReal) : BitVec 32 := Ideal.fptosi 32 (Ideal.liftRound Int.floor (lo * ((1 / 4 : ℝ) : EReal)))

theorem startWord_real (b : ℝ) : (startWord (b : EReal)).toInt = max (-2147483648) (min 2147483647 ⌊b / 4⌋) := by
  unfold startWord
  rw [← EReal.coe_mul, Ideal.liftRound_coe, show b * (1 / 4) = b / 4 by ring]
  generalize ⌊b / 4⌋ = f
  have e : Ideal.fptosi 32 (((f : ℝ)) : EReal) = BitVec.ofInt 32 (max (-2147483648) (min 2147483647 f)) := by
    unfold Ideal.fptosi
    rw [Ideal.toIntClamped_coe, Int.floor_intCast, Int.ceil_intCast, ite_self]
    norm_num
  rw [e, BitVec.toInt_ofInt]
  have h1 : -2147483648 ≤ max (-2147483648) (min 2147483647 f) := le_max_left _ _
  have h2 : max (-2147483648) (min 2147483647 f) ≤ 2147483647 := max_le (by norm_num) (min_le_left _ _)
  generalize max (-2147483648) (min 2147483647 f) = z at h1 h2
  rw [Int.bmod_def]
  split <;> omega

/-- A word held between zero and a bound. -/
theorem clip_val (lim w : BitVec 32) (hl : lim.toNat < 2 ^ 31) :
    ((Scalar.minsi lim (Scalar.maxsi 0#32 w)).toNat : ℤ) = min (lim.toNat : ℤ) (max 0 w.toInt) := by
  simp only [Scalar.minsi, Scalar.maxsi, IntOp.minsi, IntOp.maxsi, BitVec.sle, BitVec.slt]
  split <;> split <;> simp_all [BitVec.toInt] <;> omega

/-- A word rounded down to a multiple of sixteen. -/
theorem and_sixteen (w : BitVec 32) : (Scalar.andi w 4294967280#32).toInt = w.toInt / 16 * 16 := by
  have h : (w &&& BitVec.ofNat 32 (2 ^ 32 - 2 ^ 4)).toNat = w.toNat / 2 ^ 4 * 2 ^ 4 := Routing.toNat_and_neg_pow w (by decide)
  show (w &&& 4294967280#32).toInt = _
  have h' : (w &&& 4294967280#32).toNat = w.toNat / 16 * 16 := h
  rw [BitVec.toInt_eq_toNat_cond, BitVec.toInt_eq_toNat_cond, h']
  have := w.isLt
  split <;> split <;> omega

/-- The first column and the first row of what is copied for a box that starts at `lo`. -/
def colFrom (lo : EReal) : ℕ := (Scalar.minsi 136#32 (Scalar.maxsi 0#32 (startWord lo))).toNat
def rowFrom (lo : EReal) : ℕ := (Scalar.minsi 120#32 (Scalar.maxsi 0#32 (Scalar.andi (startWord lo) 4294967280#32))).toNat

theorem colFrom_real (b : ℝ) : ((colFrom (b : EReal) : ℤ) ≤ ⌊b / 4⌋ ∨ colFrom (b : EReal) = 0)
    ∧ (⌊b / 4⌋ < (colFrom (b : EReal) : ℤ) + 1 ∨ colFrom (b : EReal) + 64 = 200) := by
  have h := clip_val 136#32 (startWord (b : EReal)) (by decide)
  rw [startWord_real] at h
  unfold colFrom
  generalize (Scalar.minsi 136#32 (Scalar.maxsi 0#32 (startWord (b : EReal)))).toNat = n at h ⊢
  have e : ((136#32).toNat : ℤ) = 136 := by decide
  rw [e] at h
  omega

theorem rowFrom_real (b : ℝ) : ((rowFrom (b : EReal) : ℤ) ≤ ⌊b / 4⌋ ∨ rowFrom (b : EReal) = 0)
    ∧ (⌊b / 4⌋ < (rowFrom (b : EReal) : ℤ) + 16 ∨ rowFrom (b : EReal) + 80 = 200) := by
  have h := clip_val 120#32 (Scalar.andi (startWord (b : EReal)) 4294967280#32) (by decide)
  rw [and_sixteen, startWord_real] at h
  unfold rowFrom
  generalize (Scalar.minsi 120#32 (Scalar.maxsi 0#32 (Scalar.andi (startWord (b : EReal)) 4294967280#32))).toNat = n at h ⊢
  have e : ((120#32).toNat : ℤ) = 120 := by decide
  rw [e] at h
  omega

/-- A bin's length is that of a real box between one and sixty-three cells long. -/
theorem span_real (lo hi : EReal) (h : hi - lo ≤ ((252 : ℝ) : EReal)) :
    ∃ L : ℝ, 1 ≤ L ∧ L ≤ 63 ∧ max ((hi - lo) * ((1 / 4 : ℝ) : EReal)) 1 = (L : EReal) := by
  have hq : (0 : EReal) ≤ ((1 / 4 : ℝ) : EReal) := by exact_mod_cast (by norm_num : (0 : ℝ) ≤ 1 / 4)
  have hm : (hi - lo) * ((1 / 4 : ℝ) : EReal) ≤ ((63 : ℝ) : EReal) :=
    (mul_le_mul_of_nonneg_right h hq).trans (by rw [← EReal.coe_mul]; exact_mod_cast (by norm_num : (252 : ℝ) * (1 / 4) ≤ 63))
  have h1 : ((1 : ℝ) : EReal) ≤ max ((hi - lo) * ((1 / 4 : ℝ) : EReal)) 1 := by rw [EReal.coe_one]; exact le_max_right _ _
  have h63 : max ((hi - lo) * ((1 / 4 : ℝ) : EReal)) 1 ≤ ((63 : ℝ) : EReal) := max_le hm (by exact_mod_cast (by norm_num : (1 : ℝ) ≤ 63))
  have e := EReal.coe_toReal (ne_top_of_le_ne_top (EReal.coe_ne_top _) h63) (ne_bot_of_le_ne_bot (EReal.coe_ne_bot _) h1)
  rw [← e] at h1 h63
  exact ⟨_, by exact_mod_cast h1, by exact_mod_cast h63, e.symm⟩

/-- The cells of every place that counts lie in the stretch. -/
theorem place_fits (lo hi : EReal) (hfit : hi - lo ≤ ((252 : ℝ) : EReal)) (u : ℝ) (hu0 : 0 ≤ u) (hu : u ≤ 55 / 4) (st W S : ℕ) (hS : S + 62 < W)
    (hst : ∀ b : ℝ, lo = b → ((st : ℤ) ≤ ⌊b / 4⌋ ∨ st = 0) ∧ (⌊b / 4⌋ < (st : ℤ) + S ∨ st + W = 200)) :
    counts (place lo hi u) ≠ 0 → st ≤ cell (place lo hi u) ∧ next (place lo hi u) < st + W := by
  intro hc
  have hin : ((-1 : ℝ) : EReal) < place lo hi u ∧ place lo hi u < ((200 : ℝ) : EReal) := by
    by_contra hn
    exact hc (by unfold counts; rw [if_neg hn])
  obtain ⟨L, hL1, hL63, hL⟩ := span_real lo hi hfit
  have hp : place lo hi u = lo * ((1 / 4 : ℝ) : EReal) + ((u * (L / 14) : ℝ) : EReal) := by
    unfold place
    rw [hL, Ideal.div_coe (by norm_num), ← EReal.coe_mul, ← EReal.coe_mul]
    congr 2; ring
  rw [hp] at hin
  induction lo with
  | bot => rw [EReal.bot_mul_coe_of_pos (by norm_num), EReal.bot_add] at hin; exact absurd hin.1 not_lt_bot
  | top => rw [EReal.top_mul_coe_of_pos (by norm_num), EReal.top_add_coe] at hin; exact absurd hin.2 not_top_lt
  | coe b =>
    obtain ⟨hs1, hs2⟩ := hst b rfl
    have hpr : place (b : EReal) hi u = ((b / 4 + u * (L / 14) : ℝ) : EReal) := by
      rw [hp, ← EReal.coe_mul, ← EReal.coe_add]; congr 2; ring
    rw [← hp, hpr] at hin
    have hx1 : -1 < b / 4 + u * (L / 14) := by exact_mod_cast hin.1
    have hx2 : b / 4 + u * (L / 14) < 200 := by exact_mod_cast hin.2
    have hstep0 : 0 ≤ u * (L / 14) := mul_nonneg hu0 (by linarith)
    have hstep : u * (L / 14) < 62 := by nlinarith
    rw [hpr]
    generalize u * (L / 14) = t at *
    have hh : heldR ((b / 4 + t : ℝ) : EReal) = min 199 (max 0 (b / 4 + t)) := by
      unfold heldR held
      rw [← EReal.coe_zero, ← EReal.coe_strictMono.monotone.map_max, ← EReal.coe_strictMono.monotone.map_min, EReal.toReal_coe]
    have hfl := Int.floor_le (b / 4)
    have hfl' := Int.lt_floor_add_one (b / 4)
    constructor
    · refine Nat.le_floor ?_
      rw [hh]
      rcases hs1 with h | h
      · have h' : (st : ℝ) ≤ b / 4 := le_trans (by exact_mod_cast h) hfl
        have : (st : ℤ) < 200 := by
          have : (st : ℝ) < 200 := by linarith
          exact_mod_cast this
        have h'' : (st : ℝ) ≤ 199 := by exact_mod_cast (by omega : (st : ℤ) ≤ 199)
        exact le_min h'' (le_max_of_le_right (by linarith))
      · rw [h]; push_cast; exact le_min (by norm_num) (le_max_left _ _)
    · rcases hs2 with h | h
      · have h' : b / 4 < st + S := by
          have : (⌊b / 4⌋ : ℝ) + 1 ≤ st + S := by exact_mod_cast h
          linarith
        have hlt : cell ((b / 4 + t : ℝ) : EReal) < st + S + 62 := by
          unfold cell
          rw [Nat.floor_lt (heldR_range _).1, hh]
          push_cast
          refine min_lt_of_right_lt (max_lt (by positivity) (by linarith))
        exact lt_of_le_of_lt (min_le_left _ _) (by omega)
      · have := next_le ((b / 4 + t : ℝ) : EReal); omega

theorem col_fits (lo hi : EReal) (hfit : hi - lo ≤ ((252 : ℝ) : EReal)) (u : ℝ) (hu0 : 0 ≤ u) (hu : u ≤ 55 / 4) :
    counts (place lo hi u) ≠ 0 → colFrom lo ≤ cell (place lo hi u) ∧ next (place lo hi u) < colFrom lo + 64 :=
  place_fits lo hi hfit u hu0 hu _ 64 1 (by norm_num) fun b e => by rw [e]; exact_mod_cast colFrom_real b
theorem row_fits (lo hi : EReal) (hfit : hi - lo ≤ ((252 : ℝ) : EReal)) (u : ℝ) (hu0 : 0 ≤ u) (hu : u ≤ 55 / 4) :
    counts (place lo hi u) ≠ 0 → rowFrom lo ≤ cell (place lo hi u) ∧ next (place lo hi u) < rowFrom lo + 80 :=
  place_fits lo hi hfit u hu0 hu _ 80 16 (by norm_num) fun b e => by rw [e]; exact_mod_cast rowFrom_real b

end Cert.Value

end
-- ==== Proof.Value.Kernel.lean ====
/- One element of the kernel's output over the extended reals. -/
module

public import proofs.«01_k».proof.Proof.Kernel.Spec
public import proofs.«01_k».proof.Proof.Value.Fit
public import Idealize.ShloMosaic.Lib.Pointwise
public import Idealize.ShloMosaic.Lib.WordCmp

@[expose] public section

set_option maxRecDepth 16384

noncomputable section

namespace Cert.Value

open Cert.Kernel Cert.Kernel.Gen Cert.Kernel.Roi
open Idealize.ShloMosaic

/-! ## Words as numbers -/

theorem num_nat (n : ℕ) (h : n < 2 ^ 31) : (FloatOps.sitofp (F := Ideal) .f32 (BitVec.ofNat 32 n) : EReal) = ((n : ℝ) : EReal) := by
  show (((BitVec.ofNat 32 n).toInt : ℝ) : EReal) = _
  have : (BitVec.ofNat 32 n).toInt = (n : ℤ) := by rw [BitVec.toInt_eq_toNat_cond, BitVec.toNat_ofNat]; split <;> omega
  rw [this]; norm_cast

theorem num_word (w : BitVec 32) (h : w.toNat < 2 ^ 31) : (Scalar.sitofp (F := Ideal) .f32 w : EReal) = ((w.toNat : ℝ) : EReal) := by
  show ((w.toInt : ℝ) : EReal) = _
  have : w.toInt = (w.toNat : ℤ) := by rw [BitVec.toInt_eq_toNat_cond]; split <;> omega
  rw [this]; norm_cast

theorem num_bool (b : Bool) : (FloatOps.sitofp (F := Ideal) .f32 (BitVec.setWidth 32 (BitVec.ofBool b)) : EReal)
    = ((if b then (1 : ℝ) else 0 : ℝ) : EReal) := by
  show (((BitVec.setWidth 32 (BitVec.ofBool b)).toInt : ℝ) : EReal) = _
  cases b
  · rw [show (BitVec.setWidth 32 (BitVec.ofBool false)).toInt = 0 by decide]; norm_num
  · rw [show (BitVec.setWidth 32 (BitVec.ofBool true)).toInt = 1 by decide]; norm_num

/-! ## The weights -/

open Classical in
theorem num_prop (p : Prop) [Decidable p] : (FloatOps.sitofp (F := Ideal) .f32 (BitVec.setWidth 32 (BitVec.ofBool (decide p))) : EReal)
    = ((if p then (1 : ℝ) else 0 : ℝ) : EReal) := by
  rw [num_bool]; simp only [decide_eq_true_eq]

/-- The kernel's weight of a place, at one element. -/
theorem weightOf_at (s : Shape) (row col : FVec Ideal s .f32) (sub : BitVec 32) (base bin start : Ideal .f32) (i : s.Idx)
    (x : EReal) (st k : ℕ) (hp : (base + (row i + Ideal.ofBits .f32 sub) * bin : EReal) = x) (hk : (col i : EReal) = ((k : ℝ) : EReal))
    (hs : (start : EReal) = ((st : ℝ) : EReal)) :
    (weightOf s row col sub base bin start i : EReal) = (weight x st k : EReal) := by
  have hpl : (Roi.place s row sub base bin i : EReal) = x := hp
  have hh : (held1 s row sub base bin i : EReal) = held x := by
    rw [← hpl]
    show min (Ideal.ofBits .f32 0x43470000#32) (max (Ideal.ofBits .f32 0x00000000#32) _) = _
    rw [c_last, Ideal.ofBits_zero_f32]; rfl
  have hl : (low s row sub base bin i : EReal) = ((cell x : ℝ) : EReal) := by
    rw [← floor_held, ← hh]; rfl
  have hf : (past s row sub base bin i : EReal) = (far x : EReal) := by
    rw [← held_sub, ← hh, ← hl]; rfl
  have hi : (inside s row sub base bin i : EReal) = (counts x : EReal) := by
    rw [← hpl]
    show (FloatOps.sitofp (F := Ideal) .f32 (BitVec.setWidth 32 (IntOp.andi (BitVec.ofBool (decide (Ideal.ofBits .f32 0xBF800000#32 < (Roi.place s row sub base bin i : EReal))))
      (BitVec.ofBool (decide ((Roi.place s row sub base bin i : EReal) < Ideal.ofBits .f32 0x43480000#32))))) : EReal) = _
    rw [WordCmp.andi_ofBool, num_bool, c_minus, c_count]
    unfold counts
    simp only [Bool.and_eq_true, decide_eq_true_eq]
  have ind : ∀ n : ℕ, (FloatOps.sitofp (F := Ideal) .f32 (BitVec.setWidth 32 (BitVec.ofBool (decide ((col i : EReal) = ((n : ℝ) : EReal) - (start : EReal))))) : EReal)
      = ((if (k : ℤ) = (n : ℤ) - st then (1 : ℝ) else 0 : ℝ) : EReal) := fun n => by
    rw [num_prop, hk, hs, ← EReal.coe_sub]
    have : (((k : ℝ) : EReal) = (((n : ℝ) - (st : ℝ) : ℝ) : EReal)) ↔ (k : ℤ) = (n : ℤ) - st := by
      rw [EReal.coe_eq_coe_iff]
      exact ⟨fun h => by exact_mod_cast h, fun h => by exact_mod_cast h⟩
    simp only [this]
  show ((FloatOps.sitofp (F := Ideal) .f32 (BitVec.setWidth 32 (BitVec.ofBool (decide ((col i : EReal) = (low s row sub base bin i : EReal) - (start : EReal))))) : EReal)
      * (Ideal.ofBits .f32 0x3F800000#32 - (past s row sub base bin i : EReal))
    + (FloatOps.sitofp (F := Ideal) .f32 (BitVec.setWidth 32 (BitVec.ofBool (decide ((col i : EReal)
        = min ((low s row sub base bin i : EReal) + Ideal.ofBits .f32 0x3F800000#32) (Ideal.ofBits .f32 0x43470000#32) - (start : EReal))))) : EReal)
      * (past s row sub base bin i : EReal)) * (inside s row sub base bin i : EReal) = _
  rw [hl, hf, hi, Ideal.ofBits_one_f32, c_last, next_eq, ind, ind, one_sub_far, ← EReal.coe_mul, ← EReal.coe_mul, ← EReal.coe_add, ← EReal.coe_mul]
  rfl

/-- A place of the kernel's is a place of its box. -/
theorem place_at (lo hi : EReal) (sub : BitVec 32) (t : ℝ) (hsub : Ideal.ofBits .f32 sub = (t : EReal)) (y : ℕ) (row : EReal) (hrow : row = ((y : ℝ) : EReal)) :
    ((onMap (F := Ideal) lo : EReal) + (row + Ideal.ofBits .f32 sub) * (binLen (F := Ideal) lo hi : EReal) : EReal) = Value.place lo hi (y + t) := by
  show lo * Ideal.ofBits .f32 0x3E800000#32 + (row + Ideal.ofBits .f32 sub)
    * Ideal.div (max ((hi - lo) * Ideal.ofBits .f32 0x3E800000#32) (Ideal.ofBits .f32 0x3F800000#32)) (Ideal.ofBits .f32 0x41600000#32) = _
  rw [hrow, hsub, c_quarter, c_fourteen, Ideal.ofBits_one_f32, ← EReal.coe_add]
  rfl

/-- The mean weight of a bin's two places. -/
theorem axisW_at (s : Shape) (row col : FVec Ideal s .f32) (lo hi : EReal) (start : Ideal .f32) (i : s.Idx) (y st k : ℕ)
    (hr : (row i : EReal) = ((y : ℝ) : EReal)) (hk : (col i : EReal) = ((k : ℝ) : EReal)) (hs : (start : EReal) = ((st : ℝ) : EReal)) :
    (axisW s row col (onMap (F := Ideal) lo) (binLen (F := Ideal) lo hi) start i : EReal)
      = (((weight (Value.place lo hi (y + 1 / 4)) st k + weight (Value.place lo hi (y + 3 / 4)) st k) * (1 / 2) : ℝ) : EReal) := by
  show (Ideal.ofBits .f32 0x00000000#32 + (weightOf s row col 0x3E800000#32 (onMap (F := Ideal) lo) (binLen (F := Ideal) lo hi) start i : EReal)
    + (weightOf s row col 0x3F400000#32 (onMap (F := Ideal) lo) (binLen (F := Ideal) lo hi) start i : EReal)) * Ideal.ofBits .f32 0x3F000000#32 = _
  rw [weightOf_at s row col _ _ _ _ i _ st k (place_at lo hi _ _ c_quarter y _ hr) hk hs,
    weightOf_at s row col _ _ _ _ i _ st k (place_at lo hi _ _ c_three_quarters y _ hr) hk hs, Ideal.ofBits_zero_f32, zero_add, c_half,
    ← EReal.coe_add, ← EReal.coe_mul]

theorem rowsW_at (lo hi : EReal) (start : Ideal .f32) (st : ℕ) (hs : (start : EReal) = ((st : ℝ) : EReal)) (y : Fin 14) (r : Fin 80) :
    (rowsW (onMap (F := Ideal) lo) (binLen (F := Ideal) lo hi) start (ix2 y r) : EReal)
      = (((weight (Value.place lo hi (y + 1 / 4)) st r + weight (Value.place lo hi (y + 3 / 4)) st r) * (1 / 2) : ℝ) : EReal) := by
  refine axisW_at _ _ _ lo hi start _ y st r ?_ ?_ hs
  · pointwise; exact num_nat _ (by omega)
  · pointwise; exact num_nat _ (by omega)
theorem colsW_at (lo hi : EReal) (start : Ideal .f32) (st : ℕ) (hs : (start : EReal) = ((st : ℝ) : EReal)) (y : Fin 14) (r : Fin 64) :
    (colsW (onMap (F := Ideal) lo) (binLen (F := Ideal) lo hi) start (ix2 y r) : EReal)
      = (((weight (Value.place lo hi (y + 1 / 4)) st r + weight (Value.place lo hi (y + 3 / 4)) st r) * (1 / 2) : ℝ) : EReal) := by
  refine axisW_at _ _ _ lo hi start _ y st r ?_ ?_ hs
  · pointwise; exact num_nat _ (by omega)
  · pointwise; exact num_nat _ (by omega)

/-! ## The two products, the mask, and the element -/

theorem binned_at (A : FVec Ideal S14x80 .f32) (p : FVec Ideal S80x16384 .bf16) (y : Fin 14) (k : Fin 64) (q : Fin 256) :
    (binned A p (ix3 y k q) : EReal) = ∑ r : Fin 80, (A (ix2 y r) : EReal) * p (ix2 r ⟨k.val * 256 + q.val, by omega⟩) := by
  pointwise [binned]

theorem binRow_at (B : FVec Ideal S14x64 .f32) (p : FVec Ideal S14x64x256 .f32) (y : Fin 14) (h : S14x64x256.Slices ![y.val, 0, 0] S1x64x256) (x : Fin 14) (q : Fin 256) :
    (binRow B p ![y.val, 0, 0] h (ix3 0 x q) : EReal) = ∑ k : Fin 64, (B (ix2 x k) : EReal) * p (ix3 y k q) := by
  pointwise [binRow]

theorem pooled_at (B : FVec Ideal S14x64 .f32) (p : FVec Ideal S14x64x256 .f32) (y x : Fin 14) (q : Fin 256) :
    (pooled B p (ix3 y x q) : EReal) = ∑ k : Fin 64, (B (ix2 x k) : EReal) * p (ix3 y k q) := by
  fin_cases y <;> pointwise [pooled, binRow]

/-- The mask of a box at a bin, from the four words it is given by. -/
def maskBit (y x : ℕ) (x1 y1 x2 y2 : BitVec 32) : BitVec 1 :=
  IntOp.andi (IntOp.andi (IntOp.cmpi .sge (BitVec.ofNat 32 y) y1) (IntOp.cmpi .slt (BitVec.ofNat 32 y) y2))
    (IntOp.andi (IntOp.cmpi .sge (BitVec.ofNat 32 x) x1) (IntOp.cmpi .slt (BitVec.ofNat 32 x) x2))
def mask (y x : ℕ) (x1 y1 x2 y2 : BitVec 32) : EReal := (((maskBit y x x1 y1 x2 y2).toNat : ℝ) : EReal)

theorem maskOf_at (x1 y1 x2 y2 : BitVec 32) (y x : Fin 14) (q : Fin 256) :
    (maskOf (F := Ideal) (iota .tc S14x14 32 [0] iota_S14x14_d0_w32) (iota .tc S14x14 32 [1] iota_S14x14_d1_w32) x1 y1 x2 y2 (ix3 y x q) : EReal)
      = mask y x x1 y1 x2 y2 := by
  pointwise [maskOf]
  have a : ∀ p q r t : BitVec 1, IntOp.andi (IntOp.andi (IntOp.andi p q) r) t = IntOp.andi (IntOp.andi p q) (IntOp.andi r t) := by decide
  rw [a]
  show (((BitVec.setWidth 32 (maskBit y x x1 y1 x2 y2)).toInt : ℝ) : EReal) = _
  unfold mask
  generalize maskBit y x x1 y1 x2 y2 = b
  have : ∀ b : BitVec 1, (BitVec.setWidth 32 b).toInt = (b.toNat : ℤ) := by decide
  rw [this]; norm_cast

/-- The union box's corners and a corner in bins, over the extended reals. -/
def inUnits (lo hi a : EReal) : BitVec 32 := Ideal.fptosi 32 ((a - lo) * Ideal.div ((14 : ℝ) : EReal) (hi - lo))

/-- What the four pairs of places of a bin read, on average. -/
def pool (ylo yhi xlo xhi : EReal) (y x : ℕ) (G : ℕ → ℕ → EReal) : EReal :=
  Ideal.div ((read (place xlo xhi (x + 1 / 4)) (fun c => read (place ylo yhi (y + 1 / 4)) (fun r => G r c))
        + read (place xlo xhi (x + 3 / 4)) (fun c => read (place ylo yhi (y + 1 / 4)) (fun r => G r c)))
      + (read (place xlo xhi (x + 1 / 4)) (fun c => read (place ylo yhi (y + 3 / 4)) (fun r => G r c))
        + read (place xlo xhi (x + 3 / 4)) (fun c => read (place ylo yhi (y + 3 / 4)) (fun r => G r c)))) ((4 : ℝ) : EReal)

theorem boxPart_at (v : Fin 10 → Ideal .f32) (a b d e : Fin 10) (patch : FVec Ideal S80x16384 .bf16) (xlo ylo xhi yhi : EReal)
    (hxl : min (v 1 : EReal) (v 6) = xlo) (hyl : min (v 2 : EReal) (v 7) = ylo) (hxh : max (v 3 : EReal) (v 8) = xhi) (hyh : max (v 4 : EReal) (v 9) = yhi)
    (hw : xhi - xlo ≤ ((252 : ℝ) : EReal)) (hh : yhi - ylo ≤ ((252 : ℝ) : EReal)) (y x : Fin 14) (q : Fin 256) (G : ℕ → ℕ → EReal)
    (hG : ∀ (r : Fin 80) (k : Fin 64), (patch (ix2 r ⟨k.val * 256 + q.val, by omega⟩) : EReal) = G (rowFrom ylo + r) (colFrom xlo + k)) :
    (boxPart v a b d e patch (ix4 0 y x q) : EReal)
      = pool ylo yhi xlo xhi y x G * mask y x (inUnits xlo xhi (v a)) (inUnits ylo yhi (v b)) (inUnits xlo xhi (v d)) (inUnits ylo yhi (v e)) := by
  have ex : (xMin v : EReal) = xlo := hxl
  have ey : (yMin v : EReal) = ylo := hyl
  have ex' : (xMax v : EReal) = xhi := hxh
  have ey' : (yMax v : EReal) = yhi := hyh
  have er : rowStart v = Scalar.minsi 120#32 (Scalar.maxsi 0#32 (Scalar.andi (startWord ylo) 4294967280#32)) := by
    rw [← ey]; unfold startWord; rw [← c_quarter]; rfl
  have ec : colStart v = Scalar.minsi 136#32 (Scalar.maxsi 0#32 (startWord xlo)) := by
    rw [← ex]; unfold startWord; rw [← c_quarter]; rfl
  have hr : (Scalar.sitofp (F := Ideal) .f32 (rowStart v) : EReal) = ((rowFrom ylo : ℝ) : EReal) := by
    rw [er]; exact num_word _ (lt_of_le_of_lt (clip_toNat 120#32 _ (by decide)) (by decide))
  have hc : (Scalar.sitofp (F := Ideal) .f32 (colStart v) : EReal) = ((colFrom xlo : ℝ) : EReal) := by
    rw [ec]; exact num_word _ (lt_of_le_of_lt (clip_toNat 136#32 _ (by decide)) (by decide))
  have hu : ∀ lo hi c : EReal, inBins (F := Ideal) lo hi c = inUnits lo hi c := fun lo hi c => by
    unfold inUnits; rw [← c_fourteen]; rfl
  have bound : ∀ z : Fin 14, (0 : ℝ) ≤ (z : ℕ) + 1 / 4 ∧ ((z : ℕ) : ℝ) + 1 / 4 ≤ 55 / 4 ∧ (0 : ℝ) ≤ (z : ℕ) + 3 / 4 ∧ ((z : ℕ) : ℝ) + 3 / 4 ≤ 55 / 4 := by
    intro z
    have h0 : (0 : ℝ) ≤ (z : ℕ) := Nat.cast_nonneg _
    have h1 : ((z : ℕ) : ℝ) ≤ 13 := by exact_mod_cast (by omega : (z : ℕ) ≤ 13)
    refine ⟨by linarith, by linarith, by linarith, by linarith⟩
  obtain ⟨y1, y2, y3, y4⟩ := bound y
  obtain ⟨x1, x2, x3, x4⟩ := bound x
  have main : (pooled (colsW (onMap (F := Ideal) (xMin v)) (binLen (xMin v) (xMax v)) (Scalar.sitofp .f32 (colStart v)))
      (binned (rowsW (onMap (yMin v)) (binLen (yMin v) (yMax v)) (Scalar.sitofp .f32 (rowStart v))) patch) (ix3 y x q) : EReal)
      = pool ylo yhi xlo xhi y x G := by
    rw [pooled_at]
    refine Eq.trans ?_ (pool_eq (place ylo yhi (y + 1 / 4)) (place ylo yhi (y + 3 / 4)) (place xlo xhi (x + 1 / 4)) (place xlo xhi (x + 3 / 4)) 80 64
      (rowFrom ylo) (colFrom xlo) G (row_fits _ _ hh _ y1 y2) (row_fits _ _ hh _ y3 y4) (col_fits _ _ hw _ x1 x2) (col_fits _ _ hw _ x3 x4))
    refine Finset.sum_congr rfl fun k _ => ?_
    rw [binned_at]
    refine congrArg₂ (· * ·) ?_ (Finset.sum_congr rfl fun r _ => congrArg₂ (· * ·) ?_ (hG r k))
    · rw [← ex, ← ex']; exact colsW_at _ _ _ _ (ex ▸ hc) x k
    · rw [← ey, ← ey']; exact rowsW_at _ _ _ _ (ey ▸ hr) y r
  unfold boxPart
  pointwise
  refine (congrArg₂ (· * ·) main (maskOf_at _ _ _ _ y x q)).trans ?_
  rw [hu, hu, hu, hu, ex, ey, ex', ey']

end Cert.Value

end
-- ==== Proof.Value.Reference.lean ====
/- One element of the reference's output over the extended reals. -/
module

public import proofs.«01_k».proof.Proof.Value.Gather
public import proofs.«01_k».proof.Proof.Value.Axes
public import proofs.«01_k».proof.Proof.Value.Kernel
public import Idealize.ShloMosaic.Lib.Routing.OpsPair

@[expose] public section

set_option maxRecDepth 16384

noncomputable section

namespace Cert.Value

open Cert.ReferenceIdeal Cert.ReferenceIdeal.Gen Cert.ReferenceIdeal.Value
open Idealize.ShloMosaic

/-! ## The three words of a read -/

/-- The words of the reads, from the maps', the rows' and the columns'. -/
def named (m : IVec S256x1x1x1x1 32) (r : IVec S256x14x2x1x1 32) (k : IVec S256x1x1x14x2 32) : IVec S256x14x2x14x2x3 32 :=
  concatenate S256x14x2x14x2x3 5 [
      ⟨S256x14x2x14x2x1, ((broadcastInDim S256x14x2x14x2x1 ![0, 1, 2, 3, 4] bcast_S256x14x2x14x2_S256x14x2x14x2x1_0_1_2_3_4
        (broadcastInDim S256x14x2x14x2 ![0, 1, 2, 3, 4] bcast_S256x1x1x1x1_S256x14x2x14x2_0_1_2_3_4 (select (cmpi .slt m (broadcastInDim S256x1x1x1x1 ![] bcast_S_S256x1x1x1x1 (constantI S_ 32 0#32))) (addi m (broadcastInDim S256x1x1x1x1 ![] bcast_S_S256x1x1x1x1 (constantI S_ 32 4#32))) m))))⟩,
      ⟨S256x14x2x14x2x1, ((broadcastInDim S256x14x2x14x2x1 ![0, 1, 2, 3, 4] bcast_S256x14x2x14x2_S256x14x2x14x2x1_0_1_2_3_4
        (broadcastInDim S256x14x2x14x2 ![0, 1, 2, 3, 4] bcast_S256x14x2x1x1_S256x14x2x14x2_0_1_2_3_4 (select (cmpi .slt r (broadcastInDim S256x14x2x1x1 ![] bcast_S_S256x14x2x1x1 (constantI S_ 32 0#32))) (addi r (broadcastInDim S256x14x2x1x1 ![] bcast_S_S256x14x2x1x1 (constantI S_ 32 200#32))) r))))⟩,
      ⟨S256x14x2x14x2x1, ((broadcastInDim S256x14x2x14x2x1 ![0, 1, 2, 3, 4] bcast_S256x14x2x14x2_S256x14x2x14x2x1_0_1_2_3_4
        (broadcastInDim S256x14x2x14x2 ![0, 1, 2, 3, 4] bcast_S256x1x1x14x2_S256x14x2x14x2_0_1_2_3_4 (select (cmpi .slt k (broadcastInDim S256x1x1x14x2 ![] bcast_S_S256x1x1x14x2 (constantI S_ 32 0#32))) (addi k (broadcastInDim S256x1x1x14x2 ![] bcast_S_S256x1x1x14x2 (constantI S_ 32 200#32))) k))))⟩
      ] concatenates_S256x14x2x14x2x1_S256x14x2x14x2x1_S256x14x2x14x2x1_S256x14x2x14x2x3_d5

section
variable (m : IVec S256x1x1x1x1 32) (r : IVec S256x14x2x1x1 32) (k : IVec S256x1x1x14x2 32)
  (j : Fin 256) (p : Fin 14) (s : Fin 2) (p' : Fin 14) (s' : Fin 2)

theorem named_map (h : (m (ix5 j 0 0 0 0)).toNat < 2 ^ 31) : named m r k (ix6 j p s p' s' 0) = m (ix5 j 0 0 0 0) := by
  refine Eq.trans ?_ (Routing.wrap_of_lt (m (ix5 j 0 0 0 0)) (IntOp.addi (m (ix5 j 0 0 0 0)) 4#32) h)
  pointwise [named]
theorem named_row (h : (r (ix5 j p s 0 0)).toNat < 2 ^ 31) : named m r k (ix6 j p s p' s' 1) = r (ix5 j p s 0 0) := by
  refine Eq.trans ?_ (Routing.wrap_of_lt (r (ix5 j p s 0 0)) (IntOp.addi (r (ix5 j p s 0 0)) 200#32) h)
  pointwise [named]
theorem named_col (h : (k (ix5 j 0 0 p' s')).toNat < 2 ^ 31) : named m r k (ix6 j p s p' s' 2) = k (ix5 j 0 0 p' s') := by
  refine Eq.trans ?_ (Routing.wrap_of_lt (k (ix5 j 0 0 p' s')) (IntOp.addi (k (ix5 j 0 0 p' s')) 200#32) h)
  pointwise [named]
end

/-- One channel of one map, as a plane of numbers. -/
def plane (X : S4x256x200x200.Idx → EReal) (b : ℕ) (c : Fin 256) (r k : ℕ) : EReal :=
  if h : b < 4 ∧ r < 200 ∧ k < 200 then X (ix4 (⟨b, h.1⟩ : Fin 4) c (⟨r, h.2.1⟩ : Fin 200) (⟨k, h.2.2⟩ : Fin 200)) else 0

variable (V0 : Valuation τ sig (Elt Ideal))

/-- The number of a box's map, as a word. -/
def mapWord (j : Fin 256) : BitVec 32 := Ideal.fptosi 32 (rBoxes V0 (ix3 j 0 0))

theorem v2_at (j : Fin 256) : (res_main_v2 V0 (ix1 j) : BitVec 32) = mapWord V0 j := by
  unfold res_main_v2 mapWord; clean_types; pointwise
  rfl

section
variable (j : Fin 256) (p : Fin 14) (s : Fin 2) (p' : Fin 14) (s' : Fin 2) (c : Fin 256)

theorem taken (hb : (mapWord V0 j).toNat < 4) (m : IVec S256x1x1x1x1 32) (r : IVec S256x14x2x1x1 32) (k : IVec S256x1x1x14x2 32) (nr nk : ℕ)
    (hnr : nr ≤ 199) (hnk : nk ≤ 199) (hm : m (ix5 j 0 0 0 0) = mapWord V0 j) (hr : r (ix5 j p s 0 0) = BitVec.ofNat 32 nr)
    (hk : k (ix5 j 0 0 p' s') = BitVec.ofNat 32 nk) :
    Host.gather takeDims (rMaps V0) (named m r k) (ix6 j p s p' s' c) = plane (rMaps V0) (mapWord V0 j).toNat c nr nk := by
  have b : ∀ n : ℕ, n ≤ 199 → (BitVec.ofNat 32 n).toNat < 2 ^ 31 := fun n h => by rw [BitVec.toNat_ofNat]; omega
  rw [take_at (named m r k) j p s p' s' c (rMaps V0) (mapWord V0 j).toNat nr nk hb (by omega) (by omega)
    ((named_map _ _ _ j p s p' s' (by rw [hm]; omega)).trans (hm.trans (by simp)))
    ((named_row _ _ _ j p s p' s' (by rw [hr]; exact b _ hnr)).trans hr) ((named_col _ _ _ j p s p' s' (by rw [hk]; exact b _ hnk)).trans hk)]
  unfold plane
  rw [dif_pos ⟨hb, by omega, by omega⟩]

theorem v241_at (hb : (mapWord V0 j).toNat < 4) :
    (res_main_v241 V0 (ix6 j p s p' s' c) : EReal)
      = ((1 - far (res_main_v42 V0 (ix3 j p s)) : ℝ) : EReal) * ((1 - far (res_main_v86 V0 (ix3 j p' s')) : ℝ) : EReal)
            * plane (rMaps V0) (mapWord V0 j).toNat c (cell (res_main_v42 V0 (ix3 j p s))) (cell (res_main_v86 V0 (ix3 j p' s')))
          + ((1 - far (res_main_v42 V0 (ix3 j p s)) : ℝ) : EReal) * (far (res_main_v86 V0 (ix3 j p' s')) : EReal)
            * plane (rMaps V0) (mapWord V0 j).toNat c (cell (res_main_v42 V0 (ix3 j p s))) (next (res_main_v86 V0 (ix3 j p' s')))
          + (far (res_main_v42 V0 (ix3 j p s)) : EReal) * ((1 - far (res_main_v86 V0 (ix3 j p' s')) : ℝ) : EReal)
            * plane (rMaps V0) (mapWord V0 j).toNat c (next (res_main_v42 V0 (ix3 j p s))) (cell (res_main_v86 V0 (ix3 j p' s')))
          + (far (res_main_v42 V0 (ix3 j p s)) : EReal) * (far (res_main_v86 V0 (ix3 j p' s')) : EReal)
            * plane (rMaps V0) (mapWord V0 j).toNat c (next (res_main_v42 V0 (ix3 j p s))) (next (res_main_v86 V0 (ix3 j p' s'))) := by
  rw [← v58_at, ← v56_at, ← v102_at, ← v100_at]
  have m1 : (res_main_v109 V0 (ix5 j 0 0 0 0) : BitVec 32) = mapWord V0 j := by
    rw [← v2_at]; unfold res_main_v109; clean_types; pointwise
  have r1 : (res_main_v110 V0 (ix5 j p s 0 0) : BitVec 32) = _ := Eq.trans (by unfold res_main_v110; clean_types; pointwise) (v50_at V0 (ix3 j p s))
  have r2 : (res_main_v179 V0 (ix5 j p s 0 0) : BitVec 32) = _ := Eq.trans (by unfold res_main_v179; clean_types; pointwise) (v54_at V0 (ix3 j p s))
  have k1 : (res_main_v111 V0 (ix5 j 0 0 p' s') : BitVec 32) = _ := Eq.trans (by unfold res_main_v111; clean_types; pointwise) (v94_at V0 (ix3 j p' s'))
  have k2 : (res_main_v145 V0 (ix5 j 0 0 p' s') : BitVec 32) = _ := Eq.trans (by unfold res_main_v145; clean_types; pointwise) (v98_at V0 (ix3 j p' s'))
  have g11 := taken V0 j p s p' s' c hb (res_main_v109 V0) (res_main_v110 V0) (res_main_v111 V0) _ _ (cell_le _) (cell_le _) m1 r1 k1
  have g12 := taken V0 j p s p' s' c hb (res_main_v143 V0) (res_main_v144 V0) (res_main_v145 V0) _ _ (cell_le _) (next_le _) m1 r1 k2
  have g21 := taken V0 j p s p' s' c hb (res_main_v178 V0) (res_main_v179 V0) (res_main_v180 V0) _ _ (next_le _) (cell_le _) m1 r2 k1
  have g22 := taken V0 j p s p' s' c hb (res_main_v213 V0) (res_main_v214 V0) (res_main_v215 V0) _ _ (next_le _) (next_le _) m1 r2 k2
  rw [← g11, ← g12, ← g21, ← g22]
  unfold res_main_v241 res_main_v171 named; clean_types; pointwise

/-- The sampled numbers, those whose place does not count at zero. -/
def placed : FVec Ideal S256x14x2x14x2x256 .f32 :=
  mulf (res_main_v241 V0) (broadcastInDim S256x14x2x14x2x256 ![0, 1, 2, 3, 4, 5] bcast_S256x14x2x14x2x1_S256x14x2x14x2x256_0_1_2_3_4_5
    (broadcastInDim S256x14x2x14x2x1 ![0, 1, 2, 3, 4] bcast_S256x14x2x14x2_S256x14x2x14x2x1_0_1_2_3_4 (uitofp .f32
    (andi (broadcastInDim S256x14x2x14x2 ![0, 1, 2, 3, 4] bcast_S256x14x2x1x1_S256x14x2x14x2_0_1_2_3_4 (broadcastInDim S256x14x2x1x1 ![0, 1, 2] bcast_S256x14x2_S256x14x2x1x1_0_1_2 (andi (cmpf .ogt (res_main_v42 V0) (broadcastInDim S256x14x2 ![] bcast_S_S256x14x2 (constant S_ .f32 0xBF800000#32))) (cmpf .olt (res_main_v42 V0) (broadcastInDim S256x14x2 ![] bcast_S_S256x14x2 (constant S_ .f32 0x43480000#32)))))) (broadcastInDim S256x14x2x14x2 ![0, 1, 2, 3, 4] bcast_S256x1x1x14x2_S256x14x2x14x2_0_1_2_3_4 (broadcastInDim S256x1x1x14x2 ![0, 3, 4] bcast_S256x14x2_S256x1x1x14x2_0_3_4 (andi (cmpf .ogt (res_main_v86 V0) (broadcastInDim S256x14x2 ![] bcast_S_S256x14x2 (constant S_ .f32 0xBF800000#32))) (cmpf .olt (res_main_v86 V0) (broadcastInDim S256x14x2 ![] bcast_S_S256x14x2 (constant S_ .f32 0x43480000#32))))))))))

theorem counted (y x : EReal) :
    (((IntOp.andi (IntOp.andi (BitVec.ofBool (decide (((-1 : ℝ) : EReal) < y))) (BitVec.ofBool (decide (y < ((200 : ℝ) : EReal)))))
        (IntOp.andi (BitVec.ofBool (decide (((-1 : ℝ) : EReal) < x))) (BitVec.ofBool (decide (x < ((200 : ℝ) : EReal)))))).toNat : ℝ) : EReal)
      = ((counts y * counts x : ℝ) : EReal) := by
  rw [WordCmp.andi_ofBool, WordCmp.andi_ofBool, WordCmp.andi_ofBool]
  have t : ∀ b : Bool, ((BitVec.ofBool b).toNat : ℝ) = if b then 1 else 0 := fun b => by cases b <;> simp
  rw [t]
  unfold counts
  simp only [Bool.and_eq_true, decide_eq_true_eq]
  by_cases hy : ((-1 : ℝ) : EReal) < y ∧ y < ((200 : ℝ) : EReal)
  · by_cases hx : ((-1 : ℝ) : EReal) < x ∧ x < ((200 : ℝ) : EReal)
    · rw [if_pos ⟨hy, hx⟩, if_pos hy, if_pos hx, mul_one]
    · rw [if_neg fun h => hx h.2, if_neg hx, mul_zero]
  · rw [if_neg fun h => hy h.1, if_neg hy, zero_mul]

theorem placed_at (hb : (mapWord V0 j).toNat < 4) :
    (placed V0 (ix6 j p s p' s' c) : EReal) = read (res_main_v86 V0 (ix3 j p' s')) (fun k => read (res_main_v42 V0 (ix3 j p s))
      (fun r => plane (rMaps V0) (mapWord V0 j).toNat c r k)) := by
  rw [read_read, ← v241_at V0 j p s p' s' c hb, ← counted, ← c_minus, ← c_count]
  unfold placed; clean_types; pointwise
  rfl

theorem v254_at (hb : (mapWord V0 j).toNat < 4) :
    (res_main_v254 V0 (ix4 j c p p') : EReal)
      = pool (res_main_v8 V0 (ix1 j)) (res_main_v14 V0 (ix1 j)) (res_main_v5 V0 (ix1 j)) (res_main_v11 V0 (ix1 j)) p p'
          (fun r k => plane (rMaps V0) (mapWord V0 j).toNat c r k) := by
  have i0 : into 0 = 1 / 4 := if_pos rfl
  have i1 : into 1 = 3 / 4 := if_neg (by decide)
  have e : (res_main_v254 V0 (ix4 j c p p') : EReal)
      = Ideal.div (Ideal.hostReduceAdd reducesTo_S256x14x2x14x2x256_S256x14x14x256_d2_4 (placed V0) (Ideal.ofBits .f32 0x00000000#32) (ix4 j p p' c))
          (Ideal.ofBits .f32 0x40800000#32) := by
    unfold res_main_v254 placed; clean_types; pointwise
  rw [e, sum_places, placed_at V0 j p 0 p' 0 c hb, placed_at V0 j p 0 p' 1 c hb, placed_at V0 j p 1 p' 0 c hb, placed_at V0 j p 1 p' 1 c hb,
    v42_at, v42_at, v86_at, v86_at, i0, i1, c_four, Ideal.ofBits_zero_f32, zero_add]
  rfl
end

/-! ## The two masked copies -/

theorem v365_at (j : Fin 256) (n : Fin 2) (c : Fin 256) (p p' : Fin 14) :
    (res_main_v365 V0 (ix4 j (⟨n.val * 256 + c.val, by omega⟩ : Fin 512) p p') : EReal)
      = @HMul.hMul EReal EReal EReal _ (res_main_v254 V0 (ix4 j c p p'))
          (mask p p' (inUnits (res_main_v5 V0 (ix1 j)) (res_main_v11 V0 (ix1 j)) (rBoxes V0 (ix3 j n 1)))
              (inUnits (res_main_v8 V0 (ix1 j)) (res_main_v14 V0 (ix1 j)) (rBoxes V0 (ix3 j n 2)))
              (inUnits (res_main_v5 V0 (ix1 j)) (res_main_v11 V0 (ix1 j)) (rBoxes V0 (ix3 j n 3)))
              (inUnits (res_main_v8 V0 (ix1 j)) (res_main_v14 V0 (ix1 j)) (rBoxes V0 (ix3 j n 4)))) := by
  unfold inUnits mask maskBit
  rw [← c_fourteen]
  fin_cases n
  · unfold res_main_v365 res_main_v257 res_main_v260 res_main_v261 res_main_v262; clean_types; pointwise
    rfl
  · unfold res_main_v365 res_main_v257 res_main_v260 res_main_v261 res_main_v262; clean_types; pointwise
    rfl

/-- One element of the reference's output, from the boxes and the maps. -/
theorem reference_at (hb : ∀ j, (mapWord V0 j).toNat < 4) (j : Fin 256) (n : Fin 2) (c : Fin 256) (p p' : Fin 14) (xlo ylo xhi yhi : EReal)
    (hxl : min (rBoxes V0 (ix3 j 0 1)) (rBoxes V0 (ix3 j 1 1)) = xlo) (hyl : min (rBoxes V0 (ix3 j 0 2)) (rBoxes V0 (ix3 j 1 2)) = ylo)
    (hxh : max (rBoxes V0 (ix3 j 0 3)) (rBoxes V0 (ix3 j 1 3)) = xhi) (hyh : max (rBoxes V0 (ix3 j 0 4)) (rBoxes V0 (ix3 j 1 4)) = yhi) :
    (res_main_v365 V0 (ix4 j (⟨n.val * 256 + c.val, by omega⟩ : Fin 512) p p') : EReal)
      = pool ylo yhi xlo xhi p p' (fun r k => plane (rMaps V0) (mapWord V0 j).toNat c r k)
          * mask p p' (inUnits xlo xhi (rBoxes V0 (ix3 j n 1))) (inUnits ylo yhi (rBoxes V0 (ix3 j n 2)))
              (inUnits xlo xhi (rBoxes V0 (ix3 j n 3))) (inUnits ylo yhi (rBoxes V0 (ix3 j n 4))) := by
  rw [v365_at, v254_at V0 j p p' c (hb j), v5_at, v8_at, v11_at, v14_at, hxl, hyl, hxh, hyh]

end Cert.Value

end
-- ==== Proof.Value.Element.lean ====
/- One element of the kernel's output, from the caller's boxes and maps: the windows read the maps where the reference does. -/
module

public import proofs.«01_k».proof.Proof.Kernel.Block
public import proofs.«01_k».proof.Proof.Value.Reference

@[expose] public section

set_option maxRecDepth 16384

noncomputable section

namespace Cert.Value

open Cert.Kernel Cert.Kernel.Gen Cert.Kernel.Roi
open Idealize.ShloMosaic

/-! ## Where a window starts -/

section
variable (x0 : Vec Ideal S256x10 .f32) (j : Fin 256) (lo : EReal)

theorem start_map : winOff x0 j 0 = (mapW x0 j).toNat := rfl
theorem start_row (h : min (x0 (cellIx j 2) : EReal) (x0 (cellIx j 7)) = lo) : winOff x0 j 1 = rowFrom lo := by
  have e : rowW x0 j = startWord lo := by
    rw [← h]; unfold startWord; rw [← c_quarter]; rfl
  show (Scalar.minsi 120#32 (Scalar.maxsi 0#32 (Scalar.andi (rowW x0 j) 4294967280#32))).toNat = _
  rw [e]; rfl
theorem start_col (h : min (x0 (cellIx j 1) : EReal) (x0 (cellIx j 6)) = lo) : winOff x0 j 2 = colFrom lo * 256 := by
  have e : colW x0 j = startWord lo := by
    rw [← h]; unfold startWord; rw [← c_quarter]; rfl
  show (Scalar.muli (Scalar.minsi 136#32 (Scalar.maxsi 0#32 (colW x0 j))) 256#32).toNat = _
  rw [e]
  have b : (Scalar.minsi 136#32 (Scalar.maxsi 0#32 (startWord lo))).toNat ≤ 136 := clip_toNat 136#32 _ (by decide)
  unfold colFrom
  generalize Scalar.minsi 136#32 (Scalar.maxsi 0#32 (startWord lo)) = w at b
  show (w * 256#32).toNat = _
  rw [BitVec.toNat_mul]
  show w.toNat * 256 % 2 ^ 32 = _
  exact Nat.mod_eq_of_lt (by omega)
end

variable (m : (ℓ : Loc nD τ sig) → Buf (Elt Ideal) ℓ) (hx : ∀ c, NamesMaps (boxes m c)) (c : Dev nD)

/-- The maps as the host leaves them for the kernel: a row's cells one after another, the channels of a cell together. -/
theorem maps_at (b : Fin 4) (r k : Fin 200) (q : Fin 256) :
    ((V m c main_v3 : FVec Ideal S4x200x51200 .bf16) (ix3 b r (⟨k.val * 256 + q.val, by omega⟩ : Fin 51200)) : EReal) = argMaps m c (ix4 b q r k) := by
  rw [maps_eq]
  refine (shapeCast_apply (s := S4x200x200x256) (t := S4x200x51200) _ _ _ (ix4 b r k q)
    (by rw [Shape.rowMajor_val_four, Shape.rowMajor_val_three]
        show ((b.val * 200 + r.val) * 200 + k.val) * 256 + q.val = (b.val * 200 + r.val) * 51200 + (k.val * 256 + q.val)
        omega)).trans ?_
  pointwise

/-- A window's cell is the map's cell that many rows and columns after the window's start. -/
theorem window_at (j : Fin 256) (xlo ylo : EReal)
    (hxl : min (boxes m c (cellIx j 1) : EReal) (boxes m c (cellIx j 6)) = xlo) (hyl : min (boxes m c (cellIx j 2) : EReal) (boxes m c (cellIx j 7)) = ylo)
    (r : Fin 80) (k : Fin 64) (q : Fin 256) :
    (windowOf (boxes m c) (hx c) (maps m c) j (ix2 r (⟨k.val * 256 + q.val, by omega⟩ : Fin 16384)) : EReal)
      = plane (argMaps m c) (mapW (boxes m c) j).toNat q (rowFrom ylo + r) (colFrom xlo + k) := by
  have h0 := hx c j
  have hr : rowFrom ylo ≤ 120 := clip_toNat 120#32 _ (by decide)
  have hc : colFrom xlo ≤ 136 := clip_toNat 136#32 _ (by decide)
  unfold plane
  rw [dif_pos ⟨h0, by omega, by omega⟩, ← maps_at]
  unfold windowOf
  refine congrArg (V m c main_v3 : FVec Ideal S4x200x51200 .bf16) ?_
  funext a
  apply Fin.ext
  match a with
  | ⟨0, _⟩ => rfl
  | ⟨1, _⟩ => exact congrArg (· + r.val) (start_row (boxes m c) j ylo hyl)
  | ⟨2, _⟩ =>
    refine (congrArg (· + (k.val * 256 + q.val)) (start_col (boxes m c) j xlo hxl)).trans ?_
    show colFrom xlo * 256 + (k.val * 256 + q.val) = (colFrom xlo + k.val) * 256 + q.val
    omega

theorem kernel_at (j : Fin 256) (n : Fin 2) (q : Fin 256) (y x : Fin 14) (xlo ylo xhi yhi : EReal)
    (hxl : min (argBoxes m c (ix3 j 0 1) : EReal) (argBoxes m c (ix3 j 1 1)) = xlo) (hyl : min (argBoxes m c (ix3 j 0 2) : EReal) (argBoxes m c (ix3 j 1 2)) = ylo)
    (hxh : max (argBoxes m c (ix3 j 0 3) : EReal) (argBoxes m c (ix3 j 1 3)) = xhi) (hyh : max (argBoxes m c (ix3 j 0 4) : EReal) (argBoxes m c (ix3 j 1 4)) = yhi)
    (hw : xhi - xlo ≤ ((252 : ℝ) : EReal)) (hh : yhi - ylo ≤ ((252 : ℝ) : EReal)) :
    (outVal (boxes m c) (hx c) (maps m c) (ix4 j y x (⟨n.val * 256 + q.val, by omega⟩ : Fin 512)) : EReal)
      = pool ylo yhi xlo xhi y x (fun r k => plane (argMaps m c) (mapW (boxes m c) j).toNat q r k)
          * mask y x (inUnits xlo xhi (argBoxes m c (ix3 j n 1))) (inUnits ylo yhi (argBoxes m c (ix3 j n 2)))
              (inUnits xlo xhi (argBoxes m c (ix3 j n 3))) (inUnits ylo yhi (argBoxes m c (ix3 j n 4))) := by
  have cells : ∀ (n : Fin 2) (k : Fin 5), (cellsOf (boxes m c) j ⟨n.val * 5 + k.val, by omega⟩ : EReal) = argBoxes m c (ix3 j n k) := fun n k => boxes_cell m c j n k
  have e : ∀ (n' : ℕ) (q' : Fin 256), n' = n.val → q' = q → (half (cellsOf (boxes m c) j) (windowOf (boxes m c) (hx c) (maps m c) j) n' (ix4 0 y x q') : EReal)
      = pool ylo yhi xlo xhi y x (fun r k => plane (argMaps m c) (mapW (boxes m c) j).toNat q r k)
          * mask y x (inUnits xlo xhi (argBoxes m c (ix3 j n 1))) (inUnits ylo yhi (argBoxes m c (ix3 j n 2)))
              (inUnits xlo xhi (argBoxes m c (ix3 j n 3))) (inUnits ylo yhi (argBoxes m c (ix3 j n 4))) := by
    intro n' q' hn hq
    rw [hn, hq]
    have a1 := cells 0 1
    have a2 := cells 0 2
    have a3 := cells 0 3
    have a4 := cells 0 4
    have b1 := cells 1 1
    have b2 := cells 1 2
    have b3 := cells 1 3
    have b4 := cells 1 4
    rw [← a1, ← b1] at hxl
    rw [← a2, ← b2] at hyl
    rw [← a3, ← b3] at hxh
    rw [← a4, ← b4] at hyh
    have w := fun (r : Fin 80) (k : Fin 64) => window_at m hx c j xlo ylo hxl hyl r k q
    fin_cases n
    · refine (boxPart_at (cellsOf (boxes m c) j) 1 2 3 4 (windowOf (boxes m c) (hx c) (maps m c) j) xlo ylo xhi yhi hxl hyl hxh hyh hw hh y x q _ w).trans ?_
      show _ = _ * mask y x (inUnits xlo xhi (argBoxes m c (ix3 j 0 1))) (inUnits ylo yhi (argBoxes m c (ix3 j 0 2)))
        (inUnits xlo xhi (argBoxes m c (ix3 j 0 3))) (inUnits ylo yhi (argBoxes m c (ix3 j 0 4)))
      rw [← a1, ← a2, ← a3, ← a4]; rfl
    · refine (boxPart_at (cellsOf (boxes m c) j) 6 7 8 9 (windowOf (boxes m c) (hx c) (maps m c) j) xlo ylo xhi yhi hxl hyl hxh hyh hw hh y x q _ w).trans ?_
      show _ = _ * mask y x (inUnits xlo xhi (argBoxes m c (ix3 j 1 1))) (inUnits ylo yhi (argBoxes m c (ix3 j 1 2)))
        (inUnits xlo xhi (argBoxes m c (ix3 j 1 3))) (inUnits ylo yhi (argBoxes m c (ix3 j 1 4)))
      rw [← b1, ← b2, ← b3, ← b4]; rfl
  exact e _ _ (by show (n.val * 256 + q.val) / 256 = n.val; omega) (Fin.ext (by show (n.val * 256 + q.val) % 256 = q.val; omega))

end Cert.Value

end
-- ==== Proof.Value.Bounds.lean ====
/- What the precondition says of a pair's union box over the extended reals: it is no longer than 252 either way. -/
module

public import proofs.«01_k».proof.Proof.Given
public import proofs.«01_k».proof.Proof.Value.Axes

@[expose] public section

noncomputable section

namespace Cert.Value

open Idealize.ShloMosaic Cert.Pre_boxes_fit

theorem of_one {p : Prop} [Decidable p] (h : 1#1 = BitVec.ofBool (decide p)) : p := by
  by_contra hn
  rw [decide_eq_false hn] at h
  exact absurd h (by decide)

theorem spans_of_fit [Cert.Pre_boxes_fit.Facts] (y : FVec Ideal S4x256x200x200 .f32) (x : S256x2x5.Idx → EReal)
    (h : Cert.Pre_boxes_fit.fn (F := Ideal) y x = fun _ => 1#1) (j : Fin 256) :
    max (x (ix3 j 0 3)) (x (ix3 j 1 3)) - min (x (ix3 j 0 1)) (x (ix3 j 1 1)) ≤ ((252 : ℝ) : EReal)
      ∧ max (x (ix3 j 0 4)) (x (ix3 j 1 4)) - min (x (ix3 j 0 2)) (x (ix3 j 1 2)) ≤ ((252 : ℝ) : EReal) := by
  have e := congrFun h (fun a => a.elim0)
  dsimp only [Cert.Pre_boxes_fit.fn, Cert.Pre_boxes_fit.fn_part1] at e
  have : Subsingleton (Shape.Idx Cert.Pre_boxes_fit.S_) := ⟨fun a b => funext fun q => q.elim0⟩
  have k := Host.reduce_andi_all _ _ _ _ _ e (ix1 j)
  obtain ⟨k, kh⟩ := IntOp.andi_eq_one.1 k
  obtain ⟨k, kw⟩ := IntOp.andi_eq_one.1 k
  rw [← c_span]
  rw [← fold_min_two fun i => x (ix3 j i 1), ← fold_min_two fun i => x (ix3 j i 2), ← fold_max_two fun i => x (ix3 j i 3),
    ← fold_max_two fun i => x (ix3 j i 4), ← c_top, ← c_bot]
  classical
  constructor
  · refine of_one (kw.symm.trans ?_)
    pointwise
  · refine of_one (kh.symm.trans ?_)
    pointwise

end Cert.Value

end
-- ==== Proof.Value.Agree.lean ====
/- The kernel's output and the reference's, over the extended reals, are the same array when the boxes fit. -/
module

public import proofs.«01_k».proof.Proof.Value.Element
public import proofs.«01_k».proof.Proof.Value.Bounds

@[expose] public section

noncomputable section

namespace Cert.Value

open Cert.Kernel Cert.Kernel.Gen Cert.Kernel.Roi
open Idealize.ShloMosaic

/-- From arguments that agree, element by element the two outputs are the same. -/
theorem outputs_agree [Cert.Pre_boxes_fit.Facts] (m : (ℓ : Loc nD τ sig) → Buf (Elt Ideal) ℓ) (hx : ∀ c, NamesMaps (boxes m c)) (c : Dev nD)
    (V0 : Valuation Cert.ReferenceIdeal.τ Cert.ReferenceIdeal.sig (Elt Ideal)) (hX : rMaps V0 = argMaps m c) (hB : rBoxes V0 = argBoxes m c)
    (hfit : Cert.Pre_boxes_fit.fn (F := Ideal) (argMaps m c) (argBoxes m c) = fun _ => 1#1) :
    (Cert.ReferenceIdeal.Value.res_main_v365 V0 : S256x512x14x14.Idx → EReal)
      = transpose S256x512x14x14 [0, 3, 1, 2] (outVal (boxes m c) (hx c) (maps m c)) transposes_S256x14x14x512_S256x512x14x14_0_3_1_2 := by
  have word : ∀ j, mapWord V0 j = mapW (boxes m c) j := fun j => by
    have e : (boxes m c (cellIx j 0) : EReal) = argBoxes m c (ix3 j 0 0) := boxes_cell m c j 0 0
    unfold mapWord mapW
    rw [hB, ← e]; rfl
  have each : ∀ (j : Fin 256) (n : Fin 2) (q : Fin 256) (y x : Fin 14),
      (Cert.ReferenceIdeal.Value.res_main_v365 V0 : S256x512x14x14.Idx → EReal) (ValueIdx.ix4 j ⟨n.val * 256 + q.val, by omega⟩ y x)
        = transpose S256x512x14x14 [0, 3, 1, 2] (outVal (boxes m c) (hx c) (maps m c)) transposes_S256x14x14x512_S256x512x14x14_0_3_1_2
          (ValueIdx.ix4 j ⟨n.val * 256 + q.val, by omega⟩ y x) := by
    intro j n q y x
    obtain ⟨hw, hh⟩ := spans_of_fit _ _ hfit j
    have k := kernel_at m hx c j n q y x _ _ _ _ rfl rfl rfl rfl hw hh
    have r := reference_at V0 (fun j => by rw [word]; exact hx c j) j n q y x _ _ _ _ rfl rfl rfl rfl
    rw [hB, hX, word, ← k] at r
    refine r.trans ?_
    pointwise
  funext i
  have hq : (i 1).val < 512 := (i 1).isLt
  have split : (i 1 : Fin 512) = ⟨(i 1).val / 256 * 256 + (i 1).val % 256, by omega⟩ := Fin.ext (Nat.div_add_mod' _ _).symm
  rw [ValueIdx.eq_ix4 i, split]
  exact each (i 0) ⟨(i 1).val / 256, by omega⟩ ⟨(i 1).val % 256, Nat.mod_lt _ (by decide)⟩ (i 2) (i 3)

end Cert.Value

end
-- ==== Proof.lean ====
/- The certificate: every claim of `Cert.Claim`, from the frame of the kernel at any number format, and the reference's run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Given
public import proofs.«01_k».proof.Proof.Kernel.Entry
public import proofs.«01_k».proof.Proof.Value.Agree
public import Idealize.ShloMosaic.Lib.Quiescent

@[expose] public section

noncomputable section

namespace Cert.Proof

open Idealize.ShloMosaic Idealize.SL.Sem

/-- The kernel's frame at the machine's floats. -/
theorem kernel_frame [Cert.Pre_maps_named.Facts] : Cert.quiescent_Kernel (hKernel := Cert.Kernel.Gen.facts) :=
  fun m g h => Cert.Kernel.Roi.frame_of_names m g (Cert.Kernel.Roi.names_of_maps m fun c j =>
    (congrArg BitVec.toNat (Cert.Given.scalar_trunc_bits _)).trans_lt (Cert.Given.maps_of_named _ _ (h c) j))

/-- The kernel's frame over the extended reals: its text is the kernel's own. -/
theorem ideal_frame [Cert.Pre_maps_named.Facts] : Cert.quiescent_KernelIdeal (hKernelIdeal := Cert.KernelIdeal.Gen.facts) :=
  fun m g h => Cert.Same.run_same m g _ (Cert.Kernel.Roi.frame_of_names m g (Cert.Kernel.Roi.names_of_maps m fun c j =>
    (congrArg BitVec.toNat (Cert.Given.scalar_trunc_ideal _)).trans_lt (Cert.Given.maps_of_named _ _ (h c) j)))

/-- Boxes that fit name maps, over the extended reals. -/
theorem names_of_fit [Cert.Pre_boxes_fit.Facts] (m : (ℓ : Loc Cert.Kernel.nD Cert.Kernel.τ Cert.Kernel.sig) → Buf (Elt Ideal) ℓ)
    (h : ∀ c, Cert.Pre_boxes_fit.fn (F := Ideal) (Cert.Kernel.Roi.argMaps m c) (Cert.Kernel.Roi.argBoxes m c) = fun _ => 1#1) :
    ∀ c, Cert.Kernel.Roi.NamesMaps (Cert.Kernel.Roi.boxes m c) :=
  Cert.Kernel.Roi.names_of_maps m fun c j =>
    (congrArg BitVec.toNat (Cert.Given.scalar_trunc_ideal _)).trans_lt (Cert.Given.maps_of_fit _ _ (h c) j)

/-- The idealized kernel's frame, of boxes that fit. -/
theorem ideal_frame_fit [Cert.Pre_boxes_fit.Facts] : Cert.quiescent_KernelIdeal_pre_boxes_fit (hKernelIdeal := Cert.KernelIdeal.Gen.facts) :=
  fun m g h => Cert.Same.run_same m g _ (Cert.Kernel.Roi.frame_of_names m g (names_of_fit m h))

/-- The reference's frame: a program of host lines, run from first to last; it has no semaphore. -/
theorem reference_frame : Cert.quiescent_ReferenceIdeal (hReferenceIdeal := Cert.ReferenceIdeal.Gen.facts) :=
  fun m g _ => (θ_run _ _ _).mono (fun r h => ⟨fun c => ⟨(h c).2.1, (h c).2.2⟩, Idealize.ShloMosaic.sem_eq_zero_of_no_sems (by decide) r.2⟩) (Cert.ReferenceIdeal.Value.run m g)

/-- The reference's frame, of boxes that fit: what holds of all boxes. -/
theorem reference_frame_fit [Cert.Pre_boxes_fit.Facts] : Cert.quiescent_ReferenceIdeal_pre_boxes_fit (hReferenceIdeal := Cert.ReferenceIdeal.Gen.facts) :=
  fun m g _ => reference_frame m g trivial

/-- The value claim: the kernel and the reference end with the same array, the one that the kernel's blocks make up. -/
theorem value [Cert.Pre_boxes_fit.Facts] : Cert.algebraic_KernelIdeal_ReferenceIdeal_pre_boxes_fit
    (hKernelIdeal := Cert.KernelIdeal.Gen.facts) (hReferenceIdeal := Cert.ReferenceIdeal.Gen.facts) :=
  fun m g m' g' h hm =>
    have hx := names_of_fit m h
    ⟨_, Cert.Same.run_same m g _ ((θ_run _ _ _).mono (fun r h c => ⟨h.1 c, (h.2.1 c).1, (h.2.1 c).2⟩)
        (θ_run_and (Cert.Kernel.Roi.run_value m hx g) (Cert.Kernel.Roi.frame_of_names m g hx))),
      (θ_run _ _ _).mono (fun r k c => ⟨(k c).1.trans (Cert.Value.outputs_agree m hx c _ (hm c).1 (hm c).2 (h c)), (k c).2⟩)
        (Cert.ReferenceIdeal.Value.run m' g')⟩

theorem claim : Cert.Claim :=
  ⟨Cert.Kernel.Gen.facts, Cert.KernelIdeal.Gen.facts, Cert.ReferenceIdeal.Gen.facts, Cert.Given.mapsFacts, Cert.Given.fitFacts,
    @kernel_frame Cert.Given.mapsFacts, @ideal_frame Cert.Given.mapsFacts, @ideal_frame_fit Cert.Given.fitFacts, reference_frame,
    @reference_frame_fit Cert.Given.fitFacts, trivial, @value Cert.Given.fitFacts⟩

end Cert.Proof

end
